-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S96x2x1792 Cert.KernelIdeal.S96x1x1792
  ∧ IdealRules.bf16_pair.HalfStatement Cert.KernelIdeal.S8x1792
  ∧ IdealRules.bf16_pair.Statement Cert.KernelIdeal.S8x2x1792 Cert.KernelIdeal.S8x1x1792
  ∧ IdealRules.bf16_pair.Statement Cert.KernelIdeal.S1x2x256 Cert.KernelIdeal.S1x1x256
  ∧ IdealRules.bf16_pair.Statement Cert.KernelIdeal.S2x256 Cert.KernelIdeal.S1x256
  ∧ IdealRules.named_const.Statement Cert.KernelIdeal.κ "lora_scale" .f32 0x3ECCCCCD#32 ((2 / 5 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S56x1792x768 : Shape := ⟨3, ![56, 1792, 768]⟩
abbrev S56x1792x12 : Shape := ⟨3, ![56, 1792, 12]⟩
abbrev S56x40x1536 : Shape := ⟨3, ![56, 40, 1536]⟩
abbrev S56x1792x40 : Shape := ⟨3, ![56, 1792, 40]⟩
abbrev S12x56x1792 : Shape := ⟨3, ![12, 56, 1792]⟩
abbrev S56x40x1792 : Shape := ⟨3, ![56, 40, 1792]⟩
abbrev S1x1792x768 : Shape := ⟨3, ![1, 1792, 768]⟩
abbrev S12x8x1792 : Shape := ⟨3, ![12, 8, 1792]⟩
abbrev S1x40x1536 : Shape := ⟨3, ![1, 40, 1536]⟩
abbrev S1x40x1792 : Shape := ⟨3, ![1, 40, 1792]⟩
abbrev S1536x1792 : Shape := ⟨2, ![1536, 1792]⟩
abbrev S192x128 : Shape := ⟨2, ![192, 128]⟩
abbrev S1536x128 : Shape := ⟨2, ![1536, 128]⟩
abbrev S128x1536 : Shape := ⟨2, ![128, 1536]⟩
abbrev S64x1792 : Shape := ⟨2, ![64, 1792]⟩
abbrev S96x1792 : Shape := ⟨2, ![96, 1792]⟩
abbrev S2x96x128 : Shape := ⟨3, ![2, 96, 128]⟩
abbrev S12x1792 : Shape := ⟨2, ![12, 1792]⟩
abbrev S14x96x128 : Shape := ⟨3, ![14, 96, 128]⟩
abbrev S1x8x1792 : Shape := ⟨3, ![1, 8, 1792]⟩
abbrev S8x1792 : Shape := ⟨2, ![8, 1792]⟩
abbrev S40x1792 : Shape := ⟨2, ![40, 1792]⟩
abbrev S40x1536 : Shape := ⟨2, ![40, 1536]⟩
abbrev S64x256 : Shape := ⟨2, ![64, 256]⟩
abbrev S1x256 : Shape := ⟨2, ![1, 256]⟩
abbrev S32x2x256 : Shape := ⟨3, ![32, 2, 256]⟩
abbrev S32x1x256 : Shape := ⟨3, ![32, 1, 256]⟩
abbrev S32x256 : Shape := ⟨2, ![32, 256]⟩
abbrev S768x256 : Shape := ⟨2, ![768, 256]⟩
abbrev S256x768 : Shape := ⟨2, ![256, 768]⟩
abbrev S1x256x768 : Shape := ⟨3, ![1, 256, 768]⟩
abbrev S768x1x256 : Shape := ⟨3, ![768, 1, 256]⟩
abbrev S768x2x256 : Shape := ⟨3, ![768, 2, 256]⟩
abbrev S1536x256 : Shape := ⟨2, ![1536, 256]⟩
abbrev S2x256 : Shape := ⟨2, ![2, 256]⟩
abbrev S256x256 : Shape := ⟨2, ![256, 256]⟩
abbrev S192x256 : Shape := ⟨2, ![192, 256]⟩
abbrev S384x256 : Shape := ⟨2, ![384, 256]⟩
abbrev S8x256 : Shape := ⟨2, ![8, 256]⟩
abbrev S8x128 : Shape := ⟨2, ![8, 128]⟩
abbrev S1x8x128 : Shape := ⟨3, ![1, 8, 128]⟩
abbrev S1x4x128 : Shape := ⟨3, ![1, 4, 128]⟩
abbrev S4x128 : Shape := ⟨2, ![4, 128]⟩
abbrev S1x96x128 : Shape := ⟨3, ![1, 96, 128]⟩
abbrev S96x128 : Shape := ⟨2, ![96, 128]⟩
abbrev S12x8x128 : Shape := ⟨3, ![12, 8, 128]⟩

abbrev nBuf : Space → Nat
  | .hbm => 8
  | .vmem => 21
  | .smem => 0
  | _ => 0

abbrev bufTy : (tb : Table) → Fin (tcTables nBuf tb) → BufTy
  | .hbm, ⟨0, _⟩ => ⟨S56x1792x768, .i8⟩
  | .hbm, ⟨1, _⟩ => ⟨S56x1792x12, .bf16⟩
  | .hbm, ⟨2, _⟩ => ⟨S56x40x1536, .bf16⟩
  | .hbm, ⟨3, _⟩ => ⟨S56x1792x40, .bf16⟩
  | .hbm, ⟨4, _⟩ => ⟨S12x56x1792, .bf16⟩
  | .hbm, ⟨5, _⟩ => ⟨S56x40x1792, .bf16⟩
  | .hbm, ⟨6, _⟩ => ⟨S56x1792x768, .i8⟩
  | .hbm, ⟨7, _⟩ => ⟨S12x56x1792, .bf16⟩
  | .local _ .vmem, ⟨0, _⟩ => ⟨S1x1792x768, .i8⟩
  | .local _ .vmem, ⟨1, _⟩ => ⟨S1x1792x768, .i8⟩
  | .local _ .vmem, ⟨2, _⟩ => ⟨S12x8x1792, .bf16⟩
  | .local _ .vmem, ⟨3, _⟩ => ⟨S12x8x1792, .bf16⟩
  | .local _ .vmem, ⟨4, _⟩ => ⟨S1x40x1536, .bf16⟩
  | .local _ .vmem, ⟨5, _⟩ => ⟨S1x40x1536, .bf16⟩
  | .local _ .vmem, ⟨6, _⟩ => ⟨S1x40x1792, .bf16⟩
  | .local _ .vmem, ⟨7, _⟩ => ⟨S1x40x1792, .bf16⟩
  | .local _ .vmem, ⟨8, _⟩ => ⟨S1x1792x768, .i8⟩
  | .local _ .vmem, ⟨9, _⟩ => ⟨S1x1792x768, .i8⟩
  | .local _ .vmem, ⟨10, _⟩ => ⟨S12x8x1792, .bf16⟩
  | .local _ .vmem, ⟨11, _⟩ => ⟨S12x8x1792, .bf16⟩
  | .local _ .vmem, ⟨12, _⟩ => ⟨S1536x1792, .f32⟩
  | .local _ .vmem, ⟨13, _⟩ => ⟨S192x128, .bf16⟩
  | .local _ .vmem, ⟨14, _⟩ => ⟨S1536x128, .bf16⟩
  | .local _ .vmem, ⟨15, _⟩ => ⟨S128x1536, .bf16⟩
  | .local _ .vmem, ⟨16, _⟩ => ⟨S64x1792, .bf16⟩
  | .local _ .vmem, ⟨17, _⟩ => ⟨S96x1792, .i32⟩
  | .local _ .vmem, ⟨18, _⟩ => ⟨S2x96x128, .f32⟩
  | .local _ .vmem, ⟨19, _⟩ => ⟨S12x1792, .f32⟩
  | .local _ .vmem, ⟨20, _⟩ => ⟨S14x96x128, .f32⟩
  | _, _ => ⟨S56x1792x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![57], ![false]⟩

def k0_off1 (i : grid0.Coords) (c0_i32_219 : BitVec 32) : Fin 2 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v715 : BitVec 32 := Scalar.addi c0_i32_219 v1
  let v716 : Index := Scalar.indexCast v715
  let c0_220 : Index := 0#32
  ![v716.toNat, 0]
def k0_off2 (i : grid0.Coords) : Fin 3 → Nat :=
  let c0_409 : Index := 0#32
  let c0_i32_408 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v1721 : BitVec 32 := Scalar.addi c0_i32_408 v1
  let v1722 : Index := Scalar.indexCast v1721
  let c0_410 : Index := 0#32
  ![0, v1722.toNat, 0]
def k0_off3 (i : grid0.Coords) : Fin 3 → Nat :=
  let c0_436 : Index := 0#32
  let c64_i32_435 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v1764 : BitVec 32 := Scalar.addi c64_i32_435 v1
  let v1765 : Index := Scalar.indexCast v1764
  let c0_437 : Index := 0#32
  ![0, v1765.toNat, 0]
def k0_off4 (i : grid0.Coords) : Fin 3 → Nat :=
  let c1_470 : Index := 1#32
  let c0_i32_469 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v1807 : BitVec 32 := Scalar.addi c0_i32_469 v1
  let v1808 : Index := Scalar.indexCast v1807
  let c0_471 : Index := 0#32
  ![1, v1808.toNat, 0]
def k0_off5 (i : grid0.Coords) : Fin 3 → Nat :=
  let c1_504 : Index := 1#32
  let c64_i32_503 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v1850 : BitVec 32 := Scalar.addi c64_i32_503 v1
  let v1851 : Index := Scalar.indexCast v1850
  let c0_505 : Index := 0#32
  ![1, v1851.toNat, 0]
def k0_off6 (i : grid0.Coords) (c0_i32_732 : BitVec 32) : Fin 2 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v2498 : BitVec 32 := Scalar.addi c0_i32_732 v1
  let v2499 : Index := Scalar.indexCast v2498
  let c256_733 : Index := 256#32
  ![v2499.toNat, 256]
def k0_off7 (i : grid0.Coords) : Fin 3 → Nat :=
  let c2_940 : Index := 2#32
  let c0_i32_939 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v3504 : BitVec 32 := Scalar.addi c0_i32_939 v1
  let v3505 : Index := Scalar.indexCast v3504
  let c0_941 : Index := 0#32
  ![2, v3505.toNat, 0]
def k0_off8 (i : grid0.Coords) : Fin 3 → Nat :=
  let c2_974 : Index := 2#32
  let c64_i32_973 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v3547 : BitVec 32 := Scalar.addi c64_i32_973 v1
  let v3548 : Index := Scalar.indexCast v3547
  let c0_975 : Index := 0#32
  ![2, v3548.toNat, 0]
def k0_off9 (i : grid0.Coords) : Fin 3 → Nat :=
  let c3_1008 : Index := 3#32
  let c0_i32_1007 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v3590 : BitVec 32 := Scalar.addi c0_i32_1007 v1
  let v3591 : Index := Scalar.indexCast v3590
  let c0_1009 : Index := 0#32
  ![3, v3591.toNat, 0]
def k0_off10 (i : grid0.Coords) : Fin 3 → Nat :=
  let c3_1042 : Index := 3#32
  let c64_i32_1041 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v3633 : BitVec 32 := Scalar.addi c64_i32_1041 v1
  let v3634 : Index := Scalar.indexCast v3633
  let c0_1043 : Index := 0#32
  ![3, v3634.toNat, 0]
def k0_off11 (i : grid0.Coords) (c0_i32_1270 : BitVec 32) : Fin 2 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v4281 : BitVec 32 := Scalar.addi c0_i32_1270 v1
  let v4282 : Index := Scalar.indexCast v4281
  let c512_1271 : Index := 512#32
  ![v4282.toNat, 512]
def k0_off12 (i : grid0.Coords) : Fin 3 → Nat :=
  let c4_1478 : Index := 4#32
  let c0_i32_1477 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v5287 : BitVec 32 := Scalar.addi c0_i32_1477 v1
  let v5288 : Index := Scalar.indexCast v5287
  let c0_1479 : Index := 0#32
  ![4, v5288.toNat, 0]
def k0_off13 (i : grid0.Coords) : Fin 3 → Nat :=
  let c4_1512 : Index := 4#32
  let c64_i32_1511 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v5330 : BitVec 32 := Scalar.addi c64_i32_1511 v1
  let v5331 : Index := Scalar.indexCast v5330
  let c0_1513 : Index := 0#32
  ![4, v5331.toNat, 0]
def k0_off14 (i : grid0.Coords) : Fin 3 → Nat :=
  let c5_1546 : Index := 5#32
  let c0_i32_1545 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v5373 : BitVec 32 := Scalar.addi c0_i32_1545 v1
  let v5374 : Index := Scalar.indexCast v5373
  let c0_1547 : Index := 0#32
  ![5, v5374.toNat, 0]
def k0_off15 (i : grid0.Coords) : Fin 3 → Nat :=
  let c5_1580 : Index := 5#32
  let c64_i32_1579 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v5416 : BitVec 32 := Scalar.addi c64_i32_1579 v1
  let v5417 : Index := Scalar.indexCast v5416
  let c0_1581 : Index := 0#32
  ![5, v5417.toNat, 0]
def k0_off16 (i : grid0.Coords) (c0_i32_1808 : BitVec 32) : Fin 2 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v6064 : BitVec 32 := Scalar.addi c0_i32_1808 v1
  let v6065 : Index := Scalar.indexCast v6064
  let c768_1809 : Index := 768#32
  ![v6065.toNat, 768]
def k0_off17 (i : grid0.Coords) : Fin 3 → Nat :=
  let c6_2016 : Index := 6#32
  let c0_i32_2015 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7070 : BitVec 32 := Scalar.addi c0_i32_2015 v1
  let v7071 : Index := Scalar.indexCast v7070
  let c0_2017 : Index := 0#32
  ![6, v7071.toNat, 0]
def k0_off18 (i : grid0.Coords) : Fin 3 → Nat :=
  let c6_2050 : Index := 6#32
  let c64_i32_2049 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7113 : BitVec 32 := Scalar.addi c64_i32_2049 v1
  let v7114 : Index := Scalar.indexCast v7113
  let c0_2051 : Index := 0#32
  ![6, v7114.toNat, 0]
def k0_off19 (i : grid0.Coords) : Fin 3 → Nat :=
  let c7_2084 : Index := 7#32
  let c0_i32_2083 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7156 : BitVec 32 := Scalar.addi c0_i32_2083 v1
  let v7157 : Index := Scalar.indexCast v7156
  let c0_2085 : Index := 0#32
  ![7, v7157.toNat, 0]
def k0_off20 (i : grid0.Coords) : Fin 3 → Nat :=
  let c7_2118 : Index := 7#32
  let c64_i32_2117 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7199 : BitVec 32 := Scalar.addi c64_i32_2117 v1
  let v7200 : Index := Scalar.indexCast v7199
  let c0_2119 : Index := 0#32
  ![7, v7200.toNat, 0]
def k0_off21 (i : grid0.Coords) (c0_i32_2346 : BitVec 32) : Fin 2 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7847 : BitVec 32 := Scalar.addi c0_i32_2346 v1
  let v7848 : Index := Scalar.indexCast v7847
  let c1024_2347 : Index := 1024#32
  ![v7848.toNat, 1024]
def k0_off22 (i : grid0.Coords) : Fin 3 → Nat :=
  let c8_2554 : Index := 8#32
  let c0_i32_2553 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v8853 : BitVec 32 := Scalar.addi c0_i32_2553 v1
  let v8854 : Index := Scalar.indexCast v8853
  let c0_2555 : Index := 0#32
  ![8, v8854.toNat, 0]
def k0_off23 (i : grid0.Coords) : Fin 3 → Nat :=
  let c8_2588 : Index := 8#32
  let c64_i32_2587 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v8896 : BitVec 32 := Scalar.addi c64_i32_2587 v1
  let v8897 : Index := Scalar.indexCast v8896
  let c0_2589 : Index := 0#32
  ![8, v8897.toNat, 0]
def k0_off24 (i : grid0.Coords) : Fin 3 → Nat :=
  let c9_2622 : Index := 9#32
  let c0_i32_2621 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v8939 : BitVec 32 := Scalar.addi c0_i32_2621 v1
  let v8940 : Index := Scalar.indexCast v8939
  let c0_2623 : Index := 0#32
  ![9, v8940.toNat, 0]
def k0_off25 (i : grid0.Coords) : Fin 3 → Nat :=
  let c9_2656 : Index := 9#32
  let c64_i32_2655 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v8982 : BitVec 32 := Scalar.addi c64_i32_2655 v1
  let v8983 : Index := Scalar.indexCast v8982
  let c0_2657 : Index := 0#32
  ![9, v8983.toNat, 0]
def k0_off26 (i : grid0.Coords) (c0_i32_2884 : BitVec 32) : Fin 2 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v9630 : BitVec 32 := Scalar.addi c0_i32_2884 v1
  let v9631 : Index := Scalar.indexCast v9630
  let c1280_2885 : Index := 1280#32
  ![v9631.toNat, 1280]
def k0_off27 (i : grid0.Coords) : Fin 3 → Nat :=
  let c10_3092 : Index := 10#32
  let c0_i32_3091 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v10636 : BitVec 32 := Scalar.addi c0_i32_3091 v1
  let v10637 : Index := Scalar.indexCast v10636
  let c0_3093 : Index := 0#32
  ![10, v10637.toNat, 0]
def k0_off28 (i : grid0.Coords) : Fin 3 → Nat :=
  let c10_3126 : Index := 10#32
  let c64_i32_3125 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v10679 : BitVec 32 := Scalar.addi c64_i32_3125 v1
  let v10680 : Index := Scalar.indexCast v10679
  let c0_3127 : Index := 0#32
  ![10, v10680.toNat, 0]
def k0_off29 (i : grid0.Coords) : Fin 3 → Nat :=
  let c11_3160 : Index := 11#32
  let c0_i32_3159 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v10722 : BitVec 32 := Scalar.addi c0_i32_3159 v1
  let v10723 : Index := Scalar.indexCast v10722
  let c0_3161 : Index := 0#32
  ![11, v10723.toNat, 0]
def k0_off30 (i : grid0.Coords) : Fin 3 → Nat :=
  let c11_3194 : Index := 11#32
  let c64_i32_3193 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v10765 : BitVec 32 := Scalar.addi c64_i32_3193 v1
  let v10766 : Index := Scalar.indexCast v10765
  let c0_3195 : Index := 0#32
  ![11, v10766.toNat, 0]
def k0_off31 (i : grid0.Coords) (c0_i32_3421 : BitVec 32) : Fin 2 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v11413 : BitVec 32 := Scalar.addi c0_i32_3421 v1
  let v11414 : Index := Scalar.indexCast v11413
  let c1536_3422 : Index := 1536#32
  ![v11414.toNat, 1536]
def k0_off32 (i : grid0.Coords) : Fin 3 → Nat :=
  let c12 : Index := 12#32
  let c0_i32_3628 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v12419 : BitVec 32 := Scalar.addi c0_i32_3628 v1
  let v12420 : Index := Scalar.indexCast v12419
  let c0_3629 : Index := 0#32
  ![12, v12420.toNat, 0]
def k0_off33 (i : grid0.Coords) : Fin 3 → Nat :=
  let c12_3662 : Index := 12#32
  let c64_i32_3661 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v12462 : BitVec 32 := Scalar.addi c64_i32_3661 v1
  let v12463 : Index := Scalar.indexCast v12462
  let c0_3663 : Index := 0#32
  ![12, v12463.toNat, 0]
def k0_off34 (i : grid0.Coords) : Fin 3 → Nat :=
  let c13 : Index := 13#32
  let c0_i32_3694 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v12505 : BitVec 32 := Scalar.addi c0_i32_3694 v1
  let v12506 : Index := Scalar.indexCast v12505
  let c0_3695 : Index := 0#32
  ![13, v12506.toNat, 0]
def k0_off35 (i : grid0.Coords) : Fin 3 → Nat :=
  let c13_3728 : Index := 13#32
  let c64_i32_3727 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v12548 : BitVec 32 := Scalar.addi c64_i32_3727 v1
  let v12549 : Index := Scalar.indexCast v12548
  let c0_3729 : Index := 0#32
  ![13, v12549.toNat, 0]
def k0_cond3 (i : grid0.Coords) : BitVec 1 :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let c7_i32_3730 : BitVec 32 := 7#32
  let v12553 : BitVec 1 := Scalar.cmpi .eq v1 c7_i32_3730
  let v12554 : BitVec 32 := Scalar.extui v12553
  let c0_i32_3731 : BitVec 32 := 0#32
  let v12555 : BitVec 1 := Scalar.cmpi .ne v12554 c0_i32_3731
  v12555

def cc0_transform_0 (i : grid0.Coords) : Fin 3 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.divsi v0 c8_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.divsi v0 c8_i32
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x1792x768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x8x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x40x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x40x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1792x768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x8x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S56x1792x768 : Shape := ⟨3, ![56, 1792, 768]⟩
abbrev S56x1792x12 : Shape := ⟨3, ![56, 1792, 12]⟩
abbrev S56x40x1536 : Shape := ⟨3, ![56, 40, 1536]⟩
abbrev S56x1792x40 : Shape := ⟨3, ![56, 1792, 40]⟩
abbrev S12x56x1792 : Shape := ⟨3, ![12, 56, 1792]⟩
abbrev S56x40x1792 : Shape := ⟨3, ![56, 40, 1792]⟩
abbrev S1x1792x768 : Shape := ⟨3, ![1, 1792, 768]⟩
abbrev S12x8x1792 : Shape := ⟨3, ![12, 8, 1792]⟩
abbrev S1x40x1536 : Shape := ⟨3, ![1, 40, 1536]⟩
abbrev S1x40x1792 : Shape := ⟨3, ![1, 40, 1792]⟩
abbrev S1536x1792 : Shape := ⟨2, ![1536, 1792]⟩
abbrev S192x128 : Shape := ⟨2, ![192, 128]⟩
abbrev S1536x128 : Shape := ⟨2, ![1536, 128]⟩
abbrev S128x1536 : Shape := ⟨2, ![128, 1536]⟩
abbrev S64x1792 : Shape := ⟨2, ![64, 1792]⟩
abbrev S96x1792 : Shape := ⟨2, ![96, 1792]⟩
abbrev S96x2x1792 : Shape := ⟨3, ![96, 2, 1792]⟩
abbrev S96x1x1792 : Shape := ⟨3, ![96, 1, 1792]⟩
abbrev S2x96x128 : Shape := ⟨3, ![2, 96, 128]⟩
abbrev S12x1792 : Shape := ⟨2, ![12, 1792]⟩
abbrev S14x96x128 : Shape := ⟨3, ![14, 96, 128]⟩
abbrev S1x8x1792 : Shape := ⟨3, ![1, 8, 1792]⟩
abbrev S8x1792 : Shape := ⟨2, ![8, 1792]⟩
abbrev S8x2x1792 : Shape := ⟨3, ![8, 2, 1792]⟩
abbrev S8x1x1792 : Shape := ⟨3, ![8, 1, 1792]⟩
abbrev S40x1792 : Shape := ⟨2, ![40, 1792]⟩
abbrev S40x1536 : Shape := ⟨2, ![40, 1536]⟩
abbrev S64x256 : Shape := ⟨2, ![64, 256]⟩
abbrev S1x256 : Shape := ⟨2, ![1, 256]⟩
abbrev S32x2x256 : Shape := ⟨3, ![32, 2, 256]⟩
abbrev S32x1x256 : Shape := ⟨3, ![32, 1, 256]⟩
abbrev S32x256 : Shape := ⟨2, ![32, 256]⟩
abbrev S768x256 : Shape := ⟨2, ![768, 256]⟩
abbrev S256x768 : Shape := ⟨2, ![256, 768]⟩
abbrev S1x256x768 : Shape := ⟨3, ![1, 256, 768]⟩
abbrev S768x1x256 : Shape := ⟨3, ![768, 1, 256]⟩
abbrev S768x2x256 : Shape := ⟨3, ![768, 2, 256]⟩
abbrev S1536x256 : Shape := ⟨2, ![1536, 256]⟩
abbrev S1x2x256 : Shape := ⟨3, ![1, 2, 256]⟩
abbrev S1x1x256 : Shape := ⟨3, ![1, 1, 256]⟩
abbrev S2x256 : Shape := ⟨2, ![2, 256]⟩
abbrev S256x256 : Shape := ⟨2, ![256, 256]⟩
abbrev S192x256 : Shape := ⟨2, ![192, 256]⟩
abbrev S384x256 : Shape := ⟨2, ![384, 256]⟩
abbrev S8x256 : Shape := ⟨2, ![8, 256]⟩
abbrev S8x128 : Shape := ⟨2, ![8, 128]⟩
abbrev S1x8x128 : Shape := ⟨3, ![1, 8, 128]⟩
abbrev S1x4x128 : Shape := ⟨3, ![1, 4, 128]⟩
abbrev S4x128 : Shape := ⟨2, ![4, 128]⟩
abbrev S1x96x128 : Shape := ⟨3, ![1, 96, 128]⟩
abbrev S96x128 : Shape := ⟨2, ![96, 128]⟩
abbrev S12x8x128 : Shape := ⟨3, ![12, 8, 128]⟩

abbrev nBuf : Space → Nat
  | .hbm => 8
  | .vmem => 21
  | .smem => 0
  | _ => 0

abbrev bufTy : (tb : Table) → Fin (tcTables nBuf tb) → BufTy
  | .hbm, ⟨0, _⟩ => ⟨S56x1792x768, .i8⟩
  | .hbm, ⟨1, _⟩ => ⟨S56x1792x12, .bf16⟩
  | .hbm, ⟨2, _⟩ => ⟨S56x40x1536, .bf16⟩
  | .hbm, ⟨3, _⟩ => ⟨S56x1792x40, .bf16⟩
  | .hbm, ⟨4, _⟩ => ⟨S12x56x1792, .bf16⟩
  | .hbm, ⟨5, _⟩ => ⟨S56x40x1792, .bf16⟩
  | .hbm, ⟨6, _⟩ => ⟨S56x1792x768, .i8⟩
  | .hbm, ⟨7, _⟩ => ⟨S12x56x1792, .bf16⟩
  | .local _ .vmem, ⟨0, _⟩ => ⟨S1x1792x768, .i8⟩
  | .local _ .vmem, ⟨1, _⟩ => ⟨S1x1792x768, .i8⟩
  | .local _ .vmem, ⟨2, _⟩ => ⟨S12x8x1792, .bf16⟩
  | .local _ .vmem, ⟨3, _⟩ => ⟨S12x8x1792, .bf16⟩
  | .local _ .vmem, ⟨4, _⟩ => ⟨S1x40x1536, .bf16⟩
  | .local _ .vmem, ⟨5, _⟩ => ⟨S1x40x1536, .bf16⟩
  | .local _ .vmem, ⟨6, _⟩ => ⟨S1x40x1792, .bf16⟩
  | .local _ .vmem, ⟨7, _⟩ => ⟨S1x40x1792, .bf16⟩
  | .local _ .vmem, ⟨8, _⟩ => ⟨S1x1792x768, .i8⟩
  | .local _ .vmem, ⟨9, _⟩ => ⟨S1x1792x768, .i8⟩
  | .local _ .vmem, ⟨10, _⟩ => ⟨S12x8x1792, .bf16⟩
  | .local _ .vmem, ⟨11, _⟩ => ⟨S12x8x1792, .bf16⟩
  | .local _ .vmem, ⟨12, _⟩ => ⟨S1536x1792, .f32⟩
  | .local _ .vmem, ⟨13, _⟩ => ⟨S192x128, .bf16⟩
  | .local _ .vmem, ⟨14, _⟩ => ⟨S1536x128, .bf16⟩
  | .local _ .vmem, ⟨15, _⟩ => ⟨S128x1536, .bf16⟩
  | .local _ .vmem, ⟨16, _⟩ => ⟨S64x1792, .bf16⟩
  | .local _ .vmem, ⟨17, _⟩ => ⟨S96x2x1792, .bf16⟩
  | .local _ .vmem, ⟨18, _⟩ => ⟨S2x96x128, .f32⟩
  | .local _ .vmem, ⟨19, _⟩ => ⟨S12x1792, .f32⟩
  | .local _ .vmem, ⟨20, _⟩ => ⟨S14x96x128, .f32⟩
  | _, _ => ⟨S56x1792x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F] [Named F]

def κ : String → Option EReal := fun
  | "lora_scale" => some ((2 / 5 : ℝ) : EReal)
  | _ => none

abbrev grid0 : Pipeline.Grid := ⟨1, ![57], ![false]⟩

def k0_off1 (i : grid0.Coords) (c0_i32_219 : BitVec 32) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v715 : BitVec 32 := Scalar.addi c0_i32_219 v1
  let v716 : Index := Scalar.indexCast v715
  let c0_220 : Index := 0#32
  ![v716.toNat, 0, 0]
def k0_off2 (i : grid0.Coords) : Fin 3 → Nat :=
  let c0_409 : Index := 0#32
  let c0_i32_408 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v1721 : BitVec 32 := Scalar.addi c0_i32_408 v1
  let v1722 : Index := Scalar.indexCast v1721
  let c0_410 : Index := 0#32
  ![0, v1722.toNat, 0]
def k0_off3 (i : grid0.Coords) : Fin 3 → Nat :=
  let c0_436 : Index := 0#32
  let c64_i32_435 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v1764 : BitVec 32 := Scalar.addi c64_i32_435 v1
  let v1765 : Index := Scalar.indexCast v1764
  let c0_437 : Index := 0#32
  ![0, v1765.toNat, 0]
def k0_off4 (i : grid0.Coords) : Fin 3 → Nat :=
  let c1_470 : Index := 1#32
  let c0_i32_469 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v1807 : BitVec 32 := Scalar.addi c0_i32_469 v1
  let v1808 : Index := Scalar.indexCast v1807
  let c0_471 : Index := 0#32
  ![1, v1808.toNat, 0]
def k0_off5 (i : grid0.Coords) : Fin 3 → Nat :=
  let c1_504 : Index := 1#32
  let c64_i32_503 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v1850 : BitVec 32 := Scalar.addi c64_i32_503 v1
  let v1851 : Index := Scalar.indexCast v1850
  let c0_505 : Index := 0#32
  ![1, v1851.toNat, 0]
def k0_off6 (i : grid0.Coords) (c0_i32_732 : BitVec 32) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v2498 : BitVec 32 := Scalar.addi c0_i32_732 v1
  let v2499 : Index := Scalar.indexCast v2498
  let c256_733 : Index := 256#32
  ![v2499.toNat, 0, 256]
def k0_off7 (i : grid0.Coords) : Fin 3 → Nat :=
  let c2_940 : Index := 2#32
  let c0_i32_939 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v3504 : BitVec 32 := Scalar.addi c0_i32_939 v1
  let v3505 : Index := Scalar.indexCast v3504
  let c0_941 : Index := 0#32
  ![2, v3505.toNat, 0]
def k0_off8 (i : grid0.Coords) : Fin 3 → Nat :=
  let c2_974 : Index := 2#32
  let c64_i32_973 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v3547 : BitVec 32 := Scalar.addi c64_i32_973 v1
  let v3548 : Index := Scalar.indexCast v3547
  let c0_975 : Index := 0#32
  ![2, v3548.toNat, 0]
def k0_off9 (i : grid0.Coords) : Fin 3 → Nat :=
  let c3_1008 : Index := 3#32
  let c0_i32_1007 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v3590 : BitVec 32 := Scalar.addi c0_i32_1007 v1
  let v3591 : Index := Scalar.indexCast v3590
  let c0_1009 : Index := 0#32
  ![3, v3591.toNat, 0]
def k0_off10 (i : grid0.Coords) : Fin 3 → Nat :=
  let c3_1042 : Index := 3#32
  let c64_i32_1041 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v3633 : BitVec 32 := Scalar.addi c64_i32_1041 v1
  let v3634 : Index := Scalar.indexCast v3633
  let c0_1043 : Index := 0#32
  ![3, v3634.toNat, 0]
def k0_off11 (i : grid0.Coords) (c0_i32_1270 : BitVec 32) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v4281 : BitVec 32 := Scalar.addi c0_i32_1270 v1
  let v4282 : Index := Scalar.indexCast v4281
  let c512_1271 : Index := 512#32
  ![v4282.toNat, 0, 512]
def k0_off12 (i : grid0.Coords) : Fin 3 → Nat :=
  let c4_1478 : Index := 4#32
  let c0_i32_1477 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v5287 : BitVec 32 := Scalar.addi c0_i32_1477 v1
  let v5288 : Index := Scalar.indexCast v5287
  let c0_1479 : Index := 0#32
  ![4, v5288.toNat, 0]
def k0_off13 (i : grid0.Coords) : Fin 3 → Nat :=
  let c4_1512 : Index := 4#32
  let c64_i32_1511 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v5330 : BitVec 32 := Scalar.addi c64_i32_1511 v1
  let v5331 : Index := Scalar.indexCast v5330
  let c0_1513 : Index := 0#32
  ![4, v5331.toNat, 0]
def k0_off14 (i : grid0.Coords) : Fin 3 → Nat :=
  let c5_1546 : Index := 5#32
  let c0_i32_1545 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v5373 : BitVec 32 := Scalar.addi c0_i32_1545 v1
  let v5374 : Index := Scalar.indexCast v5373
  let c0_1547 : Index := 0#32
  ![5, v5374.toNat, 0]
def k0_off15 (i : grid0.Coords) : Fin 3 → Nat :=
  let c5_1580 : Index := 5#32
  let c64_i32_1579 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v5416 : BitVec 32 := Scalar.addi c64_i32_1579 v1
  let v5417 : Index := Scalar.indexCast v5416
  let c0_1581 : Index := 0#32
  ![5, v5417.toNat, 0]
def k0_off16 (i : grid0.Coords) (c0_i32_1808 : BitVec 32) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v6064 : BitVec 32 := Scalar.addi c0_i32_1808 v1
  let v6065 : Index := Scalar.indexCast v6064
  let c768_1809 : Index := 768#32
  ![v6065.toNat, 0, 768]
def k0_off17 (i : grid0.Coords) : Fin 3 → Nat :=
  let c6_2016 : Index := 6#32
  let c0_i32_2015 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7070 : BitVec 32 := Scalar.addi c0_i32_2015 v1
  let v7071 : Index := Scalar.indexCast v7070
  let c0_2017 : Index := 0#32
  ![6, v7071.toNat, 0]
def k0_off18 (i : grid0.Coords) : Fin 3 → Nat :=
  let c6_2050 : Index := 6#32
  let c64_i32_2049 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7113 : BitVec 32 := Scalar.addi c64_i32_2049 v1
  let v7114 : Index := Scalar.indexCast v7113
  let c0_2051 : Index := 0#32
  ![6, v7114.toNat, 0]
def k0_off19 (i : grid0.Coords) : Fin 3 → Nat :=
  let c7_2084 : Index := 7#32
  let c0_i32_2083 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7156 : BitVec 32 := Scalar.addi c0_i32_2083 v1
  let v7157 : Index := Scalar.indexCast v7156
  let c0_2085 : Index := 0#32
  ![7, v7157.toNat, 0]
def k0_off20 (i : grid0.Coords) : Fin 3 → Nat :=
  let c7_2118 : Index := 7#32
  let c64_i32_2117 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7199 : BitVec 32 := Scalar.addi c64_i32_2117 v1
  let v7200 : Index := Scalar.indexCast v7199
  let c0_2119 : Index := 0#32
  ![7, v7200.toNat, 0]
def k0_off21 (i : grid0.Coords) (c0_i32_2346 : BitVec 32) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v7847 : BitVec 32 := Scalar.addi c0_i32_2346 v1
  let v7848 : Index := Scalar.indexCast v7847
  let c1024_2347 : Index := 1024#32
  ![v7848.toNat, 0, 1024]
def k0_off22 (i : grid0.Coords) : Fin 3 → Nat :=
  let c8_2554 : Index := 8#32
  let c0_i32_2553 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v8853 : BitVec 32 := Scalar.addi c0_i32_2553 v1
  let v8854 : Index := Scalar.indexCast v8853
  let c0_2555 : Index := 0#32
  ![8, v8854.toNat, 0]
def k0_off23 (i : grid0.Coords) : Fin 3 → Nat :=
  let c8_2588 : Index := 8#32
  let c64_i32_2587 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v8896 : BitVec 32 := Scalar.addi c64_i32_2587 v1
  let v8897 : Index := Scalar.indexCast v8896
  let c0_2589 : Index := 0#32
  ![8, v8897.toNat, 0]
def k0_off24 (i : grid0.Coords) : Fin 3 → Nat :=
  let c9_2622 : Index := 9#32
  let c0_i32_2621 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v8939 : BitVec 32 := Scalar.addi c0_i32_2621 v1
  let v8940 : Index := Scalar.indexCast v8939
  let c0_2623 : Index := 0#32
  ![9, v8940.toNat, 0]
def k0_off25 (i : grid0.Coords) : Fin 3 → Nat :=
  let c9_2656 : Index := 9#32
  let c64_i32_2655 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v8982 : BitVec 32 := Scalar.addi c64_i32_2655 v1
  let v8983 : Index := Scalar.indexCast v8982
  let c0_2657 : Index := 0#32
  ![9, v8983.toNat, 0]
def k0_off26 (i : grid0.Coords) (c0_i32_2884 : BitVec 32) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v9630 : BitVec 32 := Scalar.addi c0_i32_2884 v1
  let v9631 : Index := Scalar.indexCast v9630
  let c1280_2885 : Index := 1280#32
  ![v9631.toNat, 0, 1280]
def k0_off27 (i : grid0.Coords) : Fin 3 → Nat :=
  let c10_3092 : Index := 10#32
  let c0_i32_3091 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v10636 : BitVec 32 := Scalar.addi c0_i32_3091 v1
  let v10637 : Index := Scalar.indexCast v10636
  let c0_3093 : Index := 0#32
  ![10, v10637.toNat, 0]
def k0_off28 (i : grid0.Coords) : Fin 3 → Nat :=
  let c10_3126 : Index := 10#32
  let c64_i32_3125 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v10679 : BitVec 32 := Scalar.addi c64_i32_3125 v1
  let v10680 : Index := Scalar.indexCast v10679
  let c0_3127 : Index := 0#32
  ![10, v10680.toNat, 0]
def k0_off29 (i : grid0.Coords) : Fin 3 → Nat :=
  let c11_3160 : Index := 11#32
  let c0_i32_3159 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v10722 : BitVec 32 := Scalar.addi c0_i32_3159 v1
  let v10723 : Index := Scalar.indexCast v10722
  let c0_3161 : Index := 0#32
  ![11, v10723.toNat, 0]
def k0_off30 (i : grid0.Coords) : Fin 3 → Nat :=
  let c11_3194 : Index := 11#32
  let c64_i32_3193 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v10765 : BitVec 32 := Scalar.addi c64_i32_3193 v1
  let v10766 : Index := Scalar.indexCast v10765
  let c0_3195 : Index := 0#32
  ![11, v10766.toNat, 0]
def k0_off31 (i : grid0.Coords) (c0_i32_3421 : BitVec 32) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v11413 : BitVec 32 := Scalar.addi c0_i32_3421 v1
  let v11414 : Index := Scalar.indexCast v11413
  let c1536_3422 : Index := 1536#32
  ![v11414.toNat, 0, 1536]
def k0_off32 (i : grid0.Coords) : Fin 3 → Nat :=
  let c12 : Index := 12#32
  let c0_i32_3628 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v12419 : BitVec 32 := Scalar.addi c0_i32_3628 v1
  let v12420 : Index := Scalar.indexCast v12419
  let c0_3629 : Index := 0#32
  ![12, v12420.toNat, 0]
def k0_off33 (i : grid0.Coords) : Fin 3 → Nat :=
  let c12_3662 : Index := 12#32
  let c64_i32_3661 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v12462 : BitVec 32 := Scalar.addi c64_i32_3661 v1
  let v12463 : Index := Scalar.indexCast v12462
  let c0_3663 : Index := 0#32
  ![12, v12463.toNat, 0]
def k0_off34 (i : grid0.Coords) : Fin 3 → Nat :=
  let c13 : Index := 13#32
  let c0_i32_3694 : BitVec 32 := 0#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v12505 : BitVec 32 := Scalar.addi c0_i32_3694 v1
  let v12506 : Index := Scalar.indexCast v12505
  let c0_3695 : Index := 0#32
  ![13, v12506.toNat, 0]
def k0_off35 (i : grid0.Coords) : Fin 3 → Nat :=
  let c13_3728 : Index := 13#32
  let c64_i32_3727 : BitVec 32 := 64#32
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let v12548 : BitVec 32 := Scalar.addi c64_i32_3727 v1
  let v12549 : Index := Scalar.indexCast v12548
  let c0_3729 : Index := 0#32
  ![13, v12549.toNat, 0]
def k0_cond3 (i : grid0.Coords) : BitVec 1 :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let c7_i32_3730 : BitVec 32 := 7#32
  let v12553 : BitVec 1 := Scalar.cmpi .eq v1 c7_i32_3730
  let v12554 : BitVec 32 := Scalar.extui v12553
  let c0_i32_3731 : BitVec 32 := 0#32
  let v12555 : BitVec 1 := Scalar.cmpi .ne v12554 c0_i32_3731
  v12555

def cc0_transform_0 (i : grid0.Coords) : Fin 3 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.divsi v0 c8_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.divsi v0 c8_i32
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x1792x768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x8x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x40x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x40x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1792x768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x8x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S56x1792x768 : Shape := ⟨3, ![56, 1792, 768]⟩
abbrev S56x1792x12 : Shape := ⟨3, ![56, 1792, 12]⟩
abbrev S56x40x1536 : Shape := ⟨3, ![56, 40, 1536]⟩
abbrev S56x1792x40 : Shape := ⟨3, ![56, 1792, 40]⟩
abbrev S_ : Shape := ⟨0, ![]⟩
abbrev S56x1792x12x64 : Shape := ⟨4, ![56, 1792, 12, 64]⟩
abbrev S56x1792x12x1 : Shape := ⟨4, ![56, 1792, 12, 1]⟩
abbrev S56x40x12x64x2 : Shape := ⟨5, ![56, 40, 12, 64, 2]⟩
abbrev S56x40x12x64x1 : Shape := ⟨5, ![56, 40, 12, 64, 1]⟩
abbrev S56x40x12x64 : Shape := ⟨4, ![56, 40, 12, 64]⟩
abbrev S12x56x1792 : Shape := ⟨3, ![12, 56, 1792]⟩

abbrev nBuf : Space → Nat
  | .hbm => 109
  | .vmem => 0
  | .smem => 0
  | _ => 0

abbrev bufTy : (tb : Table) → Fin (tcTables nBuf tb) → BufTy
  | .hbm, ⟨0, _⟩ => ⟨S56x1792x768, .i8⟩
  | .hbm, ⟨1, _⟩ => ⟨S56x1792x12, .bf16⟩
  | .hbm, ⟨2, _⟩ => ⟨S56x40x1536, .bf16⟩
  | .hbm, ⟨3, _⟩ => ⟨S56x1792x40, .bf16⟩
  | .hbm, ⟨4, _⟩ => ⟨S56x1792x768, .i32⟩
  | .hbm, ⟨5, _⟩ => ⟨S_, .i32⟩
  | .hbm, ⟨6, _⟩ => ⟨S56x1792x768, .i32⟩
  | .hbm, ⟨7, _⟩ => ⟨S56x1792x768, .i32⟩
  | .hbm, ⟨8, _⟩ => ⟨S_, .i32⟩
  | .hbm, ⟨9, _⟩ => ⟨S56x1792x768, .i32⟩
  | .hbm, ⟨10, _⟩ => ⟨S56x1792x768, .i1⟩
  | .hbm, ⟨11, _⟩ => ⟨S_, .i32⟩
  | .hbm, ⟨12, _⟩ => ⟨S56x1792x768, .i32⟩
  | .hbm, ⟨13, _⟩ => ⟨S56x1792x768, .i32⟩
  | .hbm, ⟨14, _⟩ => ⟨S56x1792x768, .i32⟩
  | .hbm, ⟨15, _⟩ => ⟨S56x1792x12x64, .i32⟩
  | .hbm, ⟨16, _⟩ => ⟨S_, .i32⟩
  | .hbm, ⟨17, _⟩ => ⟨S56x1792x768, .i32⟩
  | .hbm, ⟨18, _⟩ => ⟨S56x1792x768, .i32⟩
  | .hbm, ⟨19, _⟩ => ⟨S_, .i32⟩
  | .hbm, ⟨20, _⟩ => ⟨S56x1792x768, .i32⟩
  | .hbm, ⟨21, _⟩ => ⟨S56x1792x768, .i1⟩
  | .hbm, ⟨22, _⟩ => ⟨S_, .i32⟩
  | .hbm, ⟨23, _⟩ => ⟨S56x1792x768, .i32⟩
  | .hbm, ⟨24, _⟩ => ⟨S56x1792x768, .i32⟩
  | .hbm, ⟨25, _⟩ => ⟨S56x1792x768, .i32⟩
  | .hbm, ⟨26, _⟩ => ⟨S56x1792x12x64, .i32⟩
  | .hbm, ⟨27, _⟩ => ⟨S56x1792x12x1, .bf16⟩
  | .hbm, ⟨28, _⟩ => ⟨S56x1792x12x64, .bf16⟩
  | .hbm, ⟨29, _⟩ => ⟨S56x1792x12x64, .bf16⟩
  | .hbm, ⟨30, _⟩ => ⟨S56x1792x12x64, .bf16⟩
  | .hbm, ⟨31, _⟩ => ⟨S56x1792x12x64, .bf16⟩
  | .hbm, ⟨32, _⟩ => ⟨S56x1792x12x64, .bf16⟩
  | .hbm, ⟨33, _⟩ => ⟨S56x1792x12x64, .bf16⟩
  | .hbm, ⟨34, _⟩ => ⟨S56x40x12x64x2, .bf16⟩
  | .hbm, ⟨35, _⟩ => ⟨S56x40x12x64x1, .bf16⟩
  | .hbm, ⟨36, _⟩ => ⟨S56x40x12x64, .bf16⟩
  | .hbm, ⟨37, _⟩ => ⟨S56x1792x12x64, .f32⟩
  | .hbm, ⟨38, _⟩ => ⟨S56x40x12x64x1, .bf16⟩
  | .hbm, ⟨39, _⟩ => ⟨S56x40x12x64, .bf16⟩
  | .hbm, ⟨40, _⟩ => ⟨S56x1792x12x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S56x1792x12x64, .f32⟩
  | .hbm, ⟨45, _⟩ => ⟨S56x1792x12x64, .f32⟩
  | .hbm, ⟨46, _⟩ => ⟨S56x1792x12x64, .f32⟩
  | .hbm, ⟨47, _⟩ => ⟨S56x1792x12x64, .f32⟩
  | .hbm, ⟨48, _⟩ => ⟨S56x1792x12x64, .f32⟩
  | .hbm, ⟨49, _⟩ => ⟨S56x1792x12x64, .f32⟩
  | .hbm, ⟨50, _⟩ => ⟨S56x1792x12x64, .f32⟩
  | .hbm, ⟨51, _⟩ => ⟨S56x1792x12x64, .f32⟩
  | .hbm, ⟨52, _⟩ => ⟨S56x1792x12x64, .f32⟩
  | .hbm, ⟨53, _⟩ => ⟨S_, .f32⟩
  | .hbm, ⟨54, _⟩ => ⟨S56x1792x12, .f32⟩
  | .hbm, ⟨55, _⟩ => ⟨S56x1792x12x64, .f32⟩
  | .hbm, ⟨56, _⟩ => ⟨S_, .f32⟩
  | .hbm, ⟨57, _⟩ => ⟨S56x1792x12, .f32⟩
  | .hbm, ⟨58, _⟩ => ⟨S56x1792x12, .f32⟩
  | .hbm, ⟨59, _⟩ => ⟨S_, .f32⟩
  | .hbm, ⟨60, _⟩ => ⟨S56x1792x12, .f32⟩
  | .hbm, ⟨61, _⟩ => ⟨S56x1792x12, .i1⟩
  | .hbm, ⟨62, _⟩ => ⟨S_, .f32⟩
  | .hbm, ⟨63, _⟩ => ⟨S56x1792x12, .f32⟩
  | .hbm, ⟨64, _⟩ => ⟨S56x1792x12, .f32⟩
  | .hbm, ⟨65, _⟩ => ⟨S_, .f32⟩
  | .hbm, ⟨66, _⟩ => ⟨S_, .f32⟩
  | .hbm, ⟨67, _⟩ => ⟨S56x1792x12, .f32⟩
  | .hbm, ⟨68, _⟩ => ⟨S56x1792x12, .f32⟩
  | .hbm, ⟨69, _⟩ => ⟨S56x1792x12, .bf16⟩
  | .hbm, ⟨70, _⟩ => ⟨S56x1792x12, .f32⟩
  | .hbm, ⟨71, _⟩ => ⟨S56x1792x12x1, .f32⟩
  | .hbm, ⟨72, _⟩ => ⟨S56x1792x12x64, .f32⟩
  | .hbm, ⟨73, _⟩ => ⟨S56x1792x12x64, .f32⟩
  | .hbm, ⟨74, _⟩ => ⟨S56x1792x12x64, .f32⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S56x1792x12x64, .f32⟩
  | .hbm, ⟨79, _⟩ => ⟨S56x1792x12x64, .f32⟩
  | .hbm, ⟨80, _⟩ => ⟨S_, .f32⟩
  | .hbm, ⟨81, _⟩ => ⟨S56x1792x12x64, .f32⟩
  | .hbm, ⟨82, _⟩ => ⟨S56x1792x12x64, .f32⟩
  | .hbm, ⟨83, _⟩ => ⟨S56x1792x12x64, .i32⟩
  | .hbm, ⟨84, _⟩ => ⟨S56x1792x12x64, .f32⟩
  | .hbm, ⟨85, _⟩ => ⟨S56x1792x12x64, .f32⟩
  | .hbm, ⟨86, _⟩ => ⟨S56x1792x12x64, .f32⟩
  | .hbm, ⟨87, _⟩ => ⟨S_, .i32⟩
  | .hbm, ⟨88, _⟩ => ⟨S_, .i32⟩
  | .hbm, ⟨89, _⟩ => ⟨S_, .f32⟩
  | .hbm, ⟨90, _⟩ => ⟨S56x1792x12x64, .f32⟩
  | .hbm, ⟨91, _⟩ => ⟨S56x1792x12x64, .f32⟩
  | .hbm, ⟨92, _⟩ => ⟨S_, .f32⟩
  | .hbm, ⟨93, _⟩ => ⟨S56x1792x12x64, .f32⟩
  | .hbm, ⟨94, _⟩ => ⟨S56x1792x12x64, .f32⟩
  | .hbm, ⟨95, _⟩ => ⟨S56x1792x12x64, .i32⟩
  | .hbm, ⟨96, _⟩ => ⟨S_, .i32⟩
  | .hbm, ⟨97, _⟩ => ⟨S56x1792x12x64, .i32⟩
  | .hbm, ⟨98, _⟩ => ⟨S56x1792x12x64, .i32⟩
  | .hbm, ⟨99, _⟩ => ⟨S_, .i32⟩
  | .hbm, ⟨100, _⟩ => ⟨S56x1792x12x64, .i32⟩
  | .hbm, ⟨101, _⟩ => ⟨S56x1792x12x64, .i32⟩
  | .hbm, ⟨102, _⟩ => ⟨S_, .i32⟩
  | .hbm, ⟨103, _⟩ => ⟨S56x1792x12x64, .i32⟩
  | .hbm, ⟨104, _⟩ => ⟨S56x1792x12x64, .i32⟩
  | .hbm, ⟨105, _⟩ => ⟨S56x1792x12x64, .i32⟩
  | .hbm, ⟨106, _⟩ => ⟨S56x1792x12x64, .i8⟩
  | .hbm, ⟨107, _⟩ => ⟨S56x1792x768, .i8⟩
  | .hbm, ⟨108, _⟩ => ⟨S12x56x1792, .bf16⟩
  | _, _ => ⟨S56x1792x768, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_c_12 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_c_14 : Ref sig .tc := ⟨.hbm, 88, rfl⟩
abbrev main_call6_v0 : Ref sig .tc := ⟨.hbm, 89, rfl⟩
abbrev main_call6_v1 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_v61 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_v64 : Ref sig .tc := ⟨.hbm, 98, rfl⟩
abbrev main_c_16 : Ref sig .tc := ⟨.hbm, 99, rfl⟩
abbrev main_v65 : Ref sig .tc := ⟨.hbm, 100, rfl⟩
abbrev main_v66 : Ref sig .tc := ⟨.hbm, 101, rfl⟩
abbrev main_c_17 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== Proof.Bits.Run.lean ====
/-
  One run of the kernel body of `Kernel` at symbolic operands: from the fifteen buffers held whole at any contents it runs to its
  return, the four inputs as they were and every other buffer at some contents.
-/
module

public import proofs.«01_k».proof.Proof.Gen.Kernel.Skeleton
public import proofs.«01_k».proof.Proof.Gen.Kernel.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- A memref's buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's triple, for any continuation. -/
theorem kernelRun (c : Dev nD) (i : grid0.Coords)
    (arg1 : Memref sig .tc .vmem S1x1792x768 .i8) (harg1 : arg1.IsWhole)
    (arg2 : Memref sig .tc .vmem S12x8x1792 .bf16) (harg2 : arg2.IsWhole)
    (arg3 : Memref sig .tc .vmem S1x40x1536 .bf16) (harg3 : arg3.IsWhole)
    (arg4 : Memref sig .tc .vmem S1x40x1792 .bf16) (harg4 : arg4.IsWhole)
    (arg5 : Memref sig .tc .vmem S1x1792x768 .i8) (harg5 : arg5.IsWhole)
    (arg6 : Memref sig .tc .vmem S12x8x1792 .bf16) (harg6 : arg6.IsWhole)
    (arg7 : Memref sig .tc .vmem S1536x1792 .f32) (harg7 : arg7.IsWhole)
    (arg8 : Memref sig .tc .vmem S192x128 .bf16) (harg8 : arg8.IsWhole)
    (arg9 : Memref sig .tc .vmem S1536x128 .bf16) (harg9 : arg9.IsWhole)
    (arg10 : Memref sig .tc .vmem S128x1536 .bf16) (harg10 : arg10.IsWhole)
    (arg11 : Memref sig .tc .vmem S64x1792 .bf16) (harg11 : arg11.IsWhole)
    (arg12 : Memref sig .tc .vmem S96x1792 .i32) (harg12 : arg12.IsWhole)
    (arg13 : Memref sig .tc .vmem S2x96x128 .f32) (harg13 : arg13.IsWhole)
    (arg14 : Memref sig .tc .vmem S12x1792 .f32) (harg14 : arg14.IsWhole)
    (arg15 : Memref sig .tc .vmem S14x96x128 .f32) (harg15 : arg15.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15)
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15
        ∗ (iprop(pt c arg1 f1 ∗ pt c arg2 f2 ∗ pt c arg3 f3 ∗ pt c arg4 f4 ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f)) -∗ Q ⟨⟩))
      ⊢ wp frame (wpE (defs₀ (F := F)) Variants.none c none) Set.univ
          (cc0_lora_merge i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  iintro ⟨H1, H2, H3, H4, H5, H6, H7, H8, H9, H10, H11, H12, H13, H14, H15, Hk⟩
  sl_exec_parts!
  sl_step
  iapply Hk
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

end Cert.Kernel.Hand

end
-- ==== Proof.Bits.Frame.lean ====
/-
  The frame of `Kernel`: the body obligation from the body's run at symbolic operands, the two outputs forgotten, and the launch.
-/
module

public import proofs.«01_k».proof.Proof.Bits.Run

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The outputs are forgotten: the frame reads nothing of what the kernel leaves in them. -/
def forgets0 : Fin 6 → Bool := fun w => match w with | 0 => false | 1 => false | 2 => false | 3 => false | 4 => true | 5 => true

/-- The proof data: each input block left in place, the invariant the class invariant. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

/-- An input's staging buffer held at its block. -/
abbrev inO (c : Dev nD) (t : Fin cfg0.N) (w : Fin cfg0.W) (X : (cfg0.win w).block.Idx → Elt F (cfg0.win w).elt) : sProp 𝕄 :=
  owns (c : Thread nD τ) ((cfg0.win w).stage (cfg0.slots t w)) fullShare X

def bodyPre (c : Dev nD) (t : Fin cfg0.N) : sProp 𝕄 :=
  iprop((dats m 0 c).Φ t.castSucc ∗ (dats m 0 c).owesAt () t.castSucc
    ∗ inO c t 0 (iblk m c 0 t) ∗ inO c t 1 (iblk m c 1 t) ∗ inO c t 2 (iblk m c 2 t) ∗ inO c t 3 (iblk m c 3 t)
    ∗ (∃ d, inO c t 4 d) ∗ (∃ d, inO c t 5 d))
def bodyPost (c : Dev nD) (t : Fin cfg0.N) : sProp 𝕄 :=
  iprop((dats m 0 c).Φ t.succ ∗ (dats m 0 c).owesAt () t.succ
    ∗ inO c t 0 (iblk m c 0 t) ∗ inO c t 1 (iblk m c 1 t) ∗ inO c t 2 (iblk m c 2 t) ∗ inO c t 3 (iblk m c 3 t)
    ∗ (∃ d, inO c t 4 d) ∗ (∃ d, inO c t 5 d))

set_option maxHeartbeats 4000000 in
theorem ownsRun (c : Dev nD) (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (X1 : S1x1792x768.Idx → Elt F .i8) (X2 : S12x8x1792.Idx → Elt F .bf16) (X3 : S1x40x1536.Idx → Elt F .bf16) (X4 : S1x40x1792.Idx → Elt F .bf16) (Q : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)
        ∗ (iprop(owns (c : Thread nD τ) arg1 fullShare X1 ∗ owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) -∗ Q ⟨⟩))
      ⊢ wp frame (wpE (defs₀ (F := F)) Variants.none c none) Set.univ
          (cc0_lora_merge i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)) Q := by
  unfold owns
  simp only [harg1.set_eq_univ, harg2.set_eq_univ, harg3.set_eq_univ, harg4.set_eq_univ, harg5.set_eq_univ, harg6.set_eq_univ]
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, Hk⟩
  iapply (kernelRun c i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) f1 f2 f3 f4 f5 f6 s0 s1 s2 s3 s4 s5 s6 s7 s8 Q)
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H1, H2, H3, H4, ⟨%g5, H5⟩, ⟨%g6, H6⟩, S0, S1, S2, S3, S4, S5, S6, S7, S8⟩
  iapply Hk
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists _, g5; isplitr; swap; · iexact H5
    ipureintro; rfl
  isplitl [H6]
  · iexists _, g6; isplitr; swap; · iexact H6
    ipureintro; rfl
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨S0, S1, S2, S3, S4, S5, S6, S7, S8⟩, Hg⟩, HO, H1, H2, H3, H4, H5, H6⟩
  iapply (ownsRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (iblk m c 0 t) (iblk m c 1 t) (iblk m c 2 t) (iblk m c 3 t) _)
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H1, H2, H3, H4, H5, H6, S0, S1, S2, S3, S4, S5, S6, S7, S8⟩
  isplitl [Hg S0 S1 S2 S3 S4 S5 S6 S7 S8]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [HO]; · iexact HO
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem before_0 (c : Dev nD) (t : Fin cfg0.N) (d) : (dats m 0 c).before 0 t d = iblk m c 0 t := before0_0_of m _ rfl (fun _ => rfl) t d
theorem before_1 (c : Dev nD) (t : Fin cfg0.N) (d) : (dats m 0 c).before 1 t d = iblk m c 1 t := before0_1_of m _ rfl (fun _ => rfl) t d
theorem before_2 (c : Dev nD) (t : Fin cfg0.N) (d) : (dats m 0 c).before 2 t d = iblk m c 2 t := before0_2_of m _ rfl (fun _ => rfl) t d
theorem before_3 (c : Dev nD) (t : Fin cfg0.N) (d) : (dats m 0 c).before 3 t d = iblk m c 3 t := before0_3_of m _ rfl (fun _ => rfl) t d

theorem ex_elim {α : Type} [Nonempty α] {P : sProp 𝕄} {Q : α → sProp 𝕄} (h : ∀ d, Q d = P) : iprop(∃ d, Q d) ⊢ P := by
  iintro ⟨%d, H⟩; rw [← h d]; iexact H

theorem body_obligation (c : Dev nD) :
    BodyObligation (dats (F := F) m 0 c) (defs₀ (F := F)) Variants.none () Set.univ forgets0 := fun t => by
  rw [bigSep_W0, bigSep_W0, defs₀_row]
  refine triple_restated (sound_body m c t) rfl ?_ fun _ => .rfl
  unfold bodyPre
  simp only [forgets0, before_0, before_1, before_2, before_3]
  iintro ⟨HP, HO, ⟨%_, H0⟩, ⟨%_, H1⟩, ⟨%_, H2⟩, ⟨%_, H3⟩, H4, H5⟩
  isplitl [HP]; · iexact HP
  isplitl [HO]; · iexact HO
  isplitl [H0]; · iexact H0
  isplitl [H1]; · iexact H1
  isplitl [H2]; · iexact H2
  isplitl [H3]; · iexact H3
  isplitl [H4]; · iexact H4
  iexact H5

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- Every run ends with the four arguments unchanged and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1).arr_in c 0 rfl).trans ((A_eq m c 0).trans (V_main_arg0 m c)),
      ((h.1 c).2 main_arg1 (Pipeline.mem_restRefs_of main_arg1 (by decide) (by decide))).trans (V_main_arg1 m c),
      ((h.1).arr_in c 2 rfl).trans ((A_eq m c 2).trans (V_main_arg2 m c)),
      ((h.1 c).2 main_arg3 (Pipeline.mem_restRefs_of main_arg3 (by decide) (by decide))).trans (V_main_arg3 m c)⟩, h.2⟩) (run_main m ρ)

end Cert.Kernel.Hand

end
-- ==== Proof.Val.Run.lean ====
/-
  One run of the kernel body of `KernelIdeal` at symbolic operands: from the fifteen buffers held whole at any contents it runs to its
  return, the four inputs as they were and every other buffer at some contents.
-/
module

public import proofs.«01_k».proof.Proof.Gen.KernelIdeal.Skeleton
public import proofs.«01_k».proof.Proof.Gen.KernelIdeal.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A memref's buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's triple, for any continuation. -/
theorem kernelRun (c : Dev nD) (i : grid0.Coords)
    (arg1 : Memref sig .tc .vmem S1x1792x768 .i8) (harg1 : arg1.IsWhole)
    (arg2 : Memref sig .tc .vmem S12x8x1792 .bf16) (harg2 : arg2.IsWhole)
    (arg3 : Memref sig .tc .vmem S1x40x1536 .bf16) (harg3 : arg3.IsWhole)
    (arg4 : Memref sig .tc .vmem S1x40x1792 .bf16) (harg4 : arg4.IsWhole)
    (arg5 : Memref sig .tc .vmem S1x1792x768 .i8) (harg5 : arg5.IsWhole)
    (arg6 : Memref sig .tc .vmem S12x8x1792 .bf16) (harg6 : arg6.IsWhole)
    (arg7 : Memref sig .tc .vmem S1536x1792 .f32) (harg7 : arg7.IsWhole)
    (arg8 : Memref sig .tc .vmem S192x128 .bf16) (harg8 : arg8.IsWhole)
    (arg9 : Memref sig .tc .vmem S1536x128 .bf16) (harg9 : arg9.IsWhole)
    (arg10 : Memref sig .tc .vmem S128x1536 .bf16) (harg10 : arg10.IsWhole)
    (arg11 : Memref sig .tc .vmem S64x1792 .bf16) (harg11 : arg11.IsWhole)
    (arg12 : Memref sig .tc .vmem S96x2x1792 .bf16) (harg12 : arg12.IsWhole)
    (arg13 : Memref sig .tc .vmem S2x96x128 .f32) (harg13 : arg13.IsWhole)
    (arg14 : Memref sig .tc .vmem S12x1792 .f32) (harg14 : arg14.IsWhole)
    (arg15 : Memref sig .tc .vmem S14x96x128 .f32) (harg15 : arg15.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15)
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15
        ∗ (iprop(pt c arg1 f1 ∗ pt c arg2 f2 ∗ pt c arg3 f3 ∗ pt c arg4 f4 ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f)) -∗ Q ⟨⟩))
      ⊢ wp frame (wpE (defs₀ (F := F)) Variants.none c none) Set.univ
          (cc0_lora_merge i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  iintro ⟨H1, H2, H3, H4, H5, H6, H7, H8, H9, H10, H11, H12, H13, H14, H15, Hk⟩
  sl_exec_parts!
  sl_step
  iapply Hk
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

end Cert.KernelIdeal.Hand

end
-- ==== Proof.Val.Frame.lean ====
/-
  The frame of `KernelIdeal`: the body obligation from the body's run at symbolic operands, the two outputs forgotten, and the launch.
-/
module

public import proofs.«01_k».proof.Proof.Val.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The outputs are forgotten: the frame reads nothing of what the kernel leaves in them. -/
def forgets0 : Fin 6 → Bool := fun w => match w with | 0 => false | 1 => false | 2 => false | 3 => false | 4 => true | 5 => true

/-- The proof data: each input block left in place, the invariant the class invariant. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

/-- An input's staging buffer held at its block. -/
abbrev inO (c : Dev nD) (t : Fin cfg0.N) (w : Fin cfg0.W) (X : (cfg0.win w).block.Idx → Elt F (cfg0.win w).elt) : sProp 𝕄 :=
  owns (c : Thread nD τ) ((cfg0.win w).stage (cfg0.slots t w)) fullShare X

def bodyPre (c : Dev nD) (t : Fin cfg0.N) : sProp 𝕄 :=
  iprop((dats m 0 c).Φ t.castSucc ∗ (dats m 0 c).owesAt () t.castSucc
    ∗ inO c t 0 (iblk m c 0 t) ∗ inO c t 1 (iblk m c 1 t) ∗ inO c t 2 (iblk m c 2 t) ∗ inO c t 3 (iblk m c 3 t)
    ∗ (∃ d, inO c t 4 d) ∗ (∃ d, inO c t 5 d))
def bodyPost (c : Dev nD) (t : Fin cfg0.N) : sProp 𝕄 :=
  iprop((dats m 0 c).Φ t.succ ∗ (dats m 0 c).owesAt () t.succ
    ∗ inO c t 0 (iblk m c 0 t) ∗ inO c t 1 (iblk m c 1 t) ∗ inO c t 2 (iblk m c 2 t) ∗ inO c t 3 (iblk m c 3 t)
    ∗ (∃ d, inO c t 4 d) ∗ (∃ d, inO c t 5 d))

set_option maxHeartbeats 4000000 in
theorem ownsRun (c : Dev nD) (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (X1 : S1x1792x768.Idx → Elt F .i8) (X2 : S12x8x1792.Idx → Elt F .bf16) (X3 : S1x40x1536.Idx → Elt F .bf16) (X4 : S1x40x1792.Idx → Elt F .bf16) (Q : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)
        ∗ (iprop(owns (c : Thread nD τ) arg1 fullShare X1 ∗ owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) -∗ Q ⟨⟩))
      ⊢ wp frame (wpE (defs₀ (F := F)) Variants.none c none) Set.univ
          (cc0_lora_merge i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)) Q := by
  unfold owns
  simp only [harg1.set_eq_univ, harg2.set_eq_univ, harg3.set_eq_univ, harg4.set_eq_univ, harg5.set_eq_univ, harg6.set_eq_univ]
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, Hk⟩
  iapply (kernelRun c i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) f1 f2 f3 f4 f5 f6 s0 s1 s2 s3 s4 s5 s6 s7 s8 Q)
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H1, H2, H3, H4, ⟨%g5, H5⟩, ⟨%g6, H6⟩, S0, S1, S2, S3, S4, S5, S6, S7, S8⟩
  iapply Hk
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists _, g5; isplitr; swap; · iexact H5
    ipureintro; rfl
  isplitl [H6]
  · iexists _, g6; isplitr; swap; · iexact H6
    ipureintro; rfl
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨S0, S1, S2, S3, S4, S5, S6, S7, S8⟩, Hg⟩, HO, H1, H2, H3, H4, H5, H6⟩
  iapply (ownsRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (iblk m c 0 t) (iblk m c 1 t) (iblk m c 2 t) (iblk m c 3 t) _)
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H1, H2, H3, H4, H5, H6, S0, S1, S2, S3, S4, S5, S6, S7, S8⟩
  isplitl [Hg S0 S1 S2 S3 S4 S5 S6 S7 S8]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [HO]; · iexact HO
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem before_0 (c : Dev nD) (t : Fin cfg0.N) (d) : (dats m 0 c).before 0 t d = iblk m c 0 t := before0_0_of m _ rfl (fun _ => rfl) t d
theorem before_1 (c : Dev nD) (t : Fin cfg0.N) (d) : (dats m 0 c).before 1 t d = iblk m c 1 t := before0_1_of m _ rfl (fun _ => rfl) t d
theorem before_2 (c : Dev nD) (t : Fin cfg0.N) (d) : (dats m 0 c).before 2 t d = iblk m c 2 t := before0_2_of m _ rfl (fun _ => rfl) t d
theorem before_3 (c : Dev nD) (t : Fin cfg0.N) (d) : (dats m 0 c).before 3 t d = iblk m c 3 t := before0_3_of m _ rfl (fun _ => rfl) t d

theorem ex_elim {α : Type} [Nonempty α] {P : sProp 𝕄} {Q : α → sProp 𝕄} (h : ∀ d, Q d = P) : iprop(∃ d, Q d) ⊢ P := by
  iintro ⟨%d, H⟩; rw [← h d]; iexact H

theorem body_obligation (c : Dev nD) :
    BodyObligation (dats (F := F) m 0 c) (defs₀ (F := F)) Variants.none () Set.univ forgets0 := fun t => by
  rw [bigSep_W0, bigSep_W0, defs₀_row]
  refine triple_restated (sound_body m c t) rfl ?_ fun _ => .rfl
  unfold bodyPre
  simp only [forgets0, before_0, before_1, before_2, before_3]
  iintro ⟨HP, HO, ⟨%_, H0⟩, ⟨%_, H1⟩, ⟨%_, H2⟩, ⟨%_, H3⟩, H4, H5⟩
  isplitl [HP]; · iexact HP
  isplitl [HO]; · iexact HO
  isplitl [H0]; · iexact H0
  isplitl [H1]; · iexact H1
  isplitl [H2]; · iexact H2
  isplitl [H3]; · iexact H3
  isplitl [H4]; · iexact H4
  iexact H5

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- Every run ends with the four arguments unchanged and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1).arr_in c 0 rfl).trans ((A_eq m c 0).trans (V_main_arg0 m c)),
      ((h.1 c).2 main_arg1 (Pipeline.mem_restRefs_of main_arg1 (by decide) (by decide))).trans (V_main_arg1 m c),
      ((h.1).arr_in c 2 rfl).trans ((A_eq m c 2).trans (V_main_arg2 m c)),
      ((h.1 c).2 main_arg3 (Pipeline.mem_restRefs_of main_arg3 (by decide) (by decide))).trans (V_main_arg3 m c)⟩, h.2⟩) (run_main m ρ)

end Cert.KernelIdeal.Hand

end
-- ==== Proof.Val.Block.lean ====
/-
  The kernel body's repeated stretch, written once at a symbolic block of 256 lanes: `blkQ` requantises the block of the previous
  step's sums, `blkP` dequantises one pair of 192-row tiles, merges it and takes its group maxima, `blkS` turns the maxima of 128
  lanes into scales. The values they store are named functions of the values they read.
-/
module

public import proofs.«01_k».proof.Proof.Gen.KernelIdeal

@[expose] public section

set_option maxRecDepth 16384

noncomputable section

namespace Cert.KernelIdeal.Hand

open Cert.KernelIdeal Cert.KernelIdeal.Gen
open Idealize.ShloMosaic Idealize.SL.Sem

variable {F : FTy → Type} [FloatOps F] [Named F]

theorem inb2 {m n a b r o : Nat} (h1 : r + a ≤ m) (h2 : o + b ≤ n) :
    ∀ i : Fin 2, (![r, o] : Fin 2 → Nat) i + (![a, b] : Fin 2 → Nat) i ≤ (![m, n] : Fin 2 → Nat) i :=
  Fin.forall_fin_two.2 ⟨h1, h2⟩
theorem inb3 {l m n a b d r s t : Nat} (h1 : r + a ≤ l) (h2 : s + b ≤ m) (h3 : t + d ≤ n) :
    ∀ i : Fin 3, (![r, s, t] : Fin 3 → Nat) i + (![a, b, d] : Fin 3 → Nat) i ≤ (![l, m, n] : Fin 3 → Nat) i := by
  intro i; fin_cases i <;> assumption
theorem inb3s {l m a r s : Nat} (h1 : r < l) (h2 : s + 8 * (a - 1) < m) :
    ∀ i : Fin 3, (![1, a, 128] : Fin 3 → Nat) i = 0 ∨ (![r, s, 0] : Fin 3 → Nat) i + (![1, 8, 1] : Fin 3 → Nat) i * ((![1, a, 128] : Fin 3 → Nat) i - 1)
      < (![l, m, 128] : Fin 3 → Nat) i := by
  intro i; right; fin_cases i <;> simp <;> omega
theorem slc {m n a b r o : Nat} (h1 : r + a ≤ m) (h2 : o + b ≤ n) :
    (⟨2, ![m, n]⟩ : Shape).Slices ![r, o] ⟨2, ![a, b]⟩ := ⟨rfl, Fin.forall_fin_two.2 ⟨h1, h2⟩⟩
theorem packQ {o : Nat} (h : o + 256 ≤ 1792) (hd : 4 ∣ o) :
    (Rect.unit (s := S1x1792x768) ![0, o, 0] S1x256x768.size (inb3 (Nat.le_refl 1) h (Nat.le_refl 768))).PackedRows (EltTy.packing .i8) :=
  have h2 : 2 ≤ S1x1792x768.rank := by decide
  Or.inr ⟨h2, rfl, Or.inl ⟨hd, (by decide : (4:Nat) ∣ 256)⟩⟩

/-! ## Values -/

/-- Two rows of 4-bit codes per byte row, from 64 rows of sums and the group's reciprocal scale. -/
def qpay (v72 : Vec F S64x256 .f32) (v73 : Vec F S1x256 .f32) : IVec S32x256 8 :=
  have v74 : FVec F S64x256 .f32 := broadcastTo S64x256 v73 broadcasts_S1x256_S64x256
  have v75 : FVec F S64x256 .f32 := mulf v72 v74
  let c_m7_i32 : BitVec 32 := 4294967289#32
  let c7_i32 : BitVec 32 := 7#32
  have v76 : F .f32 := Scalar.sitofp .f32 c_m7_i32
  have v77 : FVec F S64x256 .f32 := broadcast S64x256 v76
  have v78 : FVec F S64x256 .f32 := maximumf v77 v75
  have v79 : F .f32 := Scalar.sitofp .f32 c7_i32
  have v80 : FVec F S64x256 .f32 := broadcast S64x256 v79
  have v81 : FVec F S64x256 .f32 := minimumf v80 v78
  have v82 : FVec F S64x256 .f32 := roundeven v81
  have v83 : IVec S64x256 4 := fptosi 4 v82
  have v84 : IVec S64x256 32 := extsi 32 v83 natLt_4_32
  have v85 : IVec S32x2x256 32 := shapeCast S32x2x256 v84 shapeCasts_S64x256_S32x2x256
  have v86 : IVec S32x1x256 32 := extractStridedSlice S32x1x256 ![0, 0, 0] v85 slices_S32x2x256_o0_0_0_S32x1x256
  have v87 : IVec S32x256 32 := shapeCast S32x256 v86 shapeCasts_S32x1x256_S32x256
  let c15_i32 : BitVec 32 := 15#32
  have v88 : IVec S32x256 32 := broadcast S32x256 c15_i32
  have v89 : IVec S32x256 32 := andi v87 v88
  have v90 : IVec S32x1x256 32 := extractStridedSlice S32x1x256 ![0, 1, 0] v85 slices_S32x2x256_o0_1_0_S32x1x256
  have v91 : IVec S32x256 32 := shapeCast S32x256 v90 shapeCasts_S32x1x256_S32x256
  let c15_i32_27 : BitVec 32 := 15#32
  have v92 : IVec S32x256 32 := broadcast S32x256 c15_i32_27
  have v93 : IVec S32x256 32 := andi v91 v92
  let c4_i32 : BitVec 32 := 4#32
  have v94 : IVec S32x256 32 := broadcast S32x256 c4_i32
  have v95 : IVec S32x256 32 := shli v93 v94
  have v96 : IVec S32x256 32 := ori v89 v95
  have v97 : IVec S32x256 8 := trunci 8 v96 natLt_8_32
  v97
/-- The 24 code blocks stacked and turned, as the block of packed codes. -/
def qcat (v97 v123 v149 v175 v201 v227 v253 v279 v305 v331 v357 v383 v409 v435 v461 v487 v513 v539 v565 v591 v617 v643 v669 v695 : IVec S32x256 8) : IVec S1x256x768 8 :=
  have v696 : IVec S768x256 8 := concatenate S768x256 0 [⟨S32x256, v97⟩, ⟨S32x256, v123⟩, ⟨S32x256, v149⟩, ⟨S32x256, v175⟩, ⟨S32x256, v201⟩, ⟨S32x256, v227⟩, ⟨S32x256, v253⟩, ⟨S32x256, v279⟩, ⟨S32x256, v305⟩, ⟨S32x256, v331⟩, ⟨S32x256, v357⟩, ⟨S32x256, v383⟩, ⟨S32x256, v409⟩, ⟨S32x256, v435⟩, ⟨S32x256, v461⟩, ⟨S32x256, v487⟩, ⟨S32x256, v513⟩, ⟨S32x256, v539⟩, ⟨S32x256, v565⟩, ⟨S32x256, v591⟩, ⟨S32x256, v617⟩, ⟨S32x256, v643⟩, ⟨S32x256, v669⟩, ⟨S32x256, v695⟩] concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S768x256_d0
  have v697 : IVec S256x768 8 := transpose S256x768 [1, 0] v696 transposes_S768x256_p1_0_S256x768
  have v700 : IVec S1x256x768 8 := shapeCast S1x256x768 v697 shapeCasts_S256x768_S1x256x768
  v700
/-- The packed weight codes of one block, as 1536 rows of signed 4-bit values. -/
def wdec (v701 : Vec F S1x256x768 .i8) : IVec S1536x256 4 :=
  have v702 : IVec S256x768 8 := shapeCast S256x768 v701 shapeCasts_S1x256x768_S256x768
  have v703 : IVec S768x256 8 := transpose S768x256 [1, 0] v702 transposes_S256x768_p1_0_S768x256
  have v704 : IVec S768x256 32 := extui 32 v703 natLt_8_32
  let c15_i32_215 : BitVec 32 := 15#32
  have v705 : IVec S768x256 32 := broadcast S768x256 c15_i32_215
  have v706 : IVec S768x256 32 := andi v704 v705
  let c4_i32_216 : BitVec 32 := 4#32
  have v707 : IVec S768x256 32 := broadcast S768x256 c4_i32_216
  have v708 : IVec S768x256 32 := shrsi v704 v707
  have v709 : IVec S768x1x256 32 := shapeCast S768x1x256 v706 shapeCasts_S768x256_S768x1x256
  have v710 : IVec S768x1x256 32 := shapeCast S768x1x256 v708 shapeCasts_S768x256_S768x1x256
  have v711 : IVec S768x2x256 32 := concatenate S768x2x256 1 [⟨S768x1x256, v709⟩, ⟨S768x1x256, v710⟩] concatenates_S768x1x256_S768x1x256_S768x2x256_d1
  have v712 : IVec S1536x256 32 := shapeCast S1536x256 v711 shapeCasts_S768x2x256_S1536x256
  have v713 : IVec S1536x256 4 := trunci 4 v712 natLt_4_32
  v713
/-- One 64-row group dequantised: its codes by its scale row. -/
def deq (r : Nat) (hr : r + 64 ≤ 1536) (v713 : IVec S1536x256 4) (v717_raw : Vec F S1x2x256 .bf16) : FVec F S64x256 .bf16 :=
  have v717_lo : FVec F S1x256 .bf16 := shapeCast S1x256 (rowsOfParity 0 S1x1x256 v717_raw bitcasts_S1x2x256_w16_S1x1x256_w32) shapeCasts_S1x1x256_S1x256
  have v717_hi : FVec F S1x256 .bf16 := shapeCast S1x256 (rowsOfParity 1 S1x1x256 v717_raw bitcasts_S1x2x256_w16_S1x1x256_w32) shapeCasts_S1x1x256_S1x256
  have v718 : FVec F S2x256 .bf16 := interleaveRows S2x256 v717_lo v717_hi bitcasts_S2x256_w16_S1x256_w32
  have v719 : IVec S64x256 4 := extractStridedSlice S64x256 ![r, 0] v713 (slc hr (Nat.le_refl 256))
  have v720 : FVec F S64x256 .bf16 := sitofp .bf16 v719
  have v721 : FVec F S1x256 .bf16 := extractStridedSlice S1x256 ![0, 0] v718 slices_S2x256_o0_0_S1x256
  have v722 : FVec F S1x256 .bf16 := shapeCast S1x256 v721 shapeCasts_S1x256_S1x256
  have v723 : FVec F S64x256 .bf16 := broadcastTo S64x256 v722 broadcasts_S1x256_S64x256
  have v724 : FVec F S64x256 .bf16 := mulf v720 v723
  v724
/-- One 192-row tile of merged sums. -/
def tile (v724 v734 v744 : FVec F S64x256 .bf16) (v714 : Vec F S64x256 .bf16) (v746 v747 : Vec F S192x128 .bf16) : FVec F S192x256 .f32 :=
  have v745 : FVec F S256x256 .bf16 := concatenate S256x256 0 [⟨S64x256, v724⟩, ⟨S64x256, v734⟩, ⟨S64x256, v744⟩, ⟨S64x256, v714⟩] concatenates_S64x256_S64x256_S64x256_S64x256_S256x256_d0
  have v748 : FVec F S192x256 .bf16 := concatenate S192x256 1 [⟨S192x128, v746⟩, ⟨S192x128, v747⟩] concatenates_S192x128_S192x128_S192x256_d1
  have cst_229 : FVec F S192x256 .f32 := constant S192x256 .f32 0x00000000#32
  have v749 : FVec F S192x256 .f32 := matmul dot_S192x256_S256x256_S192x256_1_0_0_1_n_n none v748 v745 cst_229
  v749
def tcast (v749 : FVec F S192x256 .f32) : FVec F S192x256 .f32 :=
  shapeCast S192x256 v749 shapeCasts_S192x256_S192x256
/-- The largest magnitudes of 128 rows, folded onto 8. -/
def amax (o : Nat) (ho : o + 128 ≤ 384) (v749 v787 : FVec F S192x256 .f32) : FVec F S8x256 .f32 :=
  have v791 : FVec F S384x256 .f32 := concatenate S384x256 0 [⟨S192x256, v749⟩, ⟨S192x256, v787⟩] concatenates_S192x256_S192x256_S384x256_d0
  have v792 : FVec F S8x256 .f32 := extractStridedSlice S8x256 ![o + 0, 0] v791 (slc (by omega) (Nat.le_refl 256))
  have v793 : FVec F S8x256 .f32 := absf v792
  have v794 : FVec F S8x256 .f32 := extractStridedSlice S8x256 ![o + 8, 0] v791 (slc (by omega) (Nat.le_refl 256))
  have v795 : FVec F S8x256 .f32 := absf v794
  have v796 : FVec F S8x256 .f32 := maximumf v793 v795
  have v797 : FVec F S8x256 .f32 := extractStridedSlice S8x256 ![o + 16, 0] v791 (slc (by omega) (Nat.le_refl 256))
  have v798 : FVec F S8x256 .f32 := absf v797
  have v799 : FVec F S8x256 .f32 := maximumf v796 v798
  have v800 : FVec F S8x256 .f32 := extractStridedSlice S8x256 ![o + 24, 0] v791 (slc (by omega) (Nat.le_refl 256))
  have v801 : FVec F S8x256 .f32 := absf v800
  have v802 : FVec F S8x256 .f32 := maximumf v799 v801
  have v803 : FVec F S8x256 .f32 := extractStridedSlice S8x256 ![o + 32, 0] v791 (slc (by omega) (Nat.le_refl 256))
  have v804 : FVec F S8x256 .f32 := absf v803
  have v805 : FVec F S8x256 .f32 := maximumf v802 v804
  have v806 : FVec F S8x256 .f32 := extractStridedSlice S8x256 ![o + 40, 0] v791 (slc (by omega) (Nat.le_refl 256))
  have v807 : FVec F S8x256 .f32 := absf v806
  have v808 : FVec F S8x256 .f32 := maximumf v805 v807
  have v809 : FVec F S8x256 .f32 := extractStridedSlice S8x256 ![o + 48, 0] v791 (slc (by omega) (Nat.le_refl 256))
  have v810 : FVec F S8x256 .f32 := absf v809
  have v811 : FVec F S8x256 .f32 := maximumf v808 v810
  have v812 : FVec F S8x256 .f32 := extractStridedSlice S8x256 ![o + 56, 0] v791 (slc (by omega) (Nat.le_refl 256))
  have v813 : FVec F S8x256 .f32 := absf v812
  have v814 : FVec F S8x256 .f32 := maximumf v811 v813
  have v815 : FVec F S8x256 .f32 := extractStridedSlice S8x256 ![o + 64, 0] v791 (slc (by omega) (Nat.le_refl 256))
  have v816 : FVec F S8x256 .f32 := absf v815
  have v817 : FVec F S8x256 .f32 := maximumf v814 v816
  have v818 : FVec F S8x256 .f32 := extractStridedSlice S8x256 ![o + 72, 0] v791 (slc (by omega) (Nat.le_refl 256))
  have v819 : FVec F S8x256 .f32 := absf v818
  have v820 : FVec F S8x256 .f32 := maximumf v817 v819
  have v821 : FVec F S8x256 .f32 := extractStridedSlice S8x256 ![o + 80, 0] v791 (slc (by omega) (Nat.le_refl 256))
  have v822 : FVec F S8x256 .f32 := absf v821
  have v823 : FVec F S8x256 .f32 := maximumf v820 v822
  have v824 : FVec F S8x256 .f32 := extractStridedSlice S8x256 ![o + 88, 0] v791 (slc (by omega) (Nat.le_refl 256))
  have v825 : FVec F S8x256 .f32 := absf v824
  have v826 : FVec F S8x256 .f32 := maximumf v823 v825
  have v827 : FVec F S8x256 .f32 := extractStridedSlice S8x256 ![o + 96, 0] v791 (slc (by omega) (Nat.le_refl 256))
  have v828 : FVec F S8x256 .f32 := absf v827
  have v829 : FVec F S8x256 .f32 := maximumf v826 v828
  have v830 : FVec F S8x256 .f32 := extractStridedSlice S8x256 ![o + 104, 0] v791 (slc (by omega) (Nat.le_refl 256))
  have v831 : FVec F S8x256 .f32 := absf v830
  have v832 : FVec F S8x256 .f32 := maximumf v829 v831
  have v833 : FVec F S8x256 .f32 := extractStridedSlice S8x256 ![o + 112, 0] v791 (slc (by omega) (Nat.le_refl 256))
  have v834 : FVec F S8x256 .f32 := absf v833
  have v835 : FVec F S8x256 .f32 := maximumf v832 v834
  have v836 : FVec F S8x256 .f32 := extractStridedSlice S8x256 ![o + 120, 0] v791 (slc (by omega) (Nat.le_refl 256))
  have v837 : FVec F S8x256 .f32 := absf v836
  have v838 : FVec F S8x256 .f32 := maximumf v835 v837
  v838
/-- One half of the lanes of the folded maxima, as they are kept. -/
def half (o : Nat) (ho : o + 128 ≤ 256) (v838 : FVec F S8x256 .f32) : FVec F S1x8x128 .f32 :=
  shapeCast S1x8x128 (extractStridedSlice S8x128 ![0, o] v838 (slc (Nat.le_refl 8) ho)) shapeCasts_S8x128_S1x8x128
/-- The largest magnitude of each of 8 groups. -/
def gmax8 (v1683 v1685 v1688 v1691 v1694 v1697 v1700 v1703 : Vec F S1x8x128 .f32) : FVec F S8x128 .f32 :=
  have v1684 : FVec F S8x128 .f32 := shapeCast S8x128 v1683 shapeCasts_S1x8x128_S8x128
  have v1686 : FVec F S8x128 .f32 := shapeCast S8x128 v1685 shapeCasts_S1x8x128_S8x128
  have v1687 : FVec F S8x128 .f32 := maximumf v1684 v1686
  have v1689 : FVec F S8x128 .f32 := shapeCast S8x128 v1688 shapeCasts_S1x8x128_S8x128
  have v1690 : FVec F S8x128 .f32 := maximumf v1687 v1689
  have v1692 : FVec F S8x128 .f32 := shapeCast S8x128 v1691 shapeCasts_S1x8x128_S8x128
  have v1693 : FVec F S8x128 .f32 := maximumf v1690 v1692
  have v1695 : FVec F S8x128 .f32 := shapeCast S8x128 v1694 shapeCasts_S1x8x128_S8x128
  have v1696 : FVec F S8x128 .f32 := maximumf v1693 v1695
  have v1698 : FVec F S8x128 .f32 := shapeCast S8x128 v1697 shapeCasts_S1x8x128_S8x128
  have v1699 : FVec F S8x128 .f32 := maximumf v1696 v1698
  have v1701 : FVec F S8x128 .f32 := shapeCast S8x128 v1700 shapeCasts_S1x8x128_S8x128
  have v1702 : FVec F S8x128 .f32 := maximumf v1699 v1701
  have v1704 : FVec F S8x128 .f32 := shapeCast S8x128 v1703 shapeCasts_S1x8x128_S8x128
  have v1705 : FVec F S8x128 .f32 := maximumf v1702 v1704
  v1705
/-- The scale of each of 8 groups. -/
def scl8 (v1705 : FVec F S8x128 .f32) : FVec F S8x128 .f32 :=
  have cst_401 : F .f32 := Named.named κ "lora_scale" 0x3ECCCCCD#32
  have v1706 : FVec F S8x128 .f32 := broadcast S8x128 cst_401
  have v1707 : FVec F S8x128 .f32 := mulf v1705 v1706
  have cst_402 : F .f32 := Scalar.ofBits .f32 0x00000000#32
  have v1708 : FVec F S8x128 .f32 := broadcast S8x128 cst_402
  have v1709 : IVec S8x128 1 := cmpf .oeq v1707 v1708
  have cst_403 : F .f32 := Scalar.ofBits .f32 0x40E00000#32
  have v1710 : FVec F S8x128 .f32 := broadcast S8x128 cst_403
  have v1711 : FVec F S8x128 .f32 := divf v1707 v1710
  have cst_404 : F .f32 := Scalar.ofBits .f32 0x3F800000#32
  have v1712 : FVec F S8x128 .f32 := broadcast S8x128 cst_404
  have v1713 : FVec F S8x128 .f32 := select v1709 v1712 v1711
  have v1714 : FVec F S8x128 .bf16 := truncf .bf16 v1713 bitsLt_bf16_f32
  have v1715 : FVec F S8x128 .f32 := extf .f32 v1714 bitsLt_bf16_f32
  v1715
/-- Its reciprocal, as it is kept. -/
def inv8 (v1715 : FVec F S8x128 .f32) : FVec F S8x128 .f32 :=
  have cst_405 : F .f32 := Named.named κ "lora_scale" 0x3ECCCCCD#32
  have v1716 : FVec F S8x128 .f32 := broadcast S8x128 cst_405
  have v1717 : FVec F S8x128 .f32 := divf v1716 v1715
  shapeCast S8x128 v1717 shapeCasts_S8x128_S8x128
def osc8 (v1715 : FVec F S8x128 .f32) : FVec F S1x8x128 .f32 :=
  shapeCast S1x8x128 v1715 shapeCasts_S8x128_S1x8x128
/-- The largest magnitude of each of 4 groups. -/
def gmax4 (v1726 v1728 v1731 v1734 v1737 v1740 v1743 v1746 : Vec F S1x4x128 .f32) : FVec F S4x128 .f32 :=
  have v1727 : FVec F S4x128 .f32 := shapeCast S4x128 v1726 shapeCasts_S1x4x128_S4x128
  have v1729 : FVec F S4x128 .f32 := shapeCast S4x128 v1728 shapeCasts_S1x4x128_S4x128
  have v1730 : FVec F S4x128 .f32 := maximumf v1727 v1729
  have v1732 : FVec F S4x128 .f32 := shapeCast S4x128 v1731 shapeCasts_S1x4x128_S4x128
  have v1733 : FVec F S4x128 .f32 := maximumf v1730 v1732
  have v1735 : FVec F S4x128 .f32 := shapeCast S4x128 v1734 shapeCasts_S1x4x128_S4x128
  have v1736 : FVec F S4x128 .f32 := maximumf v1733 v1735
  have v1738 : FVec F S4x128 .f32 := shapeCast S4x128 v1737 shapeCasts_S1x4x128_S4x128
  have v1739 : FVec F S4x128 .f32 := maximumf v1736 v1738
  have v1741 : FVec F S4x128 .f32 := shapeCast S4x128 v1740 shapeCasts_S1x4x128_S4x128
  have v1742 : FVec F S4x128 .f32 := maximumf v1739 v1741
  have v1744 : FVec F S4x128 .f32 := shapeCast S4x128 v1743 shapeCasts_S1x4x128_S4x128
  have v1745 : FVec F S4x128 .f32 := maximumf v1742 v1744
  have v1747 : FVec F S4x128 .f32 := shapeCast S4x128 v1746 shapeCasts_S1x4x128_S4x128
  have v1748 : FVec F S4x128 .f32 := maximumf v1745 v1747
  v1748
/-- The scale of each of 4 groups. -/
def scl4 (v1748 : FVec F S4x128 .f32) : FVec F S4x128 .f32 :=
  have cst_428 : F .f32 := Named.named κ "lora_scale" 0x3ECCCCCD#32
  have v1749 : FVec F S4x128 .f32 := broadcast S4x128 cst_428
  have v1750 : FVec F S4x128 .f32 := mulf v1748 v1749
  have cst_429 : F .f32 := Scalar.ofBits .f32 0x00000000#32
  have v1751 : FVec F S4x128 .f32 := broadcast S4x128 cst_429
  have v1752 : IVec S4x128 1 := cmpf .oeq v1750 v1751
  have cst_430 : F .f32 := Scalar.ofBits .f32 0x40E00000#32
  have v1753 : FVec F S4x128 .f32 := broadcast S4x128 cst_430
  have v1754 : FVec F S4x128 .f32 := divf v1750 v1753
  have cst_431 : F .f32 := Scalar.ofBits .f32 0x3F800000#32
  have v1755 : FVec F S4x128 .f32 := broadcast S4x128 cst_431
  have v1756 : FVec F S4x128 .f32 := select v1752 v1755 v1754
  have v1757 : FVec F S4x128 .bf16 := truncf .bf16 v1756 bitsLt_bf16_f32
  have v1758 : FVec F S4x128 .f32 := extf .f32 v1757 bitsLt_bf16_f32
  v1758
/-- Its reciprocal, as it is kept. -/
def inv4 (v1758 : FVec F S4x128 .f32) : FVec F S4x128 .f32 :=
  have cst_432 : F .f32 := Named.named κ "lora_scale" 0x3ECCCCCD#32
  have v1759 : FVec F S4x128 .f32 := broadcast S4x128 cst_432
  have v1760 : FVec F S4x128 .f32 := divf v1759 v1758
  shapeCast S4x128 v1760 shapeCasts_S4x128_S4x128
def osc4 (v1758 : FVec F S4x128 .f32) : FVec F S1x4x128 .f32 :=
  shapeCast S1x4x128 v1758 shapeCasts_S4x128_S1x4x128

/-! ## Programs -/

/-- The requantisation of lanes `o` to `o + 255` of the previous sums. -/
def blkQ (o : Nat) (ho : o + 256 ≤ 1792) (hd : 4 ∣ o) (arg5 : Memref sig .tc .vmem S1x1792x768 .i8) (harg5 : arg5.IsWhole) (arg7 : Memref sig .tc .vmem S1536x1792 .f32) (harg7 : arg7.IsWhole) (arg14 : Memref sig .tc .vmem S12x1792 .f32) (harg14 : arg14.IsWhole) :
    Prog (TpuEff nD τ sig (Elt F) Λ₀ .tc) PUnit := do
  let x0 : Vec F S64x256 .f32 ← Prog.lift (.load arg7 (Rect.unit (s := S1536x1792) ![0, o] S64x256.size (inb2 (by decide) ho)).toLoadRect (View.loadsAt_vmem h_S64x256))
  let y0 : Vec F S1x256 .f32 ← Prog.lift (.load arg14 (Rect.unit (s := S12x1792) ![0, o] S1x256.size (inb2 (by decide) ho)).toLoadRect (View.loadsAt_vmem h_S1x256))
  let x1 : Vec F S64x256 .f32 ← Prog.lift (.load arg7 (Rect.unit (s := S1536x1792) ![64, o] S64x256.size (inb2 (by decide) ho)).toLoadRect (View.loadsAt_vmem h_S64x256))
  let y1 : Vec F S1x256 .f32 ← Prog.lift (.load arg14 (Rect.unit (s := S12x1792) ![0, o] S1x256.size (inb2 (by decide) ho)).toLoadRect (View.loadsAt_vmem h_S1x256))
  let x2 : Vec F S64x256 .f32 ← Prog.lift (.load arg7 (Rect.unit (s := S1536x1792) ![128, o] S64x256.size (inb2 (by decide) ho)).toLoadRect (View.loadsAt_vmem h_S64x256))
  let y2 : Vec F S1x256 .f32 ← Prog.lift (.load arg14 (Rect.unit (s := S12x1792) ![1, o] S1x256.size (inb2 (by decide) ho)).toLoadRect (View.loadsAt_vmem h_S1x256))
  let x3 : Vec F S64x256 .f32 ← Prog.lift (.load arg7 (Rect.unit (s := S1536x1792) ![192, o] S64x256.size (inb2 (by decide) ho)).toLoadRect (View.loadsAt_vmem h_S64x256))
  let y3 : Vec F S1x256 .f32 ← Prog.lift (.load arg14 (Rect.unit (s := S12x1792) ![1, o] S1x256.size (inb2 (by decide) ho)).toLoadRect (View.loadsAt_vmem h_S1x256))
  let x4 : Vec F S64x256 .f32 ← Prog.lift (.load arg7 (Rect.unit (s := S1536x1792) ![256, o] S64x256.size (inb2 (by decide) ho)).toLoadRect (View.loadsAt_vmem h_S64x256))
  let y4 : Vec F S1x256 .f32 ← Prog.lift (.load arg14 (Rect.unit (s := S12x1792) ![2, o] S1x256.size (inb2 (by decide) ho)).toLoadRect (View.loadsAt_vmem h_S1x256))
  let x5 : Vec F S64x256 .f32 ← Prog.lift (.load arg7 (Rect.unit (s := S1536x1792) ![320, o] S64x256.size (inb2 (by decide) ho)).toLoadRect (View.loadsAt_vmem h_S64x256))
  let y5 : Vec F S1x256 .f32 ← Prog.lift (.load arg14 (Rect.unit (s := S12x1792) ![2, o] S1x256.size (inb2 (by decide) ho)).toLoadRect (View.loadsAt_vmem h_S1x256))
  let x6 : Vec F S64x256 .f32 ← Prog.lift (.load arg7 (Rect.unit (s := S1536x1792) ![384, o] S64x256.size (inb2 (by decide) ho)).toLoadRect (View.loadsAt_vmem h_S64x256))
  let y6 : Vec F S1x256 .f32 ← Prog.lift (.load arg14 (Rect.unit (s := S12x1792) ![3, o] S1x256.size (inb2 (by decide) ho)).toLoadRect (View.loadsAt_vmem h_S1x256))
  let x7 : Vec F S64x256 .f32 ← Prog.lift (.load arg7 (Rect.unit (s := S1536x1792) ![448, o] S64x256.size (inb2 (by decide) ho)).toLoadRect (View.loadsAt_vmem h_S64x256))
  let y7 : Vec F S1x256 .f32 ← Prog.lift (.load arg14 (Rect.unit (s := S12x1792) ![3, o] S1x256.size (inb2 (by decide) ho)).toLoadRect (View.loadsAt_vmem h_S1x256))
  let x8 : Vec F S64x256 .f32 ← Prog.lift (.load arg7 (Rect.unit (s := S1536x1792) ![512, o] S64x256.size (inb2 (by decide) ho)).toLoadRect (View.loadsAt_vmem h_S64x256))
  let y8 : Vec F S1x256 .f32 ← Prog.lift (.load arg14 (Rect.unit (s := S12x1792) ![4, o] S1x256.size (inb2 (by decide) ho)).toLoadRect (View.loadsAt_vmem h_S1x256))
  let x9 : Vec F S64x256 .f32 ← Prog.lift (.load arg7 (Rect.unit (s := S1536x1792) ![576, o] S64x256.size (inb2 (by decide) ho)).toLoadRect (View.loadsAt_vmem h_S64x256))
  let y9 : Vec F S1x256 .f32 ← Prog.lift (.load arg14 (Rect.unit (s := S12x1792) ![4, o] S1x256.size (inb2 (by decide) ho)).toLoadRect (View.loadsAt_vmem h_S1x256))
  let x10 : Vec F S64x256 .f32 ← Prog.lift (.load arg7 (Rect.unit (s := S1536x1792) ![640, o] S64x256.size (inb2 (by decide) ho)).toLoadRect (View.loadsAt_vmem h_S64x256))
  let y10 : Vec F S1x256 .f32 ← Prog.lift (.load arg14 (Rect.unit (s := S12x1792) ![5, o] S1x256.size (inb2 (by decide) ho)).toLoadRect (View.loadsAt_vmem h_S1x256))
  let x11 : Vec F S64x256 .f32 ← Prog.lift (.load arg7 (Rect.unit (s := S1536x1792) ![704, o] S64x256.size (inb2 (by decide) ho)).toLoadRect (View.loadsAt_vmem h_S64x256))
  let y11 : Vec F S1x256 .f32 ← Prog.lift (.load arg14 (Rect.unit (s := S12x1792) ![5, o] S1x256.size (inb2 (by decide) ho)).toLoadRect (View.loadsAt_vmem h_S1x256))
  let x12 : Vec F S64x256 .f32 ← Prog.lift (.load arg7 (Rect.unit (s := S1536x1792) ![768, o] S64x256.size (inb2 (by decide) ho)).toLoadRect (View.loadsAt_vmem h_S64x256))
  let y12 : Vec F S1x256 .f32 ← Prog.lift (.load arg14 (Rect.unit (s := S12x1792) ![6, o] S1x256.size (inb2 (by decide) ho)).toLoadRect (View.loadsAt_vmem h_S1x256))
  let x13 : Vec F S64x256 .f32 ← Prog.lift (.load arg7 (Rect.unit (s := S1536x1792) ![832, o] S64x256.size (inb2 (by decide) ho)).toLoadRect (View.loadsAt_vmem h_S64x256))
  let y13 : Vec F S1x256 .f32 ← Prog.lift (.load arg14 (Rect.unit (s := S12x1792) ![6, o] S1x256.size (inb2 (by decide) ho)).toLoadRect (View.loadsAt_vmem h_S1x256))
  let x14 : Vec F S64x256 .f32 ← Prog.lift (.load arg7 (Rect.unit (s := S1536x1792) ![896, o] S64x256.size (inb2 (by decide) ho)).toLoadRect (View.loadsAt_vmem h_S64x256))
  let y14 : Vec F S1x256 .f32 ← Prog.lift (.load arg14 (Rect.unit (s := S12x1792) ![7, o] S1x256.size (inb2 (by decide) ho)).toLoadRect (View.loadsAt_vmem h_S1x256))
  let x15 : Vec F S64x256 .f32 ← Prog.lift (.load arg7 (Rect.unit (s := S1536x1792) ![960, o] S64x256.size (inb2 (by decide) ho)).toLoadRect (View.loadsAt_vmem h_S64x256))
  let y15 : Vec F S1x256 .f32 ← Prog.lift (.load arg14 (Rect.unit (s := S12x1792) ![7, o] S1x256.size (inb2 (by decide) ho)).toLoadRect (View.loadsAt_vmem h_S1x256))
  let x16 : Vec F S64x256 .f32 ← Prog.lift (.load arg7 (Rect.unit (s := S1536x1792) ![1024, o] S64x256.size (inb2 (by decide) ho)).toLoadRect (View.loadsAt_vmem h_S64x256))
  let y16 : Vec F S1x256 .f32 ← Prog.lift (.load arg14 (Rect.unit (s := S12x1792) ![8, o] S1x256.size (inb2 (by decide) ho)).toLoadRect (View.loadsAt_vmem h_S1x256))
  let x17 : Vec F S64x256 .f32 ← Prog.lift (.load arg7 (Rect.unit (s := S1536x1792) ![1088, o] S64x256.size (inb2 (by decide) ho)).toLoadRect (View.loadsAt_vmem h_S64x256))
  let y17 : Vec F S1x256 .f32 ← Prog.lift (.load arg14 (Rect.unit (s := S12x1792) ![8, o] S1x256.size (inb2 (by decide) ho)).toLoadRect (View.loadsAt_vmem h_S1x256))
  let x18 : Vec F S64x256 .f32 ← Prog.lift (.load arg7 (Rect.unit (s := S1536x1792) ![1152, o] S64x256.size (inb2 (by decide) ho)).toLoadRect (View.loadsAt_vmem h_S64x256))
  let y18 : Vec F S1x256 .f32 ← Prog.lift (.load arg14 (Rect.unit (s := S12x1792) ![9, o] S1x256.size (inb2 (by decide) ho)).toLoadRect (View.loadsAt_vmem h_S1x256))
  let x19 : Vec F S64x256 .f32 ← Prog.lift (.load arg7 (Rect.unit (s := S1536x1792) ![1216, o] S64x256.size (inb2 (by decide) ho)).toLoadRect (View.loadsAt_vmem h_S64x256))
  let y19 : Vec F S1x256 .f32 ← Prog.lift (.load arg14 (Rect.unit (s := S12x1792) ![9, o] S1x256.size (inb2 (by decide) ho)).toLoadRect (View.loadsAt_vmem h_S1x256))
  let x20 : Vec F S64x256 .f32 ← Prog.lift (.load arg7 (Rect.unit (s := S1536x1792) ![1280, o] S64x256.size (inb2 (by decide) ho)).toLoadRect (View.loadsAt_vmem h_S64x256))
  let y20 : Vec F S1x256 .f32 ← Prog.lift (.load arg14 (Rect.unit (s := S12x1792) ![10, o] S1x256.size (inb2 (by decide) ho)).toLoadRect (View.loadsAt_vmem h_S1x256))
  let x21 : Vec F S64x256 .f32 ← Prog.lift (.load arg7 (Rect.unit (s := S1536x1792) ![1344, o] S64x256.size (inb2 (by decide) ho)).toLoadRect (View.loadsAt_vmem h_S64x256))
  let y21 : Vec F S1x256 .f32 ← Prog.lift (.load arg14 (Rect.unit (s := S12x1792) ![10, o] S1x256.size (inb2 (by decide) ho)).toLoadRect (View.loadsAt_vmem h_S1x256))
  let x22 : Vec F S64x256 .f32 ← Prog.lift (.load arg7 (Rect.unit (s := S1536x1792) ![1408, o] S64x256.size (inb2 (by decide) ho)).toLoadRect (View.loadsAt_vmem h_S64x256))
  let y22 : Vec F S1x256 .f32 ← Prog.lift (.load arg14 (Rect.unit (s := S12x1792) ![11, o] S1x256.size (inb2 (by decide) ho)).toLoadRect (View.loadsAt_vmem h_S1x256))
  let x23 : Vec F S64x256 .f32 ← Prog.lift (.load arg7 (Rect.unit (s := S1536x1792) ![1472, o] S64x256.size (inb2 (by decide) ho)).toLoadRect (View.loadsAt_vmem h_S64x256))
  let y23 : Vec F S1x256 .f32 ← Prog.lift (.load arg14 (Rect.unit (s := S12x1792) ![11, o] S1x256.size (inb2 (by decide) ho)).toLoadRect (View.loadsAt_vmem h_S1x256))
  let _d : Vec F S1x256x768 .i8 ← Prog.lift (.load arg5 (Rect.unit (s := S1x1792x768) ![0, o, 0] S1x256x768.size (inb3 (Nat.le_refl 1) ho (Nat.le_refl 768))).toLoadRect (View.loadsAt_vmem h_S1x256x768))
  Prog.lift (.store arg5 (Rect.unit (s := S1x1792x768) ![0, o, 0] S1x256x768.size (inb3 (Nat.le_refl 1) ho (Nat.le_refl 768))) (qcat (qpay x0 y0) (qpay x1 y1) (qpay x2 y2) (qpay x3 y3) (qpay x4 y4) (qpay x5 y5) (qpay x6 y6) (qpay x7 y7) (qpay x8 y8) (qpay x9 y9) (qpay x10 y10) (qpay x11 y11) (qpay x12 y12) (qpay x13 y13) (qpay x14 y14) (qpay x15 y15) (qpay x16 y16) (qpay x17 y17) (qpay x18 y18) (qpay x19 y19) (qpay x20 y20) (qpay x21 y21) (qpay x22 y22) (qpay x23 y23)) Finset.univ (View.stores_vmem h_S1x256x768 (harg5.storeExact_slice rfl _ (packQ ho hd)) (fun _ => rfl)) (.inl rfl))
/-- A pair of tiles: rows `384 p` to `384 p + 383` of lanes `o` to `o + 255`. -/
def blkP (o : Nat) (ho : o + 256 ≤ 1792) (p : Nat) (hp : p < 4) (v1 : BitVec 32)
    (hv1 : ∀ g, g < 12 → (Scalar.indexCast (Scalar.addi (BitVec.ofNat 32 (8 * g)) v1)).toNat + 1 ≤ 96) (q : IVec S1536x256 4) (bt : Vec F S64x256 .bf16) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg12 : Memref sig .tc .vmem S96x2x1792 .bf16) (harg12 : arg12.IsWhole) (arg13 : Memref sig .tc .vmem S2x96x128 .f32) (harg13 : arg13.IsWhole) :
    Prog (TpuEff nD τ sig (Elt F) Λ₀ .tc) PUnit := do
  let s00 : Vec F S1x2x256 .bf16 ← Prog.lift (.load arg12 (Rect.unit (s := S96x2x1792) ![(Scalar.indexCast (Scalar.addi (BitVec.ofNat 32 (8 * (3 * p + 0))) v1)).toNat, 0, o] S1x2x256.size (inb3 (hv1 (3 * p + 0) (by omega)) (Nat.le_refl 2) ho)).toLoadRect (View.loadsAt_vmem h_S1x2x256))
  let s01 : Vec F S1x2x256 .bf16 ← Prog.lift (.load arg12 (Rect.unit (s := S96x2x1792) ![(Scalar.indexCast (Scalar.addi (BitVec.ofNat 32 (8 * (3 * p + 0))) v1)).toNat, 0, o] S1x2x256.size (inb3 (hv1 (3 * p + 0) (by omega)) (Nat.le_refl 2) ho)).toLoadRect (View.loadsAt_vmem h_S1x2x256))
  let s02 : Vec F S1x2x256 .bf16 ← Prog.lift (.load arg12 (Rect.unit (s := S96x2x1792) ![(Scalar.indexCast (Scalar.addi (BitVec.ofNat 32 (8 * (3 * p + 1))) v1)).toNat, 0, o] S1x2x256.size (inb3 (hv1 (3 * p + 1) (by omega)) (Nat.le_refl 2) ho)).toLoadRect (View.loadsAt_vmem h_S1x2x256))
  let l0 : Vec F S192x128 .bf16 ← Prog.lift (.load arg8 (Rect.unit (s := S192x128) ![0, 0] S192x128.size inb_S192x128_S192x128_0_0).toLoadRect (View.loadsAt_vmem h_S192x128))
  let r0 : Vec F S192x128 .bf16 ← Prog.lift (.load arg9 (Rect.unit (s := S1536x128) ![384 * p + 0, 0] S192x128.size (inb2 (by omega) (by decide))).toLoadRect (View.loadsAt_vmem h_S192x128))
  let _d0 : Vec F S192x256 .f32 ← Prog.lift (.load arg7 (Rect.unit (s := S1536x1792) ![384 * p + 0, o] S192x256.size (inb2 (by omega) ho)).toLoadRect (View.loadsAt_vmem h_S192x256))
  Prog.lift (.store arg7 (Rect.unit (s := S1536x1792) ![384 * p + 0, o] S192x256.size (inb2 (by omega) ho)) (tcast (tile (deq (384 * p + 0) (by omega) q s00) (deq (384 * p + 64) (by omega) q s01) (deq (384 * p + 128) (by omega) q s02) bt l0 r0)) Finset.univ (View.stores_vmem_bits_univ h_S192x256 rfl) (.inl rfl))
  let s10 : Vec F S1x2x256 .bf16 ← Prog.lift (.load arg12 (Rect.unit (s := S96x2x1792) ![(Scalar.indexCast (Scalar.addi (BitVec.ofNat 32 (8 * (3 * p + 1))) v1)).toNat, 0, o] S1x2x256.size (inb3 (hv1 (3 * p + 1) (by omega)) (Nat.le_refl 2) ho)).toLoadRect (View.loadsAt_vmem h_S1x2x256))
  let s11 : Vec F S1x2x256 .bf16 ← Prog.lift (.load arg12 (Rect.unit (s := S96x2x1792) ![(Scalar.indexCast (Scalar.addi (BitVec.ofNat 32 (8 * (3 * p + 2))) v1)).toNat, 0, o] S1x2x256.size (inb3 (hv1 (3 * p + 2) (by omega)) (Nat.le_refl 2) ho)).toLoadRect (View.loadsAt_vmem h_S1x2x256))
  let s12 : Vec F S1x2x256 .bf16 ← Prog.lift (.load arg12 (Rect.unit (s := S96x2x1792) ![(Scalar.indexCast (Scalar.addi (BitVec.ofNat 32 (8 * (3 * p + 2))) v1)).toNat, 0, o] S1x2x256.size (inb3 (hv1 (3 * p + 2) (by omega)) (Nat.le_refl 2) ho)).toLoadRect (View.loadsAt_vmem h_S1x2x256))
  let l1 : Vec F S192x128 .bf16 ← Prog.lift (.load arg8 (Rect.unit (s := S192x128) ![0, 0] S192x128.size inb_S192x128_S192x128_0_0).toLoadRect (View.loadsAt_vmem h_S192x128))
  let r1 : Vec F S192x128 .bf16 ← Prog.lift (.load arg9 (Rect.unit (s := S1536x128) ![384 * p + 192, 0] S192x128.size (inb2 (by omega) (by decide))).toLoadRect (View.loadsAt_vmem h_S192x128))
  let _d1 : Vec F S192x256 .f32 ← Prog.lift (.load arg7 (Rect.unit (s := S1536x1792) ![384 * p + 192, o] S192x256.size (inb2 (by omega) ho)).toLoadRect (View.loadsAt_vmem h_S192x256))
  Prog.lift (.store arg7 (Rect.unit (s := S1536x1792) ![384 * p + 192, o] S192x256.size (inb2 (by omega) ho)) (tcast (tile (deq (384 * p + 192) (by omega) q s10) (deq (384 * p + 256) (by omega) q s11) (deq (384 * p + 320) (by omega) q s12) bt l1 r1)) Finset.univ (View.stores_vmem_bits_univ h_S192x256 rfl) (.inl rfl))
  let _e00 : Vec F S1x8x128 .f32 ← Prog.lift (.load arg13 (Rect.unit (s := S2x96x128) ![0, 8 * (3 * p + 0), 0] S1x8x128.size (inb3 (by decide) (by omega) (Nat.le_refl 128))).toLoadRect (View.loadsAt_vmem h_S1x8x128))
  Prog.lift (.store arg13 (Rect.unit (s := S2x96x128) ![0, 8 * (3 * p + 0), 0] S1x8x128.size (inb3 (by decide) (by omega) (Nat.le_refl 128))) (half 0 (by decide) (amax 0 (by decide) (tile (deq (384 * p + 0) (by omega) q s00) (deq (384 * p + 64) (by omega) q s01) (deq (384 * p + 128) (by omega) q s02) bt l0 r0) (tile (deq (384 * p + 192) (by omega) q s10) (deq (384 * p + 256) (by omega) q s11) (deq (384 * p + 320) (by omega) q s12) bt l1 r1))) Finset.univ (View.stores_vmem_bits_univ h_S1x8x128 rfl) (.inl rfl))
  let _e01 : Vec F S1x8x128 .f32 ← Prog.lift (.load arg13 (Rect.unit (s := S2x96x128) ![1, 8 * (3 * p + 0), 0] S1x8x128.size (inb3 (by decide) (by omega) (Nat.le_refl 128))).toLoadRect (View.loadsAt_vmem h_S1x8x128))
  Prog.lift (.store arg13 (Rect.unit (s := S2x96x128) ![1, 8 * (3 * p + 0), 0] S1x8x128.size (inb3 (by decide) (by omega) (Nat.le_refl 128))) (half 128 (by decide) (amax 0 (by decide) (tile (deq (384 * p + 0) (by omega) q s00) (deq (384 * p + 64) (by omega) q s01) (deq (384 * p + 128) (by omega) q s02) bt l0 r0) (tile (deq (384 * p + 192) (by omega) q s10) (deq (384 * p + 256) (by omega) q s11) (deq (384 * p + 320) (by omega) q s12) bt l1 r1))) Finset.univ (View.stores_vmem_bits_univ h_S1x8x128 rfl) (.inl rfl))
  let _e10 : Vec F S1x8x128 .f32 ← Prog.lift (.load arg13 (Rect.unit (s := S2x96x128) ![0, 8 * (3 * p + 1), 0] S1x8x128.size (inb3 (by decide) (by omega) (Nat.le_refl 128))).toLoadRect (View.loadsAt_vmem h_S1x8x128))
  Prog.lift (.store arg13 (Rect.unit (s := S2x96x128) ![0, 8 * (3 * p + 1), 0] S1x8x128.size (inb3 (by decide) (by omega) (Nat.le_refl 128))) (half 0 (by decide) (amax 128 (by decide) (tile (deq (384 * p + 0) (by omega) q s00) (deq (384 * p + 64) (by omega) q s01) (deq (384 * p + 128) (by omega) q s02) bt l0 r0) (tile (deq (384 * p + 192) (by omega) q s10) (deq (384 * p + 256) (by omega) q s11) (deq (384 * p + 320) (by omega) q s12) bt l1 r1))) Finset.univ (View.stores_vmem_bits_univ h_S1x8x128 rfl) (.inl rfl))
  let _e11 : Vec F S1x8x128 .f32 ← Prog.lift (.load arg13 (Rect.unit (s := S2x96x128) ![1, 8 * (3 * p + 1), 0] S1x8x128.size (inb3 (by decide) (by omega) (Nat.le_refl 128))).toLoadRect (View.loadsAt_vmem h_S1x8x128))
  Prog.lift (.store arg13 (Rect.unit (s := S2x96x128) ![1, 8 * (3 * p + 1), 0] S1x8x128.size (inb3 (by decide) (by omega) (Nat.le_refl 128))) (half 128 (by decide) (amax 128 (by decide) (tile (deq (384 * p + 0) (by omega) q s00) (deq (384 * p + 64) (by omega) q s01) (deq (384 * p + 128) (by omega) q s02) bt l0 r0) (tile (deq (384 * p + 192) (by omega) q s10) (deq (384 * p + 256) (by omega) q s11) (deq (384 * p + 320) (by omega) q s12) bt l1 r1))) Finset.univ (View.stores_vmem_bits_univ h_S1x8x128 rfl) (.inl rfl))
  let _e20 : Vec F S1x8x128 .f32 ← Prog.lift (.load arg13 (Rect.unit (s := S2x96x128) ![0, 8 * (3 * p + 2), 0] S1x8x128.size (inb3 (by decide) (by omega) (Nat.le_refl 128))).toLoadRect (View.loadsAt_vmem h_S1x8x128))
  Prog.lift (.store arg13 (Rect.unit (s := S2x96x128) ![0, 8 * (3 * p + 2), 0] S1x8x128.size (inb3 (by decide) (by omega) (Nat.le_refl 128))) (half 0 (by decide) (amax 256 (by decide) (tile (deq (384 * p + 0) (by omega) q s00) (deq (384 * p + 64) (by omega) q s01) (deq (384 * p + 128) (by omega) q s02) bt l0 r0) (tile (deq (384 * p + 192) (by omega) q s10) (deq (384 * p + 256) (by omega) q s11) (deq (384 * p + 320) (by omega) q s12) bt l1 r1))) Finset.univ (View.stores_vmem_bits_univ h_S1x8x128 rfl) (.inl rfl))
  let _e21 : Vec F S1x8x128 .f32 ← Prog.lift (.load arg13 (Rect.unit (s := S2x96x128) ![1, 8 * (3 * p + 2), 0] S1x8x128.size (inb3 (by decide) (by omega) (Nat.le_refl 128))).toLoadRect (View.loadsAt_vmem h_S1x8x128))
  Prog.lift (.store arg13 (Rect.unit (s := S2x96x128) ![1, 8 * (3 * p + 2), 0] S1x8x128.size (inb3 (by decide) (by omega) (Nat.le_refl 128))) (half 128 (by decide) (amax 256 (by decide) (tile (deq (384 * p + 0) (by omega) q s00) (deq (384 * p + 64) (by omega) q s01) (deq (384 * p + 128) (by omega) q s02) bt l0 r0) (tile (deq (384 * p + 192) (by omega) q s10) (deq (384 * p + 256) (by omega) q s11) (deq (384 * p + 320) (by omega) q s12) bt l1 r1))) Finset.univ (View.stores_vmem_bits_univ h_S1x8x128 rfl) (.inl rfl))
/-- The scales of 128 lanes: part `h`, lanes `oh` to `oh + 127`, row `b` of the kept scales. -/
def blkS (h : Nat) (hh : h + 1 ≤ 2) (oh : Nat) (hoh : oh + 128 ≤ 1792) (b : Nat) (hb : b < 14) (v1 : BitVec 32)
    (hv8 : (Scalar.indexCast (Scalar.addi 0#32 v1)).toNat + 8 * (8 - 1) < 96) (hv4 : (Scalar.indexCast (Scalar.addi 64#32 v1)).toNat + 8 * (4 - 1) < 96) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit := do
  let a80 : Vec F S1x8x128 .f32 ← Prog.lift (.load arg13 (⟨![h, 0, 0], S1x8x128.size, ![1, 8, 1], inb3s hh (by decide)⟩ : LoadRect S2x96x128) (View.loadsAt_vmem h_S1x8x128))
  let a81 : Vec F S1x8x128 .f32 ← Prog.lift (.load arg13 (⟨![h, 1, 0], S1x8x128.size, ![1, 8, 1], inb3s hh (by decide)⟩ : LoadRect S2x96x128) (View.loadsAt_vmem h_S1x8x128))
  let a82 : Vec F S1x8x128 .f32 ← Prog.lift (.load arg13 (⟨![h, 2, 0], S1x8x128.size, ![1, 8, 1], inb3s hh (by decide)⟩ : LoadRect S2x96x128) (View.loadsAt_vmem h_S1x8x128))
  let a83 : Vec F S1x8x128 .f32 ← Prog.lift (.load arg13 (⟨![h, 3, 0], S1x8x128.size, ![1, 8, 1], inb3s hh (by decide)⟩ : LoadRect S2x96x128) (View.loadsAt_vmem h_S1x8x128))
  let a84 : Vec F S1x8x128 .f32 ← Prog.lift (.load arg13 (⟨![h, 4, 0], S1x8x128.size, ![1, 8, 1], inb3s hh (by decide)⟩ : LoadRect S2x96x128) (View.loadsAt_vmem h_S1x8x128))
  let a85 : Vec F S1x8x128 .f32 ← Prog.lift (.load arg13 (⟨![h, 5, 0], S1x8x128.size, ![1, 8, 1], inb3s hh (by decide)⟩ : LoadRect S2x96x128) (View.loadsAt_vmem h_S1x8x128))
  let a86 : Vec F S1x8x128 .f32 ← Prog.lift (.load arg13 (⟨![h, 6, 0], S1x8x128.size, ![1, 8, 1], inb3s hh (by decide)⟩ : LoadRect S2x96x128) (View.loadsAt_vmem h_S1x8x128))
  let a87 : Vec F S1x8x128 .f32 ← Prog.lift (.load arg13 (⟨![h, 7, 0], S1x8x128.size, ![1, 8, 1], inb3s hh (by decide)⟩ : LoadRect S2x96x128) (View.loadsAt_vmem h_S1x8x128))
  let _f8 : Vec F S8x128 .f32 ← Prog.lift (.load arg14 (Rect.unit (s := S12x1792) ![0, oh] S8x128.size (inb2 (by decide) hoh)).toLoadRect (View.loadsAt_vmem h_S8x128))
  Prog.lift (.store arg14 (Rect.unit (s := S12x1792) ![0, oh] S8x128.size (inb2 (by decide) hoh)) (inv8 (scl8 (gmax8 a80 a81 a82 a83 a84 a85 a86 a87))) Finset.univ (View.stores_vmem_bits_univ h_S8x128 rfl) (.inl rfl))
  let _g8 : Vec F S1x8x128 .f32 ← Prog.lift (.load arg15 (⟨![b, (Scalar.indexCast (Scalar.addi 0#32 v1)).toNat, 0], S1x8x128.size, ![1, 8, 1], inb3s hb hv8⟩ : LoadRect S14x96x128) (View.loadsAt_vmem h_S1x8x128))
  Prog.lift (.store arg15 ⟨(⟨![b, (Scalar.indexCast (Scalar.addi 0#32 v1)).toNat, 0], S1x8x128.size, ![1, 8, 1], inb3s hb hv8⟩ : LoadRect S14x96x128), spos_1_8_1⟩ (osc8 (scl8 (gmax8 a80 a81 a82 a83 a84 a85 a86 a87))) Finset.univ (View.stores_vmem_bits_univ h_S1x8x128 rfl) (.inl rfl))
  let a40 : Vec F S1x4x128 .f32 ← Prog.lift (.load arg13 (⟨![h, 64, 0], S1x4x128.size, ![1, 8, 1], inb3s hh (by decide)⟩ : LoadRect S2x96x128) (View.loadsAt_vmem h_S1x4x128))
  let a41 : Vec F S1x4x128 .f32 ← Prog.lift (.load arg13 (⟨![h, 65, 0], S1x4x128.size, ![1, 8, 1], inb3s hh (by decide)⟩ : LoadRect S2x96x128) (View.loadsAt_vmem h_S1x4x128))
  let a42 : Vec F S1x4x128 .f32 ← Prog.lift (.load arg13 (⟨![h, 66, 0], S1x4x128.size, ![1, 8, 1], inb3s hh (by decide)⟩ : LoadRect S2x96x128) (View.loadsAt_vmem h_S1x4x128))
  let a43 : Vec F S1x4x128 .f32 ← Prog.lift (.load arg13 (⟨![h, 67, 0], S1x4x128.size, ![1, 8, 1], inb3s hh (by decide)⟩ : LoadRect S2x96x128) (View.loadsAt_vmem h_S1x4x128))
  let a44 : Vec F S1x4x128 .f32 ← Prog.lift (.load arg13 (⟨![h, 68, 0], S1x4x128.size, ![1, 8, 1], inb3s hh (by decide)⟩ : LoadRect S2x96x128) (View.loadsAt_vmem h_S1x4x128))
  let a45 : Vec F S1x4x128 .f32 ← Prog.lift (.load arg13 (⟨![h, 69, 0], S1x4x128.size, ![1, 8, 1], inb3s hh (by decide)⟩ : LoadRect S2x96x128) (View.loadsAt_vmem h_S1x4x128))
  let a46 : Vec F S1x4x128 .f32 ← Prog.lift (.load arg13 (⟨![h, 70, 0], S1x4x128.size, ![1, 8, 1], inb3s hh (by decide)⟩ : LoadRect S2x96x128) (View.loadsAt_vmem h_S1x4x128))
  let a47 : Vec F S1x4x128 .f32 ← Prog.lift (.load arg13 (⟨![h, 71, 0], S1x4x128.size, ![1, 8, 1], inb3s hh (by decide)⟩ : LoadRect S2x96x128) (View.loadsAt_vmem h_S1x4x128))
  let _f4 : Vec F S4x128 .f32 ← Prog.lift (.load arg14 (Rect.unit (s := S12x1792) ![8, oh] S4x128.size (inb2 (by decide) hoh)).toLoadRect (View.loadsAt_vmem h_S4x128))
  Prog.lift (.store arg14 (Rect.unit (s := S12x1792) ![8, oh] S4x128.size (inb2 (by decide) hoh)) (inv4 (scl4 (gmax4 a40 a41 a42 a43 a44 a45 a46 a47))) Finset.univ (View.stores_vmem_bits_univ h_S4x128 rfl) (.inl rfl))
  let _g4 : Vec F S1x4x128 .f32 ← Prog.lift (.load arg15 (⟨![b, (Scalar.indexCast (Scalar.addi 64#32 v1)).toNat, 0], S1x4x128.size, ![1, 8, 1], inb3s hb hv4⟩ : LoadRect S14x96x128) (View.loadsAt_vmem h_S1x4x128))
  Prog.lift (.store arg15 ⟨(⟨![b, (Scalar.indexCast (Scalar.addi 64#32 v1)).toNat, 0], S1x4x128.size, ![1, 8, 1], inb3s hb hv4⟩ : LoadRect S14x96x128), spos_1_8_1⟩ (osc4 (scl4 (gmax4 a40 a41 a42 a43 a44 a45 a46 a47))) Finset.univ (View.stores_vmem_bits_univ h_S1x4x128 rfl) (.inl rfl))
/-- One block of 256 lanes. -/
def blk (o : Nat) (ho : o + 256 ≤ 1792) (hd : 4 ∣ o) (b : Nat) (hb : b + 1 < 14) (v1 : BitVec 32)
    (hv1 : ∀ g, g < 12 → (Scalar.indexCast (Scalar.addi (BitVec.ofNat 32 (8 * g)) v1)).toNat + 1 ≤ 96)
    (hv8 : (Scalar.indexCast (Scalar.addi 0#32 v1)).toNat + 8 * (8 - 1) < 96) (hv4 : (Scalar.indexCast (Scalar.addi 64#32 v1)).toNat + 8 * (4 - 1) < 96)
    (arg1 : Memref sig .tc .vmem S1x1792x768 .i8) (harg1 : arg1.IsWhole) (arg5 : Memref sig .tc .vmem S1x1792x768 .i8) (harg5 : arg5.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit := do
  blkQ o ho hd arg5 harg5 arg7 harg7 arg14 harg14
  let wv : Vec F S1x256x768 .i8 ← Prog.lift (.load arg1 (Rect.unit (s := S1x1792x768) ![0, o, 0] S1x256x768.size (inb3 (Nat.le_refl 1) ho (Nat.le_refl 768))).toLoadRect (View.loadsAt_vmem h_S1x256x768))
  let bt : Vec F S64x256 .bf16 ← Prog.lift (.load arg11 (Rect.unit (s := S64x1792) ![0, o] S64x256.size (inb2 (by decide) ho)).toLoadRect (View.loadsAt_vmem h_S64x256))
  blkP o ho 0 (by decide) v1 hv1 (wdec wv) bt arg7 harg7 arg8 harg8 arg9 harg9 arg12 harg12 arg13 harg13
  blkP o ho 1 (by decide) v1 hv1 (wdec wv) bt arg7 harg7 arg8 harg8 arg9 harg9 arg12 harg12 arg13 harg13
  blkP o ho 2 (by decide) v1 hv1 (wdec wv) bt arg7 harg7 arg8 harg8 arg9 harg9 arg12 harg12 arg13 harg13
  blkP o ho 3 (by decide) v1 hv1 (wdec wv) bt arg7 harg7 arg8 harg8 arg9 harg9 arg12 harg12 arg13 harg13
  blkS 0 (by decide) o (Nat.le_trans (Nat.add_le_add_left (by decide) o) ho) b (Nat.lt_of_succ_lt hb) v1 hv8 hv4 arg13 harg13 arg14 harg14 arg15 harg15
  blkS 1 (by decide) (o + 128) ho (b + 1) hb v1 hv8 hv4 arg13 harg13 arg14 harg14 arg15 harg15

end Cert.KernelIdeal.Hand

end

end
-- ==== Proof.Val.Pure.lean ====
/-
  What the block's vector computations hold at one place, over the extended reals.
-/
module

public import proofs.«01_k».proof.Proof.Val.Block
public import Idealize.ShloMosaic.Lib.ValueIdx
public import Idealize.ShloMosaic.Lib.ValueIdxCore
public import Idealize.ShloMosaic.Lib.Pipeline.Value
public import Idealize.ShloMosaic.Lib.MatmulPlain
public import Idealize.ShloMosaic.Lib.Bf16Pair

@[expose] public section

noncomputable section

namespace Cert.KernelIdeal.Hand

open Cert.KernelIdeal Cert.KernelIdeal.Gen
open Idealize.ShloMosaic Idealize.ShloMosaic.ValueIdx

theorem rm2 {n0 n1 : Nat} (a : Fin n0) (b : Fin n1) : ((⟨2, ![n0, n1]⟩ : Shape).rowMajor (ix2 a b)).val = a.val * n1 + b.val :=
  Shape.rowMajor_val_two _

theorem rm3 {n0 n1 n2 : Nat} (a : Fin n0) (b : Fin n1) (c : Fin n2) :
    ((⟨3, ![n0, n1, n2]⟩ : Shape).rowMajor (ix3 a b c)).val = (a.val * n1 + b.val) * n2 + c.val :=
  Shape.rowMajor_val_three _

/-! ## The packed codes -/

/-- The 4-bit code of a sum at a reciprocal scale. -/
def qcode (x i : EReal) : BitVec 4 :=
  Ideal.fptosi 4 (Ideal.liftRound Ideal.roundHalfEven
    (min (Scalar.sitofp (F := Ideal) .f32 (7#32 : BitVec 32)) (max (Scalar.sitofp (F := Ideal) .f32 (4294967289#32 : BitVec 32)) (x * i))))

/-- Two 4-bit codes in a byte. -/
def pk (lo hi : BitVec 4) : BitVec 8 :=
  IntOp.ori (IntOp.andi (lo.signExtend 32) 15#32) (IntOp.shli .vector (IntOp.andi (hi.signExtend 32) 15#32) 4#32) |>.setWidth 8

theorem pairRow {α : Type} (V : S64x256.Idx → α) (p : Nat) (hp : p < 2) (hs : S32x2x256.Slices ![0, p, 0] S32x1x256) (b : Fin 32) (n : Fin 256) :
    shapeCast S32x256 (extractStridedSlice S32x1x256 ![0, p, 0] (shapeCast S32x2x256 V shapeCasts_S64x256_S32x2x256) hs)
      shapeCasts_S32x1x256_S32x256 (ix2 b n) = V (ix2 ⟨2 * b.val + p, by omega⟩ n) := by
  rw [shapeCast_apply _ _ (ix2 b n) (ix3 b 0 n) (by
    rw [rm3, rm2]; simp)]
  rw [extractStridedSlice_apply _ _ _ (ix3 b 0 n) (ix3 b ⟨p, hp⟩ n) (by
    intro a; fin_cases a <;> simp)]
  rw [shapeCast_apply _ _ (ix3 b ⟨p, hp⟩ n) (ix2 ⟨2 * b.val + p, by omega⟩ n) (by
    rw [rm3, rm2]; show (2 * b.val + p) * 256 + n.val = (b.val * 2 + p) * 256 + n.val; omega)]

theorem qpay_apply (x : Vec Ideal S64x256 .f32) (y : Vec Ideal S1x256 .f32) (b : Fin 32) (n : Fin 256) :
    qpay x y (ix2 b n) = pk (qcode (x (ix2 ⟨2 * b.val, by omega⟩ n)) (y (ix2 0 n))) (qcode (x (ix2 ⟨2 * b.val + 1, by omega⟩ n)) (y (ix2 0 n))) := by
  have hv : ∀ r : Fin 64, broadcastTo S64x256 y broadcasts_S1x256_S64x256 (ix2 r n) = y (ix2 0 n) := fun r =>
    broadcastTo_apply _ _ _ _ (by intro a; fin_cases a <;> simp)
  have hq : ∀ r : Fin 64, extsi 32 (fptosi 4 (roundeven (minimumf (broadcast S64x256 (Scalar.sitofp (F := Ideal) FTy.f32 7#32))
      (maximumf (broadcast S64x256 (Scalar.sitofp (F := Ideal) FTy.f32 4294967289#32)) (mulf x (broadcastTo S64x256 y broadcasts_S1x256_S64x256))))))
      natLt_4_32 (ix2 r n) = (qcode (x (ix2 r n)) (y (ix2 0 n))).signExtend 32 := fun r => by
    rw [← hv r]; rfl
  unfold qpay
  show (IntOp.ori (IntOp.andi (shapeCast S32x256 _ _ (ix2 b n)) 15#32) (IntOp.shli .vector (IntOp.andi (shapeCast S32x256 _ _ (ix2 b n)) 15#32) 4#32)).setWidth 8 = _
  rw [pairRow _ 0 (by decide), pairRow _ 1 (by decide), hq, hq]
  rfl

theorem qcat_apply (f : Fin 24 → IVec S32x256 8) (n : Fin 256) (b : Fin 768) :
    qcat (f 0) (f 1) (f 2) (f 3) (f 4) (f 5) (f 6) (f 7) (f 8) (f 9) (f 10) (f 11) (f 12) (f 13) (f 14) (f 15) (f 16) (f 17) (f 18) (f 19)
      (f 20) (f 21) (f 22) (f 23) (ix3 0 n b) = f ⟨b.val / 32, by omega⟩ (ix2 ⟨b.val % 32, by omega⟩ n) := by
  unfold qcat
  dsimp only
  rw [shapeCast_apply _ _ (ix3 0 n b) (ix2 n b) (by
    rw [rm3, rm2]; simp)]
  rw [transpose_apply _ _ _ (ix2 n b) (ix2 b n) (by intro a; fin_cases a <;> rfl)]
  exact concatenate_ofFn_apply (t := S768x256) (s₁ := S32x256) 0 f concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S768x256_d0 rfl 32 rfl (ix2 b n) ⟨b.val / 32, by omega⟩ rfl
    (ix2 ⟨b.val % 32, by omega⟩ n) rfl (by intro a ha; fin_cases a <;> first | exact absurd rfl ha | rfl)

/-! ## The weight codes and their scales -/

/-- The signed code of one row of a byte: row `d` reads the low half of its byte when even, the high half when odd. -/
def nibOf (w : BitVec 8) (odd : Bool) : BitVec 4 :=
  (if odd then IntOp.shrsi .vector (w.setWidth 32) 4#32 else IntOp.andi (w.setWidth 32) 15#32).setWidth 4

theorem wdec_apply (w : IVec S1x256x768 8) (d : Fin 1536) (n : Fin 256) :
    wdec (F := Ideal) w (ix2 d n) = nibOf (w (ix3 0 n ⟨d.val / 2, by omega⟩)) (d.val % 2 == 1) := by
  have hrow : ∀ k : Fin 768, transpose S768x256 [1, 0] (shapeCast S256x768 w shapeCasts_S1x256x768_S256x768) transposes_S256x768_p1_0_S768x256
      (ix2 k n) = w (ix3 0 n k) := fun k => by
    rw [transpose_apply _ _ _ (ix2 k n) (ix2 n k) (by intro a; fin_cases a <;> rfl)]
    rw [shapeCast_apply _ _ (ix2 n k) (ix3 0 n k) (by
      rw [rm3, rm2]; simp)]
  have hcast : ∀ (V : IVec S768x256 32) (k : Fin 768), shapeCast S768x1x256 V shapeCasts_S768x256_S768x1x256 (ix3 k 0 n) = V (ix2 k n) := fun V k =>
    shapeCast_apply _ _ _ _ (by rw [rm3, rm2]; simp)
  unfold wdec
  dsimp only
  show BitVec.setWidth 4 (shapeCast S1536x256 _ _ (ix2 d n)) = _
  unfold nibOf
  rcases Nat.mod_two_eq_zero_or_one d.val with h | h
  · rw [shapeCast_apply _ _ (ix2 d n) (ix3 ⟨d.val / 2, by omega⟩ 0 n) (by
      rw [rm3, rm2]; simp; omega)]
    rw [concatenate_apply_piece (t := S768x2x256) 1 _ _ (ix3 ⟨d.val / 2, by omega⟩ 0 n) 0 (by simp) S768x1x256 _ rfl rfl 0 rfl
      (ix3 ⟨d.val / 2, by omega⟩ 0 n) (by intro a ha; fin_cases a <;> first | exact absurd rfl ha | rfl) rfl]
    rw [hcast, h, if_neg (by decide)]
    rw [← hrow]; rfl
  · rw [shapeCast_apply _ _ (ix2 d n) (ix3 ⟨d.val / 2, by omega⟩ 1 n) (by
      rw [rm3, rm2]; simp; omega)]
    rw [concatenate_apply_piece (t := S768x2x256) 1 _ _ (ix3 ⟨d.val / 2, by omega⟩ 1 n) 1 (by simp) S768x1x256 _ rfl rfl 1 rfl
      (ix3 ⟨d.val / 2, by omega⟩ 0 n) (by intro a ha; fin_cases a <;> first | exact absurd rfl ha | rfl) rfl]
    rw [hcast, h, if_pos (by decide)]
    rw [← hrow]; rfl

theorem ilv_apply {α : Type} (lo hi : S1x256.Idx → α) (n : Fin 256) :
    interleaveRows S2x256 lo hi bitcasts_S2x256_w16_S1x256_w32 (ix2 0 n) = lo (ix2 0 n) := by
  unfold interleaveRows
  have h : S2x256.row (ix2 0 n) % 2 = 0 := rfl
  simp only [h, if_true]
  refine congrArg lo ?_
  funext a
  fin_cases a
  · exact Fin.ext (by simp)
  · exact Fin.ext (by simp)

theorem deq_apply (r : Nat) (hr : r + 64 ≤ 1536) (q : IVec S1536x256 4) (s : Vec Ideal S1x2x256 .bf16) (k : Fin 64) (n : Fin 256) :
    deq (F := Ideal) r hr q s (ix2 k n) = Scalar.sitofp (F := Ideal) .bf16 (q (ix2 ⟨r + k.val, by omega⟩ n)) * s (ix3 0 0 n) := by
  unfold deq
  rw [mulf_apply]
  have h1 : extractStridedSlice S64x256 ![r, 0] q (slc hr (Nat.le_refl 256)) (ix2 k n) = q (ix2 ⟨r + k.val, by omega⟩ n) :=
    extractStridedSlice_apply _ _ _ _ _ (by intro a; fin_cases a <;> simp)
  have h2 : ∀ V : FVec Ideal S1x256 .bf16, broadcastTo S64x256 (shapeCast S1x256 V shapeCasts_S1x256_S1x256) broadcasts_S1x256_S64x256 (ix2 k n) = V (ix2 0 n) := fun V => by
    rw [shapeCast_self, broadcastTo_apply _ _ _ (ix2 0 n) (by intro a; fin_cases a <;> simp)]
  rw [h2]
  rw [extractStridedSlice_apply _ _ _ (ix2 0 n) (ix2 0 n) (by intro a; fin_cases a <;> simp)]
  rw [sitofp_apply, h1]
  congr 1
  rw [ilv_apply, shapeCast_apply _ _ (ix2 0 n) (ix3 0 0 n) (by rw [rm3, rm2]; simp)]
  refine congrArg s ?_
  funext a; fin_cases a <;> rfl

theorem ofb0 : Ideal.ofBits .f32 0x00000000#32 = 0 := by simp [Ideal.ofBits, Ideal.ieee]

/-! ## One tile of sums -/

/-- Three blocks of 64 rows and a fourth, stacked: the first three blocks' rows. -/
theorem cat4_row (d0 d1 d2 d3 : S64x256.Idx → EReal) (D : Fin 192 → Fin 256 → EReal) (n : Fin 256)
    (h0 : ∀ k : Fin 64, d0 (ix2 k n) = D ⟨k.val, by omega⟩ n) (h1 : ∀ k : Fin 64, d1 (ix2 k n) = D ⟨64 + k.val, by omega⟩ n)
    (h2 : ∀ k : Fin 64, d2 (ix2 k n) = D ⟨128 + k.val, by omega⟩ n) (k : Fin 192) :
    concatenate S256x256 0 [⟨S64x256, d0⟩, ⟨S64x256, d1⟩, ⟨S64x256, d2⟩, ⟨S64x256, d3⟩] concatenates_S64x256_S64x256_S64x256_S64x256_S256x256_d0
      (ix2 (Fin.castAdd 64 k) n) = D k n := by
  by_cases c0 : k.val < 64
  · rw [concatenate_apply_piece (t := S256x256) 0 _ _ _ 0 (by simp) S64x256 _ rfl rfl 0 rfl (ix2 ⟨k.val, c0⟩ n)
      (by intro a ha; fin_cases a <;> first | exact absurd rfl ha | rfl) (Nat.zero_add _)]
    exact h0 ⟨k.val, c0⟩
  · by_cases c1 : k.val < 128
    · rw [concatenate_apply_piece (t := S256x256) 0 _ _ _ 1 (by simp) S64x256 _ rfl rfl 64 rfl (ix2 ⟨k.val - 64, by omega⟩ n)
        (by intro a ha; fin_cases a <;> first | exact absurd rfl ha | rfl) (by show 64 + (k.val - 64) = k.val; omega)]
      rw [h1]; exact congrArg (fun z => D z n) (Fin.ext (by show 64 + (k.val - 64) = k.val; omega))
    · rw [concatenate_apply_piece (t := S256x256) 0 _ _ _ 2 (by simp) S64x256 _ rfl rfl 128 rfl (ix2 ⟨k.val - 128, by omega⟩ n)
        (by intro a ha; fin_cases a <;> first | exact absurd rfl ha | rfl) (by show 128 + (k.val - 128) = k.val; omega)]
      rw [h2]; exact congrArg (fun z => D z n) (Fin.ext (by show 128 + (k.val - 128) = k.val; omega))

/-- The fourth block's rows. -/
theorem cat4_last (d0 d1 d2 d3 : S64x256.Idx → EReal) (n : Fin 256) (k : Fin 64) :
    concatenate S256x256 0 [⟨S64x256, d0⟩, ⟨S64x256, d1⟩, ⟨S64x256, d2⟩, ⟨S64x256, d3⟩] concatenates_S64x256_S64x256_S64x256_S64x256_S256x256_d0
      (ix2 (Fin.natAdd 192 k) n) = d3 (ix2 k n) :=
  concatenate_apply_piece (t := S256x256) 0 _ _ _ 3 (by simp) S64x256 _ rfl rfl 192 rfl (ix2 k n)
    (by intro a ha; fin_cases a <;> first | exact absurd rfl ha | rfl) rfl

/-- Two blocks of 128 lanes side by side. -/
theorem cat2_lo (x y : S192x128.Idx → EReal) (r : Fin 192) (k : Fin 256) (h : k.val < 128) :
    concatenate S192x256 1 [⟨S192x128, x⟩, ⟨S192x128, y⟩] concatenates_S192x128_S192x128_S192x256_d1 (ix2 r k) = x (ix2 r ⟨k.val, h⟩) :=
  concatenate_apply_piece (t := S192x256) 1 _ _ _ 0 (by simp) S192x128 _ rfl rfl 0 rfl (ix2 r ⟨k.val, h⟩)
    (by intro a ha; fin_cases a <;> first | exact absurd rfl ha | rfl) (by simp)
theorem cat2_hi (x y : S192x128.Idx → EReal) (r : Fin 192) (k : Fin 256) (h : 128 ≤ k.val) :
    concatenate S192x256 1 [⟨S192x128, x⟩, ⟨S192x128, y⟩] concatenates_S192x128_S192x128_S192x256_d1 (ix2 r k) = y (ix2 r ⟨k.val - 128, by omega⟩) :=
  concatenate_apply_piece (t := S192x256) 1 _ _ _ 1 (by simp) S192x128 _ rfl rfl 128 rfl (ix2 r ⟨k.val - 128, by omega⟩)
    (by intro a ha; fin_cases a <;> first | exact absurd rfl ha | rfl) (by show 128 + (k.val - 128) = k.val; omega)

/-- The diagonal's weight. -/
def c25 : EReal := Ideal.ofBits .f32 0x40200000#32

/-- The left operand: the weight on the diagonal of the first 192 lanes, then the 40 adapter columns. -/
def lhsL (r : Fin 192) (k : Fin 128) : EReal := if r.val = k.val then c25 else 0
def lhsR (a : Fin 40 → EReal) (r : Fin 192) (l : Fin 128) : EReal :=
  if l.val < 64 then (if r.val = 128 + l.val then c25 else 0) else if h : l.val < 104 then a ⟨l.val - 64, by omega⟩ else 0

theorem tile_apply (d0 d1 d2 bt : FVec Ideal S64x256 .bf16) (x y : Vec Ideal S192x128 .bf16) (D : Fin 192 → Fin 256 → EReal)
    (a b : Fin 40 → EReal) (r : Fin 192) (n : Fin 256)
    (h0 : ∀ k : Fin 64, d0 (ix2 k n) = D ⟨k.val, by omega⟩ n) (h1 : ∀ k : Fin 64, d1 (ix2 k n) = D ⟨64 + k.val, by omega⟩ n)
    (h2 : ∀ k : Fin 64, d2 (ix2 k n) = D ⟨128 + k.val, by omega⟩ n)
    (hb : ∀ k : Fin 64, bt (ix2 k n) = if h : k.val < 40 then b ⟨k.val, h⟩ else 0)
    (hx : ∀ k, x (ix2 r k) = lhsL r k) (hy : ∀ l, y (ix2 r l) = lhsR a r l) :
    tile d0 d1 d2 bt x y (ix2 r n) = c25 * D r n + ∑ k : Fin 40, a k * b k := by
  unfold tile
  refine (Ideal.matmul_plain_apply (M := 192) (K := 256) (N := 256) none _ _ _ r n).trans ?_
  rw [constant_apply, ofb0, zero_add]
  refine (Fin.sum_univ_add (a := 192) (b := 64) _).trans ?_
  congr 1
  · have : ∀ k : Fin 192, concatenate S192x256 1 [⟨S192x128, x⟩, ⟨S192x128, y⟩] concatenates_S192x128_S192x128_S192x256_d1 (ix2 r (Fin.castAdd 64 k))
        * concatenate S256x256 0 [⟨S64x256, d0⟩, ⟨S64x256, d1⟩, ⟨S64x256, d2⟩, ⟨S64x256, bt⟩] concatenates_S64x256_S64x256_S64x256_S64x256_S256x256_d0
          (ix2 (Fin.castAdd 64 k) n) = if k = r then c25 * D r n else 0 := by
      intro k
      rw [cat4_row d0 d1 d2 bt D n h0 h1 h2 k]
      by_cases hk : k.val < 128
      · rw [cat2_lo x y r _ hk, hx]
        unfold lhsL
        by_cases e : k = r
        · subst e; simp
        · rw [if_neg (fun h => e (Fin.ext h.symm)), if_neg e, zero_mul]
      · rw [cat2_hi x y r _ (by show 128 ≤ k.val; omega), hy]
        unfold lhsR
        rw [if_pos (by show k.val - 128 < 64; omega)]
        by_cases e : k = r
        · subst e; rw [if_pos (by show k.val = 128 + (k.val - 128); omega), if_pos rfl]
        · rw [if_neg (fun h => e (Fin.ext (by have : r.val = 128 + (k.val - 128) := h; omega))), if_neg e, zero_mul]
    rw [Finset.sum_congr rfl fun k _ => this k, Finset.sum_ite_eq' Finset.univ r, if_pos (Finset.mem_univ r)]
  · have : ∀ k : Fin 64, concatenate S192x256 1 [⟨S192x128, x⟩, ⟨S192x128, y⟩] concatenates_S192x128_S192x128_S192x256_d1 (ix2 r (Fin.natAdd 192 k))
        * concatenate S256x256 0 [⟨S64x256, d0⟩, ⟨S64x256, d1⟩, ⟨S64x256, d2⟩, ⟨S64x256, bt⟩] concatenates_S64x256_S64x256_S64x256_S64x256_S256x256_d0
          (ix2 (Fin.natAdd 192 k) n) = if h : k.val < 40 then a ⟨k.val, h⟩ * b ⟨k.val, h⟩ else 0 := by
      intro k
      rw [cat4_last, cat2_hi x y r _ (by show 128 ≤ 192 + k.val; omega), hy, hb]
      unfold lhsR
      rw [if_neg (by show ¬ 192 + k.val - 128 < 64; omega)]
      by_cases e : k.val < 40
      · rw [dif_pos (by show 192 + k.val - 128 < 104; omega), dif_pos e, dif_pos e]
        exact congrArg (fun z => a z * _) (Fin.ext (by show 192 + k.val - 128 - 64 = k.val; omega))
      · rw [dif_neg e, dif_neg e, mul_zero]
    rw [Finset.sum_congr rfl fun k _ => this k]
    refine (Fin.sum_univ_add (a := 40) (b := 24) _).trans ?_
    rw [Finset.sum_eq_zero (s := Finset.univ) (f := fun i : Fin 24 => _) (fun i _ => dif_neg (by show ¬ 40 + i.val < 40; omega)), add_zero]
    exact Finset.sum_congr rfl fun k _ => dif_pos (show (Fin.castAdd 24 k).val < 40 from k.isLt)

theorem tcast_eq (v : FVec Ideal S192x256 .f32) : tcast v = v := shapeCast_self _ _

/-! ## Largest magnitudes -/

/-- The magnitude of a sum. -/
def mag (x : EReal) : EReal := FloatOps.absf (F := Ideal) (φ := .f32) x

theorem catT_apply (v w : FVec Ideal S192x256 .f32) (M : Nat → EReal) (n : Fin 256)
    (hv : ∀ k : Fin 192, v (ix2 k n) = M k.val) (hw : ∀ k : Fin 192, w (ix2 k n) = M (192 + k.val)) (k : Fin 384) :
    concatenate S384x256 0 [⟨S192x256, v⟩, ⟨S192x256, w⟩] concatenates_S192x256_S192x256_S384x256_d0 (ix2 k n) = M k.val := by
  by_cases c0 : k.val < 192
  · rw [concatenate_apply_piece (t := S384x256) 0 _ _ _ 0 (by simp) S192x256 _ rfl rfl 0 rfl (ix2 ⟨k.val, c0⟩ n)
      (by intro a ha; fin_cases a <;> first | exact absurd rfl ha | rfl) (Nat.zero_add _)]
    exact hv ⟨k.val, c0⟩
  · rw [concatenate_apply_piece (t := S384x256) 0 _ _ _ 1 (by simp) S192x256 _ rfl rfl 192 rfl (ix2 ⟨k.val - 192, by omega⟩ n)
      (by intro a ha; fin_cases a <;> first | exact absurd rfl ha | rfl) (by show 192 + (k.val - 192) = k.val; omega)]
    rw [hw]; exact congrArg M (by show 192 + (k.val - 192) = k.val; omega)

theorem amax_le (o : Nat) (ho : o + 128 ≤ 384) (v w : FVec Ideal S192x256 .f32) (M : Nat → EReal) (n : Fin 256)
    (hv : ∀ k : Fin 192, v (ix2 k n) = M k.val) (hw : ∀ k : Fin 192, w (ix2 k n) = M (192 + k.val))
    (s : Fin 8) (z : EReal) :
    amax o ho v w (ix2 s n) ≤ z ↔ ∀ j : Fin 16, mag (M (o + 8 * j.val + s.val)) ≤ z := by
  have hs : ∀ (q : Nat) (h : S384x256.Slices ![q, 0] S8x256), absf (extractStridedSlice S8x256 ![q, 0]
      (concatenate S384x256 0 [⟨S192x256, v⟩, ⟨S192x256, w⟩] concatenates_S192x256_S192x256_S384x256_d0) h) (ix2 s n)
      = mag (M (q + s.val)) := fun q h => by
    have hq : q + 8 ≤ 384 := h.2 0
    show mag (extractStridedSlice S8x256 _ _ _ (ix2 s n)) = _
    rw [extractStridedSlice_apply _ _ _ (ix2 s n) (ix2 ⟨q + s.val, by omega⟩ n) (by intro a; fin_cases a <;> simp)]
    rw [catT_apply v w M n hv hw]
  unfold amax
  simp only [maximumf_apply, max_le_iff, hs, Fin.forall_fin_succ, and_assoc]
  simp [Fin.succ]

theorem half_apply (o : Nat) (ho : o + 128 ≤ 256) (v : FVec Ideal S8x256 .f32) (s : Fin 8) (l : Fin 128) :
    half o ho v (ix3 0 s l) = v (ix2 s ⟨o + l.val, by omega⟩) := by
  unfold half
  rw [shapeCast_apply _ _ (ix3 0 s l) (ix2 s l) (by rw [rm3, rm2]; simp)]
  exact extractStridedSlice_apply _ _ _ _ _ (by intro a; fin_cases a <;> simp)

theorem gmax8_le (v : Fin 8 → Vec Ideal S1x8x128 .f32) (g : Fin 8) (l : Fin 128) (z : EReal) :
    gmax8 (v 0) (v 1) (v 2) (v 3) (v 4) (v 5) (v 6) (v 7) (ix2 g l) ≤ z ↔ ∀ s : Fin 8, v s (ix3 0 g l) ≤ z := by
  have hc : ∀ x : Vec Ideal S1x8x128 .f32, shapeCast S8x128 x shapeCasts_S1x8x128_S8x128 (ix2 g l) = x (ix3 0 g l) := fun x =>
    shapeCast_apply _ _ _ _ (by rw [rm3, rm2]; simp)
  unfold gmax8
  simp only [maximumf_apply, max_le_iff, hc, Fin.forall_fin_succ, and_assoc]
  simp [Fin.succ]

theorem gmax4_le (v : Fin 8 → Vec Ideal S1x4x128 .f32) (g : Fin 4) (l : Fin 128) (z : EReal) :
    gmax4 (v 0) (v 1) (v 2) (v 3) (v 4) (v 5) (v 6) (v 7) (ix2 g l) ≤ z ↔ ∀ s : Fin 8, v s (ix3 0 g l) ≤ z := by
  have hc : ∀ x : Vec Ideal S1x4x128 .f32, shapeCast S4x128 x shapeCasts_S1x4x128_S4x128 (ix2 g l) = x (ix3 0 g l) := fun x =>
    shapeCast_apply _ _ _ _ (by rw [rm3, rm2]; simp)
  unfold gmax4
  simp only [maximumf_apply, max_le_iff, hc, Fin.forall_fin_succ, and_assoc]
  simp [Fin.succ]

/-! ## Scales -/

/-- The named constant 2/5. -/
def cL : EReal := Named.named (F := Ideal) κ "lora_scale" (φ := .f32) 0x3ECCCCCD#32

/-- A group's scale, from its largest magnitude before the constant is applied. -/
def sclOf (x : EReal) : EReal :=
  Scalar.select (FloatOps.cmpf (F := Ideal) (φ := .f32) .oeq (x * cL) (Ideal.ofBits .f32 0x00000000#32)) (Ideal.ofBits .f32 0x3F800000#32)
    (Ideal.div (x * cL) (Ideal.ofBits .f32 0x40E00000#32))

theorem scl8_apply (x : FVec Ideal S8x128 .f32) (i : S8x128.Idx) : scl8 x i = sclOf (x i) := rfl
theorem scl4_apply (x : FVec Ideal S4x128 .f32) (i : S4x128.Idx) : scl4 x i = sclOf (x i) := rfl
theorem inv8_apply (x : FVec Ideal S8x128 .f32) (i : S8x128.Idx) : inv8 x i = Ideal.div cL (x i) := by
  unfold inv8; rw [shapeCast_self]; rfl
theorem inv4_apply (x : FVec Ideal S4x128 .f32) (i : S4x128.Idx) : inv4 x i = Ideal.div cL (x i) := by
  unfold inv4; rw [shapeCast_self]; rfl
theorem osc8_apply (x : FVec Ideal S8x128 .f32) (g : Fin 8) (l : Fin 128) : osc8 x (ix3 0 g l) = x (ix2 g l) :=
  shapeCast_apply _ _ _ _ (by rw [rm3, rm2]; simp)
theorem osc4_apply (x : FVec Ideal S4x128 .f32) (g : Fin 4) (l : Fin 128) : osc4 x (ix3 0 g l) = x (ix2 g l) :=
  shapeCast_apply _ _ _ _ (by rw [rm3, rm2]; simp)

end Cert.KernelIdeal.Hand

end

end
-- ==== Proof.Val.Ok.lean ====
/-
  Running straight-line stretches of the kernel body over a record of what the fifteen buffers hold: a load continues at the entries it
  reads, a store replaces the entries of its rectangle.
-/
module

public import proofs.«01_k».proof.Proof.Val.Run
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Contents `X` with the entries of a rectangle replaced. -/
def put {α : Type} {s : Shape} (r : Rect s) (w : r.shape.Idx → α) (X : s.Idx → α) : s.Idx → α := by
  classical exact fun y => if h : ∃ x, r.emb x = y then w h.choose else X y

theorem put_emb {α : Type} {s : Shape} (r : Rect s) (w : r.shape.Idx → α) (X : s.Idx → α) (x : r.shape.Idx) :
    put r w X (r.emb x) = w x := by
  have h : ∃ x', r.emb x' = r.emb x := ⟨x, rfl⟩
  unfold put
  rw [dif_pos h]
  exact congrArg w (r.emb.injective h.choose_spec)

theorem put_hit {α : Type} {s : Shape} (r : Rect s) (w : r.shape.Idx → α) (X : s.Idx → α) (x : r.shape.Idx) (y : s.Idx)
    (hx : ∀ a, (y a).val = r.off a + r.stride a * (x a).val) : put r w X y = w x := by
  rw [← r.emb_eq_of_coords x y hx, put_emb]

theorem put_miss {α : Type} {s : Shape} (r : Rect s) (w : r.shape.Idx → α) (X : s.Idx → α) (y : s.Idx)
    (h : y ∉ r.set) : put r w X y = X y := by
  unfold put
  rw [dif_neg]
  rintro ⟨x, rfl⟩
  exact h (by rw [← r.map_emb_univ]; exact Finset.mem_map_of_mem _ (Finset.mem_univ x))

/-- A write through a rectangle of a view, read back through the view. -/
theorem read_put {sig' : RefSig} {Val : EltTy → Type} {κ : Kind} {sp : Space} {s : Shape} {e : EltTy} (v : View sig' κ sp s e) (r : Rect s)
    (f : v.ty.Contents Val) (w : r.shape.Idx → Val e) :
    v.read Val ((v.slice r).write Val f w Finset.univ) = put r w (v.read Val f) := by
  funext y
  by_cases hy : y ∈ r.set
  · obtain ⟨x, rfl⟩ : ∃ x, r.emb x = y := r.exists_idx_of_mem hy
    rw [put_emb]
    exact View.read_writes_cons_emb v f r w [] x
  · rw [put_miss r w _ y hy]
    exact View.read_writes_cons_miss v f ⟨r, w⟩ [] y hy

/-- A load through a held memref continues at the entries it reads. -/
theorem owns_load (c : Dev nD) {s : Shape} {e : EltTy} (m : Memref sig .tc .vmem s e) (hm : m.IsWhole) (X : s.Idx → Elt F e) (r : LoadRect s)
    (hl : m.view.LoadsAt r) {β : Type} (k : (r.shape.Idx → Elt F e) → Prog (TpuEff nD τ sig (Elt F) Λ₀ .tc) β) (Q : β → sProp 𝕄) :
    owns (c : Thread nD τ) m fullShare X
      ⊢ iprop((owns (c : Thread nD τ) m fullShare X -∗ wp frame (wpE (defs₀ (F := F)) Variants.none c none) Set.univ (k (fun x => X (r.idx x))) Q)
        -∗ wp frame (wpE (defs₀ (F := F)) Variants.none c none) Set.univ (Prog.lift (.load m r hl) >>= k) Q) := by
  show _ ⊢ iprop(_ -∗ wp frame (wpE (defs₀ (F := F)) Variants.none c none) Set.univ (.op (.load m r hl) k) Q)
  unfold owns
  simp only [hm.set_eq_univ]
  iintro ⟨%f, %e, H⟩ Hk
  subst e
  iapply (wp_load (defs := defs₀ (F := F)) Variants.none (c : Thread nD τ) none Set.univ (hl := hl) (k := k) (Q := Q) (Finset.subset_univ _)) $$ H
  iintro H
  iapply Hk
  iexists f
  isplitr [H]
  · ipureintro; rfl
  · iexact H

/-- A store through a held memref replaces the entries of its rectangle. -/
theorem owns_store (c : Dev nD) {s : Shape} {e : EltTy} (m : Memref sig .tc .vmem s e) (hm : m.IsWhole) (X : s.Idx → Elt F e) (r : Rect s)
    (w : r.shape.Idx → Elt F e) (hx : (m.access r).Stores Finset.univ) (hu : (Finset.univ : Finset r.shape.Idx) = Finset.univ ∨ ∀ a, r.stride a = 1)
    {β : Type} (k : PUnit → Prog (TpuEff nD τ sig (Elt F) Λ₀ .tc) β) (Q : β → sProp 𝕄) :
    owns (c : Thread nD τ) m fullShare X
      ⊢ iprop((owns (c : Thread nD τ) m fullShare (put r w X) -∗ wp frame (wpE (defs₀ (F := F)) Variants.none c none) Set.univ (k ⟨⟩) Q)
        -∗ wp frame (wpE (defs₀ (F := F)) Variants.none c none) Set.univ (Prog.lift (.store m r w Finset.univ hx hu) >>= k) Q) := by
  show _ ⊢ iprop(_ -∗ wp frame (wpE (defs₀ (F := F)) Variants.none c none) Set.univ (.op (.store m r w Finset.univ hx hu) k) Q)
  unfold owns
  simp only [hm.set_eq_univ]
  iintro ⟨%f, %e, H⟩ Hk
  subst e
  iapply (wp_store (defs := defs₀ (F := F)) Variants.none (c : Thread nD τ) none Set.univ (hx := hx) (k := k) (Q := Q) (Finset.subset_univ _)) $$ H
  iintro H
  iapply Hk
  iexists _
  isplitr [H]
  swap
  · iexact H
  · ipureintro; exact read_put m.view r f w

/-- The fifteen operands of the body. -/
structure Ops where
  m1 : Memref sig .tc .vmem S1x1792x768 .i8
  h1 : m1.IsWhole
  m2 : Memref sig .tc .vmem S12x8x1792 .bf16
  h2 : m2.IsWhole
  m3 : Memref sig .tc .vmem S1x40x1536 .bf16
  h3 : m3.IsWhole
  m4 : Memref sig .tc .vmem S1x40x1792 .bf16
  h4 : m4.IsWhole
  m5 : Memref sig .tc .vmem S1x1792x768 .i8
  h5 : m5.IsWhole
  m6 : Memref sig .tc .vmem S12x8x1792 .bf16
  h6 : m6.IsWhole
  m7 : Memref sig .tc .vmem S1536x1792 .f32
  h7 : m7.IsWhole
  m8 : Memref sig .tc .vmem S192x128 .bf16
  h8 : m8.IsWhole
  m9 : Memref sig .tc .vmem S1536x128 .bf16
  h9 : m9.IsWhole
  m10 : Memref sig .tc .vmem S128x1536 .bf16
  h10 : m10.IsWhole
  m11 : Memref sig .tc .vmem S64x1792 .bf16
  h11 : m11.IsWhole
  m12 : Memref sig .tc .vmem S96x2x1792 .bf16
  h12 : m12.IsWhole
  m13 : Memref sig .tc .vmem S2x96x128 .f32
  h13 : m13.IsWhole
  m14 : Memref sig .tc .vmem S12x1792 .f32
  h14 : m14.IsWhole
  m15 : Memref sig .tc .vmem S14x96x128 .f32
  h15 : m15.IsWhole

/-- What the fifteen buffers hold. -/
structure St (F : FTy → Type) where
  a1 : S1x1792x768.Idx → Elt F .i8
  a2 : S12x8x1792.Idx → Elt F .bf16
  a3 : S1x40x1536.Idx → Elt F .bf16
  a4 : S1x40x1792.Idx → Elt F .bf16
  a5 : S1x1792x768.Idx → Elt F .i8
  a6 : S12x8x1792.Idx → Elt F .bf16
  a7 : S1536x1792.Idx → Elt F .f32
  a8 : S192x128.Idx → Elt F .bf16
  a9 : S1536x128.Idx → Elt F .bf16
  a10 : S128x1536.Idx → Elt F .bf16
  a11 : S64x1792.Idx → Elt F .bf16
  a12 : S96x2x1792.Idx → Elt F .bf16
  a13 : S2x96x128.Idx → Elt F .f32
  a14 : S12x1792.Idx → Elt F .f32
  a15 : S14x96x128.Idx → Elt F .f32

/-- The fifteen buffers held whole at the record's contents. -/
def own (c : Dev nD) (A : Ops) (σ : St F) : sProp 𝕄 :=
  iprop(owns (c : Thread nD τ) A.m1 fullShare σ.a1 ∗ owns (c : Thread nD τ) A.m2 fullShare σ.a2 ∗ owns (c : Thread nD τ) A.m3 fullShare σ.a3 ∗ owns (c : Thread nD τ) A.m4 fullShare σ.a4 ∗ owns (c : Thread nD τ) A.m5 fullShare σ.a5 ∗ owns (c : Thread nD τ) A.m6 fullShare σ.a6 ∗ owns (c : Thread nD τ) A.m7 fullShare σ.a7 ∗ owns (c : Thread nD τ) A.m8 fullShare σ.a8 ∗ owns (c : Thread nD τ) A.m9 fullShare σ.a9 ∗ owns (c : Thread nD τ) A.m10 fullShare σ.a10 ∗ owns (c : Thread nD τ) A.m11 fullShare σ.a11 ∗ owns (c : Thread nD τ) A.m12 fullShare σ.a12 ∗ owns (c : Thread nD τ) A.m13 fullShare σ.a13 ∗ owns (c : Thread nD τ) A.m14 fullShare σ.a14 ∗ owns (c : Thread nD τ) A.m15 fullShare σ.a15)

/-- A program run from the record `σ` ends at a record related to it by `Φ`. -/
def Ok (c : Dev nD) (A : Ops) {β : Type} (prog : Prog (TpuEff nD τ sig (Elt F) Λ₀ .tc) β) (σ : St F) (Φ : β → St F → Prop) : Prop :=
  ∀ (Q : β → sProp 𝕄), iprop(own c A σ ∗ (∀ x σ', ⌜Φ x σ'⌝ -∗ own c A σ' -∗ Q x))
    ⊢ wp frame (wpE (defs₀ (F := F)) Variants.none c none) Set.univ prog Q

section
variable {c : Dev nD} {A : Ops} {β γ : Type}

theorem Ok_ret {x : β} {σ : St F} {Φ : β → St F → Prop} (h : Φ x σ) :
    Ok c A (Prog.ret x : Prog (TpuEff nD τ sig (Elt F) Λ₀ .tc) β) σ Φ := by
  intro Q
  iintro ⟨H, HQ⟩
  rw [wp_ret]
  imodintro
  ispecialize HQ $$ %x %σ %h
  iapply HQ
  iexact H

theorem Ok_mono {prog : Prog (TpuEff nD τ sig (Elt F) Λ₀ .tc) β} {σ : St F} {Φ Ψ : β → St F → Prop} (h : Ok c A prog σ Φ)
    (hm : ∀ x σ', Φ x σ' → Ψ x σ') : Ok c A prog σ Ψ := by
  intro Q
  refine BIBase.Entails.trans ?_ (h Q)
  iintro ⟨H, HQ⟩
  isplitl [H]
  · iexact H
  iintro %x %σ' %hx
  ispecialize HQ $$ %x %σ'
  iapply HQ
  ipureintro
  exact hm x σ' hx

theorem Ok_bind {prog : Prog (TpuEff nD τ sig (Elt F) Λ₀ .tc) β} {k : β → Prog (TpuEff nD τ sig (Elt F) Λ₀ .tc) γ} {σ : St F}
    {Φ : β → St F → Prop} {Ψ : γ → St F → Prop} (h : Ok c A prog σ Φ) (hk : ∀ x σ', Φ x σ' → Ok c A (k x) σ' Ψ) :
    Ok c A (prog >>= k) σ Ψ := by
  intro Q
  rw [wp_bind]
  refine BIBase.Entails.trans ?_ (h _)
  iintro ⟨H, HQ⟩
  isplitl [H]
  · iexact H
  iintro %x %σ' %hx H
  iapply (hk x σ' hx Q)
  isplitl [H]
  · iexact H
  · iexact HQ

theorem ld1 {r : LoadRect S1x1792x768} {hl : A.m1.view.LoadsAt r} {k : (r.shape.Idx → Elt F .i8) → Prog (TpuEff nD τ sig (Elt F) Λ₀ .tc) β}
    {σ : St F} {Φ : β → St F → Prop} (h : Ok c A (k (fun x => σ.a1 (r.idx x))) σ Φ) : Ok c A (Prog.lift (.load A.m1 r hl) >>= k) σ Φ := by
  intro Q
  have h := h Q
  unfold own at h ⊢
  iintro ⟨⟨H1, H2, H3, H4, H5, H6, H7, H8, H9, H10, H11, H12, H13, H14, H15⟩, HQ⟩
  iapply (owns_load c A.m1 A.h1 σ.a1 r hl k Q) $$ H1
  iintro H1
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld2 {r : LoadRect S12x8x1792} {hl : A.m2.view.LoadsAt r} {k : (r.shape.Idx → Elt F .bf16) → Prog (TpuEff nD τ sig (Elt F) Λ₀ .tc) β}
    {σ : St F} {Φ : β → St F → Prop} (h : Ok c A (k (fun x => σ.a2 (r.idx x))) σ Φ) : Ok c A (Prog.lift (.load A.m2 r hl) >>= k) σ Φ := by
  intro Q
  have h := h Q
  unfold own at h ⊢
  iintro ⟨⟨H1, H2, H3, H4, H5, H6, H7, H8, H9, H10, H11, H12, H13, H14, H15⟩, HQ⟩
  iapply (owns_load c A.m2 A.h2 σ.a2 r hl k Q) $$ H2
  iintro H2
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld3 {r : LoadRect S1x40x1536} {hl : A.m3.view.LoadsAt r} {k : (r.shape.Idx → Elt F .bf16) → Prog (TpuEff nD τ sig (Elt F) Λ₀ .tc) β}
    {σ : St F} {Φ : β → St F → Prop} (h : Ok c A (k (fun x => σ.a3 (r.idx x))) σ Φ) : Ok c A (Prog.lift (.load A.m3 r hl) >>= k) σ Φ := by
  intro Q
  have h := h Q
  unfold own at h ⊢
  iintro ⟨⟨H1, H2, H3, H4, H5, H6, H7, H8, H9, H10, H11, H12, H13, H14, H15⟩, HQ⟩
  iapply (owns_load c A.m3 A.h3 σ.a3 r hl k Q) $$ H3
  iintro H3
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld4 {r : LoadRect S1x40x1792} {hl : A.m4.view.LoadsAt r} {k : (r.shape.Idx → Elt F .bf16) → Prog (TpuEff nD τ sig (Elt F) Λ₀ .tc) β}
    {σ : St F} {Φ : β → St F → Prop} (h : Ok c A (k (fun x => σ.a4 (r.idx x))) σ Φ) : Ok c A (Prog.lift (.load A.m4 r hl) >>= k) σ Φ := by
  intro Q
  have h := h Q
  unfold own at h ⊢
  iintro ⟨⟨H1, H2, H3, H4, H5, H6, H7, H8, H9, H10, H11, H12, H13, H14, H15⟩, HQ⟩
  iapply (owns_load c A.m4 A.h4 σ.a4 r hl k Q) $$ H4
  iintro H4
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld5 {r : LoadRect S1x1792x768} {hl : A.m5.view.LoadsAt r} {k : (r.shape.Idx → Elt F .i8) → Prog (TpuEff nD τ sig (Elt F) Λ₀ .tc) β}
    {σ : St F} {Φ : β → St F → Prop} (h : Ok c A (k (fun x => σ.a5 (r.idx x))) σ Φ) : Ok c A (Prog.lift (.load A.m5 r hl) >>= k) σ Φ := by
  intro Q
  have h := h Q
  unfold own at h ⊢
  iintro ⟨⟨H1, H2, H3, H4, H5, H6, H7, H8, H9, H10, H11, H12, H13, H14, H15⟩, HQ⟩
  iapply (owns_load c A.m5 A.h5 σ.a5 r hl k Q) $$ H5
  iintro H5
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st5 {r : Rect S1x1792x768} {w : r.shape.Idx → Elt F .i8} {hx : (A.m5.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a5 := put r w σ.a5 } Φ) :
    Ok c A (Prog.lift (.store A.m5 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m5 A.h5 σ.a5 r w hx hu k Q) $$ H5
  iintro H5
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld6 {r : LoadRect S12x8x1792} {hl : A.m6.view.LoadsAt r} {k : (r.shape.Idx → Elt F .bf16) → Prog (TpuEff nD τ sig (Elt F) Λ₀ .tc) β}
    {σ : St F} {Φ : β → St F → Prop} (h : Ok c A (k (fun x => σ.a6 (r.idx x))) σ Φ) : Ok c A (Prog.lift (.load A.m6 r hl) >>= k) σ Φ := by
  intro Q
  have h := h Q
  unfold own at h ⊢
  iintro ⟨⟨H1, H2, H3, H4, H5, H6, H7, H8, H9, H10, H11, H12, H13, H14, H15⟩, HQ⟩
  iapply (owns_load c A.m6 A.h6 σ.a6 r hl k Q) $$ H6
  iintro H6
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st6 {r : Rect S12x8x1792} {w : r.shape.Idx → Elt F .bf16} {hx : (A.m6.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a6 := put r w σ.a6 } Φ) :
    Ok c A (Prog.lift (.store A.m6 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m6 A.h6 σ.a6 r w hx hu k Q) $$ H6
  iintro H6
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld7 {r : LoadRect S1536x1792} {hl : A.m7.view.LoadsAt r} {k : (r.shape.Idx → Elt F .f32) → Prog (TpuEff nD τ sig (Elt F) Λ₀ .tc) β}
    {σ : St F} {Φ : β → St F → Prop} (h : Ok c A (k (fun x => σ.a7 (r.idx x))) σ Φ) : Ok c A (Prog.lift (.load A.m7 r hl) >>= k) σ Φ := by
  intro Q
  have h := h Q
  unfold own at h ⊢
  iintro ⟨⟨H1, H2, H3, H4, H5, H6, H7, H8, H9, H10, H11, H12, H13, H14, H15⟩, HQ⟩
  iapply (owns_load c A.m7 A.h7 σ.a7 r hl k Q) $$ H7
  iintro H7
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st7 {r : Rect S1536x1792} {w : r.shape.Idx → Elt F .f32} {hx : (A.m7.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a7 := put r w σ.a7 } Φ) :
    Ok c A (Prog.lift (.store A.m7 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m7 A.h7 σ.a7 r w hx hu k Q) $$ H7
  iintro H7
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld8 {r : LoadRect S192x128} {hl : A.m8.view.LoadsAt r} {k : (r.shape.Idx → Elt F .bf16) → Prog (TpuEff nD τ sig (Elt F) Λ₀ .tc) β}
    {σ : St F} {Φ : β → St F → Prop} (h : Ok c A (k (fun x => σ.a8 (r.idx x))) σ Φ) : Ok c A (Prog.lift (.load A.m8 r hl) >>= k) σ Φ := by
  intro Q
  have h := h Q
  unfold own at h ⊢
  iintro ⟨⟨H1, H2, H3, H4, H5, H6, H7, H8, H9, H10, H11, H12, H13, H14, H15⟩, HQ⟩
  iapply (owns_load c A.m8 A.h8 σ.a8 r hl k Q) $$ H8
  iintro H8
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st8 {r : Rect S192x128} {w : r.shape.Idx → Elt F .bf16} {hx : (A.m8.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a8 := put r w σ.a8 } Φ) :
    Ok c A (Prog.lift (.store A.m8 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m8 A.h8 σ.a8 r w hx hu k Q) $$ H8
  iintro H8
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld9 {r : LoadRect S1536x128} {hl : A.m9.view.LoadsAt r} {k : (r.shape.Idx → Elt F .bf16) → Prog (TpuEff nD τ sig (Elt F) Λ₀ .tc) β}
    {σ : St F} {Φ : β → St F → Prop} (h : Ok c A (k (fun x => σ.a9 (r.idx x))) σ Φ) : Ok c A (Prog.lift (.load A.m9 r hl) >>= k) σ Φ := by
  intro Q
  have h := h Q
  unfold own at h ⊢
  iintro ⟨⟨H1, H2, H3, H4, H5, H6, H7, H8, H9, H10, H11, H12, H13, H14, H15⟩, HQ⟩
  iapply (owns_load c A.m9 A.h9 σ.a9 r hl k Q) $$ H9
  iintro H9
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st9 {r : Rect S1536x128} {w : r.shape.Idx → Elt F .bf16} {hx : (A.m9.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a9 := put r w σ.a9 } Φ) :
    Ok c A (Prog.lift (.store A.m9 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m9 A.h9 σ.a9 r w hx hu k Q) $$ H9
  iintro H9
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld10 {r : LoadRect S128x1536} {hl : A.m10.view.LoadsAt r} {k : (r.shape.Idx → Elt F .bf16) → Prog (TpuEff nD τ sig (Elt F) Λ₀ .tc) β}
    {σ : St F} {Φ : β → St F → Prop} (h : Ok c A (k (fun x => σ.a10 (r.idx x))) σ Φ) : Ok c A (Prog.lift (.load A.m10 r hl) >>= k) σ Φ := by
  intro Q
  have h := h Q
  unfold own at h ⊢
  iintro ⟨⟨H1, H2, H3, H4, H5, H6, H7, H8, H9, H10, H11, H12, H13, H14, H15⟩, HQ⟩
  iapply (owns_load c A.m10 A.h10 σ.a10 r hl k Q) $$ H10
  iintro H10
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st10 {r : Rect S128x1536} {w : r.shape.Idx → Elt F .bf16} {hx : (A.m10.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a10 := put r w σ.a10 } Φ) :
    Ok c A (Prog.lift (.store A.m10 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m10 A.h10 σ.a10 r w hx hu k Q) $$ H10
  iintro H10
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld11 {r : LoadRect S64x1792} {hl : A.m11.view.LoadsAt r} {k : (r.shape.Idx → Elt F .bf16) → Prog (TpuEff nD τ sig (Elt F) Λ₀ .tc) β}
    {σ : St F} {Φ : β → St F → Prop} (h : Ok c A (k (fun x => σ.a11 (r.idx x))) σ Φ) : Ok c A (Prog.lift (.load A.m11 r hl) >>= k) σ Φ := by
  intro Q
  have h := h Q
  unfold own at h ⊢
  iintro ⟨⟨H1, H2, H3, H4, H5, H6, H7, H8, H9, H10, H11, H12, H13, H14, H15⟩, HQ⟩
  iapply (owns_load c A.m11 A.h11 σ.a11 r hl k Q) $$ H11
  iintro H11
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st11 {r : Rect S64x1792} {w : r.shape.Idx → Elt F .bf16} {hx : (A.m11.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a11 := put r w σ.a11 } Φ) :
    Ok c A (Prog.lift (.store A.m11 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m11 A.h11 σ.a11 r w hx hu k Q) $$ H11
  iintro H11
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld12 {r : LoadRect S96x2x1792} {hl : A.m12.view.LoadsAt r} {k : (r.shape.Idx → Elt F .bf16) → Prog (TpuEff nD τ sig (Elt F) Λ₀ .tc) β}
    {σ : St F} {Φ : β → St F → Prop} (h : Ok c A (k (fun x => σ.a12 (r.idx x))) σ Φ) : Ok c A (Prog.lift (.load A.m12 r hl) >>= k) σ Φ := by
  intro Q
  have h := h Q
  unfold own at h ⊢
  iintro ⟨⟨H1, H2, H3, H4, H5, H6, H7, H8, H9, H10, H11, H12, H13, H14, H15⟩, HQ⟩
  iapply (owns_load c A.m12 A.h12 σ.a12 r hl k Q) $$ H12
  iintro H12
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st12 {r : Rect S96x2x1792} {w : r.shape.Idx → Elt F .bf16} {hx : (A.m12.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a12 := put r w σ.a12 } Φ) :
    Ok c A (Prog.lift (.store A.m12 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m12 A.h12 σ.a12 r w hx hu k Q) $$ H12
  iintro H12
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld13 {r : LoadRect S2x96x128} {hl : A.m13.view.LoadsAt r} {k : (r.shape.Idx → Elt F .f32) → Prog (TpuEff nD τ sig (Elt F) Λ₀ .tc) β}
    {σ : St F} {Φ : β → St F → Prop} (h : Ok c A (k (fun x => σ.a13 (r.idx x))) σ Φ) : Ok c A (Prog.lift (.load A.m13 r hl) >>= k) σ Φ := by
  intro Q
  have h := h Q
  unfold own at h ⊢
  iintro ⟨⟨H1, H2, H3, H4, H5, H6, H7, H8, H9, H10, H11, H12, H13, H14, H15⟩, HQ⟩
  iapply (owns_load c A.m13 A.h13 σ.a13 r hl k Q) $$ H13
  iintro H13
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st13 {r : Rect S2x96x128} {w : r.shape.Idx → Elt F .f32} {hx : (A.m13.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a13 := put r w σ.a13 } Φ) :
    Ok c A (Prog.lift (.store A.m13 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m13 A.h13 σ.a13 r w hx hu k Q) $$ H13
  iintro H13
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld14 {r : LoadRect S12x1792} {hl : A.m14.view.LoadsAt r} {k : (r.shape.Idx → Elt F .f32) → Prog (TpuEff nD τ sig (Elt F) Λ₀ .tc) β}
    {σ : St F} {Φ : β → St F → Prop} (h : Ok c A (k (fun x => σ.a14 (r.idx x))) σ Φ) : Ok c A (Prog.lift (.load A.m14 r hl) >>= k) σ Φ := by
  intro Q
  have h := h Q
  unfold own at h ⊢
  iintro ⟨⟨H1, H2, H3, H4, H5, H6, H7, H8, H9, H10, H11, H12, H13, H14, H15⟩, HQ⟩
  iapply (owns_load c A.m14 A.h14 σ.a14 r hl k Q) $$ H14
  iintro H14
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st14 {r : Rect S12x1792} {w : r.shape.Idx → Elt F .f32} {hx : (A.m14.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a14 := put r w σ.a14 } Φ) :
    Ok c A (Prog.lift (.store A.m14 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m14 A.h14 σ.a14 r w hx hu k Q) $$ H14
  iintro H14
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem ld15 {r : LoadRect S14x96x128} {hl : A.m15.view.LoadsAt r} {k : (r.shape.Idx → Elt F .f32) → Prog (TpuEff nD τ sig (Elt F) Λ₀ .tc) β}
    {σ : St F} {Φ : β → St F → Prop} (h : Ok c A (k (fun x => σ.a15 (r.idx x))) σ Φ) : Ok c A (Prog.lift (.load A.m15 r hl) >>= k) σ Φ := by
  intro Q
  have h := h Q
  unfold own at h ⊢
  iintro ⟨⟨H1, H2, H3, H4, H5, H6, H7, H8, H9, H10, H11, H12, H13, H14, H15⟩, HQ⟩
  iapply (owns_load c A.m15 A.h15 σ.a15 r hl k Q) $$ H15
  iintro H15
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st15 {r : Rect S14x96x128} {w : r.shape.Idx → Elt F .f32} {hx : (A.m15.access r).Stores Finset.univ}
    {hu : (Finset.univ : Finset r.shape.Idx) = Finset.univ ∨ ∀ a, r.stride a = 1} {k : PUnit → Prog (TpuEff nD τ sig (Elt F) Λ₀ .tc) β}
    {σ : St F} {Φ : β → St F → Prop} (h : Ok c A (k ⟨⟩) { σ with a15 := put r w σ.a15 } Φ) :
    Ok c A (Prog.lift (.store A.m15 r w Finset.univ hx hu) >>= k) σ Φ := by
  intro Q
  have h := h Q
  unfold own at h ⊢
  iintro ⟨⟨H1, H2, H3, H4, H5, H6, H7, H8, H9, H10, H11, H12, H13, H14, H15⟩, HQ⟩
  iapply (owns_store c A.m15 A.h15 σ.a15 r w hx hu k Q) $$ H15
  iintro H15
  iapply h
  isplitr [HQ]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact HQ

theorem st5l {r : Rect S1x1792x768} {w : r.shape.Idx → Elt F .i8} {hx : (A.m5.access r).Stores Finset.univ}
    {hu : (Finset.univ : Finset r.shape.Idx) = Finset.univ ∨ ∀ a, r.stride a = 1} {σ : St F} {Φ : PUnit → St F → Prop}
    (h : Φ ⟨⟩ { σ with a5 := put r w σ.a5 }) :
    Ok c A (Prog.lift (.store A.m5 r w Finset.univ hx hu)) σ Φ :=
  st5 (k := Prog.ret) (Ok_ret h)

theorem st6l {r : Rect S12x8x1792} {w : r.shape.Idx → Elt F .bf16} {hx : (A.m6.access r).Stores Finset.univ}
    {hu : (Finset.univ : Finset r.shape.Idx) = Finset.univ ∨ ∀ a, r.stride a = 1} {σ : St F} {Φ : PUnit → St F → Prop}
    (h : Φ ⟨⟩ { σ with a6 := put r w σ.a6 }) :
    Ok c A (Prog.lift (.store A.m6 r w Finset.univ hx hu)) σ Φ :=
  st6 (k := Prog.ret) (Ok_ret h)

theorem st7l {r : Rect S1536x1792} {w : r.shape.Idx → Elt F .f32} {hx : (A.m7.access r).Stores Finset.univ}
    {hu : (Finset.univ : Finset r.shape.Idx) = Finset.univ ∨ ∀ a, r.stride a = 1} {σ : St F} {Φ : PUnit → St F → Prop}
    (h : Φ ⟨⟩ { σ with a7 := put r w σ.a7 }) :
    Ok c A (Prog.lift (.store A.m7 r w Finset.univ hx hu)) σ Φ :=
  st7 (k := Prog.ret) (Ok_ret h)

theorem st8l {r : Rect S192x128} {w : r.shape.Idx → Elt F .bf16} {hx : (A.m8.access r).Stores Finset.univ}
    {hu : (Finset.univ : Finset r.shape.Idx) = Finset.univ ∨ ∀ a, r.stride a = 1} {σ : St F} {Φ : PUnit → St F → Prop}
    (h : Φ ⟨⟩ { σ with a8 := put r w σ.a8 }) :
    Ok c A (Prog.lift (.store A.m8 r w Finset.univ hx hu)) σ Φ :=
  st8 (k := Prog.ret) (Ok_ret h)

theorem st9l {r : Rect S1536x128} {w : r.shape.Idx → Elt F .bf16} {hx : (A.m9.access r).Stores Finset.univ}
    {hu : (Finset.univ : Finset r.shape.Idx) = Finset.univ ∨ ∀ a, r.stride a = 1} {σ : St F} {Φ : PUnit → St F → Prop}
    (h : Φ ⟨⟩ { σ with a9 := put r w σ.a9 }) :
    Ok c A (Prog.lift (.store A.m9 r w Finset.univ hx hu)) σ Φ :=
  st9 (k := Prog.ret) (Ok_ret h)

theorem st10l {r : Rect S128x1536} {w : r.shape.Idx → Elt F .bf16} {hx : (A.m10.access r).Stores Finset.univ}
    {hu : (Finset.univ : Finset r.shape.Idx) = Finset.univ ∨ ∀ a, r.stride a = 1} {σ : St F} {Φ : PUnit → St F → Prop}
    (h : Φ ⟨⟩ { σ with a10 := put r w σ.a10 }) :
    Ok c A (Prog.lift (.store A.m10 r w Finset.univ hx hu)) σ Φ :=
  st10 (k := Prog.ret) (Ok_ret h)

theorem st11l {r : Rect S64x1792} {w : r.shape.Idx → Elt F .bf16} {hx : (A.m11.access r).Stores Finset.univ}
    {hu : (Finset.univ : Finset r.shape.Idx) = Finset.univ ∨ ∀ a, r.stride a = 1} {σ : St F} {Φ : PUnit → St F → Prop}
    (h : Φ ⟨⟩ { σ with a11 := put r w σ.a11 }) :
    Ok c A (Prog.lift (.store A.m11 r w Finset.univ hx hu)) σ Φ :=
  st11 (k := Prog.ret) (Ok_ret h)

theorem st12l {r : Rect S96x2x1792} {w : r.shape.Idx → Elt F .bf16} {hx : (A.m12.access r).Stores Finset.univ}
    {hu : (Finset.univ : Finset r.shape.Idx) = Finset.univ ∨ ∀ a, r.stride a = 1} {σ : St F} {Φ : PUnit → St F → Prop}
    (h : Φ ⟨⟩ { σ with a12 := put r w σ.a12 }) :
    Ok c A (Prog.lift (.store A.m12 r w Finset.univ hx hu)) σ Φ :=
  st12 (k := Prog.ret) (Ok_ret h)

theorem st13l {r : Rect S2x96x128} {w : r.shape.Idx → Elt F .f32} {hx : (A.m13.access r).Stores Finset.univ}
    {hu : (Finset.univ : Finset r.shape.Idx) = Finset.univ ∨ ∀ a, r.stride a = 1} {σ : St F} {Φ : PUnit → St F → Prop}
    (h : Φ ⟨⟩ { σ with a13 := put r w σ.a13 }) :
    Ok c A (Prog.lift (.store A.m13 r w Finset.univ hx hu)) σ Φ :=
  st13 (k := Prog.ret) (Ok_ret h)

theorem st14l {r : Rect S12x1792} {w : r.shape.Idx → Elt F .f32} {hx : (A.m14.access r).Stores Finset.univ}
    {hu : (Finset.univ : Finset r.shape.Idx) = Finset.univ ∨ ∀ a, r.stride a = 1} {σ : St F} {Φ : PUnit → St F → Prop}
    (h : Φ ⟨⟩ { σ with a14 := put r w σ.a14 }) :
    Ok c A (Prog.lift (.store A.m14 r w Finset.univ hx hu)) σ Φ :=
  st14 (k := Prog.ret) (Ok_ret h)

theorem st15l {r : Rect S14x96x128} {w : r.shape.Idx → Elt F .f32} {hx : (A.m15.access r).Stores Finset.univ}
    {hu : (Finset.univ : Finset r.shape.Idx) = Finset.univ ∨ ∀ a, r.stride a = 1} {σ : St F} {Φ : PUnit → St F → Prop}
    (h : Φ ⟨⟩ { σ with a15 := put r w σ.a15 }) :
    Ok c A (Prog.lift (.store A.m15 r w Finset.univ hx hu)) σ Φ :=
  st15 (k := Prog.ret) (Ok_ret h)

end

end Cert.KernelIdeal.Hand

end

end
-- ==== Proof.Val.BlkQ.lean ====
/-
  The requantisation of one block of lanes: what it leaves in the block of packed codes.
-/
module

public import proofs.«01_k».proof.Proof.Val.Pure
public import proofs.«01_k».proof.Proof.Val.Ok

@[expose] public section

set_option maxRecDepth 16384
set_option maxHeartbeats 4000000

noncomputable section

namespace Cert.KernelIdeal.Hand

open Cert.KernelIdeal Cert.KernelIdeal.Gen
open Idealize.ShloMosaic Idealize.ShloMosaic.ValueIdx

/-- The packed codes of a byte's two rows at one lane. -/
def qbyte (M : S1536x1792.Idx → EReal) (I : S12x1792.Idx → EReal) (n : Fin 1792) (b : Fin 768) : BitVec 8 :=
  pk (qcode (M (ix2 ⟨2 * b.val, by omega⟩ n)) (I (ix2 ⟨b.val / 64, by omega⟩ n)))
    (qcode (M (ix2 ⟨2 * b.val + 1, by omega⟩ n)) (I (ix2 ⟨b.val / 64, by omega⟩ n)))

/-- Rows `r` to `r + 63` of the sums at the block's lanes, and one row of the reciprocal scales. -/
def rows64 (o : Nat) (ho : o + 256 ≤ 1792) (M : S1536x1792.Idx → EReal) (t : Fin 24) : Vec Ideal S64x256 .f32 := fun x =>
  M ((Rect.unit (s := S1536x1792) ![64 * t.val, o] S64x256.size (inb2 (by omega) ho)).toLoadRect.idx x)
def row1 (o : Nat) (ho : o + 256 ≤ 1792) (I : S12x1792.Idx → EReal) (t : Fin 24) : Vec Ideal S1x256 .f32 := fun x =>
  I ((Rect.unit (s := S12x1792) ![t.val / 2, o] S1x256.size (inb2 (by omega) ho)).toLoadRect.idx x)

theorem qstore (o : Nat) (ho : o + 256 ≤ 1792) (M : S1536x1792.Idx → EReal) (I : S12x1792.Idx → EReal) (X : S1x1792x768.Idx → BitVec 8)
    (f : Fin 24 → IVec S32x256 8) (hf : ∀ t, f t = qpay (rows64 o ho M t) (row1 o ho I t)) (n : Fin 1792) (b : Fin 768) :
    put (Rect.unit (s := S1x1792x768) ![0, o, 0] S1x256x768.size (inb3 (Nat.le_refl 1) ho (Nat.le_refl 768)))
      (qcat (f 0) (f 1) (f 2) (f 3) (f 4) (f 5) (f 6) (f 7) (f 8) (f 9) (f 10) (f 11) (f 12) (f 13) (f 14) (f 15) (f 16) (f 17) (f 18) (f 19)
        (f 20) (f 21) (f 22) (f 23)) X (ix3 0 n b) = if o ≤ n.val ∧ n.val < o + 256 then qbyte M I n b else X (ix3 0 n b) := by
  by_cases h : o ≤ n.val ∧ n.val < o + 256
  · rw [if_pos h, put_hit _ _ _ (ix3 0 ⟨n.val - o, by omega⟩ b) _ (by
      intro a; fin_cases a
      · rfl
      · show n.val = o + 1 * (n.val - o); omega
      · show b.val = 0 + 1 * b.val; omega)]
    rw [qcat_apply, hf, qpay_apply]
    unfold qbyte rows64 row1
    have e1 : ∀ (p : Nat) (hp : p < 2), (Rect.unit (s := S1536x1792) ![64 * (b.val / 32), o] S64x256.size (inb2 (by omega) ho)).toLoadRect.idx
        (ix2 ⟨2 * (b.val % 32) + p, by omega⟩ ⟨n.val - o, by omega⟩) = ix2 ⟨2 * b.val + p, by omega⟩ n := fun p hp => by
      funext a; fin_cases a
      · exact Fin.ext (by show 64 * (b.val / 32) + 1 * (2 * (b.val % 32) + p) = 2 * b.val + p; omega)
      · exact Fin.ext (by show o + 1 * (n.val - o) = n.val; omega)
    have e2 : (Rect.unit (s := S12x1792) ![b.val / 32 / 2, o] S1x256.size (inb2 (by omega) ho)).toLoadRect.idx (ix2 0 ⟨n.val - o, by omega⟩)
        = ix2 ⟨b.val / 64, by omega⟩ n := by
      funext a; fin_cases a
      · exact Fin.ext (by show b.val / 32 / 2 + 1 * 0 = b.val / 64; omega)
      · exact Fin.ext (by show o + 1 * (n.val - o) = n.val; omega)
    exact congrArg₂ pk (congrArg₂ qcode (congrArg M (e1 0 (by decide))) (congrArg I e2)) (congrArg₂ qcode (congrArg M (e1 1 (by decide))) (congrArg I e2))
  · rw [if_neg h]
    refine put_miss _ _ _ _ (Rect.not_mem_set_of_axis _ _ 1 o 256 rfl rfl rfl ?_)
    show n.val < o ∨ o + 256 ≤ n.val
    omega

theorem blkQ_ok (c : Dev nD) (A : Ops) (o : Nat) (ho : o + 256 ≤ 1792) (hd : 4 ∣ o) (σ : St Ideal) (Φ : PUnit → St Ideal → Prop)
    (h : ∀ X, (∀ n b, X (ix3 0 n b) = if o ≤ n.val ∧ n.val < o + 256 then qbyte σ.a7 σ.a14 n b else σ.a5 (ix3 0 n b)) →
      Φ ⟨⟩ { σ with a5 := X }) :
    Ok c A (blkQ o ho hd A.m5 A.h5 A.m7 A.h7 A.m14 A.h14) σ Φ := by
  unfold blkQ
  iterate 24 (refine ld7 ?_; refine ld14 ?_)
  refine ld5 ?_
  refine st5l ?_
  exact h _ (qstore o ho σ.a7 σ.a14 σ.a5 (fun t => qpay (rows64 o ho σ.a7 t) (row1 o ho σ.a14 t)) (fun t => rfl))

end Cert.KernelIdeal.Hand

end

end
-- ==== Proof.Val.BlkP.lean ====
/-
  The sums of one pair of tiles and their folded magnitudes: what the stores leave.
-/
module

public import proofs.«01_k».proof.Proof.Val.Pure
public import proofs.«01_k».proof.Proof.Val.Ok

@[expose] public section

set_option maxRecDepth 16384
set_option maxHeartbeats 4000000

noncomputable section

namespace Cert.KernelIdeal.Hand

open Cert.KernelIdeal Cert.KernelIdeal.Gen
open Idealize.ShloMosaic Idealize.ShloMosaic.ValueIdx

/-- What one batch's sums are made of: the packed weight codes, the scale rows, the adapter's two factors. -/
structure Env where
  W : S1x1792x768.Idx → BitVec 8
  S : Nat → Nat → EReal
  Av : Fin 40 → Nat → EReal
  Bv : Fin 40 → Nat → EReal

/-- The code of row `d` at lane `n`. -/
def Env.code (e : Env) (d : Fin 1536) (n : Fin 1792) : BitVec 4 := nibOf (e.W (ix3 0 n ⟨d.val / 2, by omega⟩)) (d.val % 2 == 1)

/-- The kernel's sum at row `d` and lane `n`. -/
def msum (e : Env) (d : Fin 1536) (n : Fin 1792) : EReal :=
  c25 * (Scalar.sitofp (F := Ideal) .bf16 (e.code d n) * e.S (d.val / 128) n.val) + ∑ k : Fin 40, e.Av k d.val * e.Bv k n.val

/-- The same at any two numbers. -/
def msumN (e : Env) (d n : Nat) : EReal := if h : d < 1536 ∧ n < 1792 then msum e ⟨d, h.1⟩ ⟨n, h.2⟩ else 0

theorem msumN_eq (e : Env) (d : Fin 1536) (n : Fin 1792) : msumN e d.val n.val = msum e d n := dif_pos ⟨d.isLt, n.isLt⟩

theorem msumN_mk (e : Env) (d n : Nat) (hd : d < 1536) (hn : n < 1792) : msumN e d n = msum e ⟨d, hd⟩ ⟨n, hn⟩ := dif_pos ⟨hd, hn⟩

/-- One tile's sums, whatever row of the batch it starts at. -/
theorem tileAt (e : Env) (o : Nat) (ho : o + 256 ≤ 1792) (q : IVec S1536x256 4) (bt : Vec Ideal S64x256 .bf16)
    (hq : ∀ d n, q (ix2 d n) = e.code d ⟨o + n.val, by omega⟩)
    (hbt : ∀ k n, bt (ix2 k n) = if h : k.val < 40 then e.Bv ⟨k.val, h⟩ (o + n.val) else 0)
    (c t t1 t2 : Nat) (hc : t = 192 * c) (e1 : t1 = t + 64) (e2 : t2 = t + 128) (h0 : t + 64 ≤ 1536) (h1 : t1 + 64 ≤ 1536) (h2 : t2 + 64 ≤ 1536)
    (s0 s1 s2 : Vec Ideal S1x2x256 .bf16) (hs0 : ∀ n, s0 (ix3 0 0 n) = e.S (t / 128) (o + n.val))
    (hs1 : ∀ n, s1 (ix3 0 0 n) = e.S (t1 / 128) (o + n.val)) (hs2 : ∀ n, s2 (ix3 0 0 n) = e.S (t2 / 128) (o + n.val))
    (x y : Vec Ideal S192x128 .bf16) (hx : ∀ r k, x (ix2 r k) = lhsL r k)
    (hy : ∀ r l, y (ix2 r l) = lhsR (fun k => e.Av k (t + r.val)) r l) (r : Fin 192) (n : Fin 256) :
    tile (deq t h0 q s0) (deq t1 h1 q s1) (deq t2 h2 q s2) bt x y (ix2 r n) = msumN e (t + r.val) (o + n.val) := by
  subst e1 e2
  rw [msumN_mk e _ _ (by omega) (by omega)]
  unfold msum
  refine tile_apply _ _ _ _ _ _ (fun k n => Scalar.sitofp (F := Ideal) .bf16 (e.code ⟨t + k.val, by omega⟩ ⟨o + n.val, by omega⟩)
    * e.S ((t + k.val) / 128) (o + n.val)) (fun k => e.Av k (t + r.val)) (fun k => e.Bv k (o + n.val)) r n ?_ ?_ ?_ (fun k => hbt k n) (hx r) (hy r)
  · intro k
    rw [deq_apply, hq, hs0, show (t + k.val) / 128 = t / 128 by omega]
  · intro k
    rw [deq_apply, hq, hs1]
    dsimp only
    rw [show (t + (64 + k.val)) / 128 = (t + 64) / 128 by omega]
    congr 3
    exact Fin.ext (by show t + 64 + k.val = t + (64 + k.val); omega)
  · intro k
    rw [deq_apply, hq, hs2]
    dsimp only
    rw [show (t + (128 + k.val)) / 128 = (t + 128) / 128 by omega]
    congr 3
    exact Fin.ext (by show t + 128 + k.val = t + (128 + k.val); omega)

/-- One store of a tile's sums, read back. -/
theorem put7 (o : Nat) (ho : o + 256 ≤ 1792) (t : Nat) (inb : ∀ i, (![t, o] : Fin 2 → Nat) i + S192x256.size i ≤ S1536x1792.size i)
    (w : S192x256.Idx → EReal) (X : S1536x1792.Idx → EReal) (f : Nat → Nat → EReal) (hw : ∀ r n, w (ix2 r n) = f (t + r.val) (o + n.val))
    (d : Fin 1536) (n : Fin 1792) :
    put (Rect.unit (s := S1536x1792) ![t, o] S192x256.size inb) w X (ix2 d n)
      = if (t ≤ d.val ∧ d.val < t + 192) ∧ o ≤ n.val ∧ n.val < o + 256 then f d.val n.val else X (ix2 d n) := by
  by_cases h : (t ≤ d.val ∧ d.val < t + 192) ∧ o ≤ n.val ∧ n.val < o + 256
  · rw [if_pos h, put_hit _ _ _ (ix2 ⟨d.val - t, by omega⟩ ⟨n.val - o, by omega⟩) _ (by
      intro a; fin_cases a
      · show d.val = t + 1 * (d.val - t); omega
      · show n.val = o + 1 * (n.val - o); omega)]
    rw [hw]
    exact congrArg₂ f (by show t + (d.val - t) = d.val; omega) (by show o + (n.val - o) = n.val; omega)
  · rw [if_neg h]
    by_cases h1 : t ≤ d.val ∧ d.val < t + 192
    · refine put_miss _ _ _ _ (Rect.not_mem_set_of_axis _ _ 1 o 256 rfl rfl rfl ?_)
      show n.val < o ∨ o + 256 ≤ n.val
      omega
    · refine put_miss _ _ _ _ (Rect.not_mem_set_of_axis _ _ 0 t 192 rfl rfl rfl ?_)
      show d.val < t ∨ t + 192 ≤ d.val
      omega

/-- One store of eight folded rows, read back. -/
theorem put13 (h G : Nat) (inb : ∀ i, (![h, 8 * G, 0] : Fin 3 → Nat) i + S1x8x128.size i ≤ S2x96x128.size i)
    (w : S1x8x128.Idx → EReal) (X : S2x96x128.Idx → EReal) (h' : Fin 2) (q : Fin 96) (l : Fin 128) :
    put (Rect.unit (s := S2x96x128) ![h, 8 * G, 0] S1x8x128.size inb) w X (ix3 h' q l)
      = if h'.val = h ∧ q.val / 8 = G then w (ix3 0 ⟨q.val % 8, by omega⟩ l) else X (ix3 h' q l) := by
  by_cases c : h'.val = h ∧ q.val / 8 = G
  · rw [if_pos c, put_hit _ _ _ (ix3 0 ⟨q.val % 8, by omega⟩ l) _ (by
      intro a; fin_cases a
      · show h'.val = h + 1 * 0; omega
      · show q.val = 8 * G + 1 * (q.val % 8); omega
      · show l.val = 0 + 1 * l.val; omega)]
  · rw [if_neg c]
    by_cases c1 : h'.val = h
    · refine put_miss _ _ _ _ (Rect.not_mem_set_of_axis _ _ 1 (8 * G) 8 rfl rfl rfl ?_)
      show q.val < 8 * G ∨ 8 * G + 8 ≤ q.val
      omega
    · refine put_miss _ _ _ _ (Rect.not_mem_set_of_axis _ _ 0 h 1 rfl rfl rfl ?_)
      show h'.val < h ∨ h + 1 ≤ h'.val
      omega

/-- A pair of tiles' folded magnitudes at eight rows of one half of the lanes. -/
theorem halfAt (e : Env) (o p : Nat) (T0 T1 : FVec Ideal S192x256 .f32) (h0 : ∀ r n, T0 (ix2 r n) = msumN e (384 * p + r.val) (o + n.val))
    (h1 : ∀ r n, T1 (ix2 r n) = msumN e (384 * p + 192 + r.val) (o + n.val)) (hh : Nat) (hhh : hh + 128 ≤ 256) (oo : Nat) (hoo : oo + 128 ≤ 384)
    (s : Fin 8) (l : Fin 128) (z : EReal) :
    half hh hhh (amax oo hoo T0 T1) (ix3 0 s l) ≤ z ↔ ∀ j : Fin 16, mag (msumN e (384 * p + oo + 8 * j.val + s.val) (o + hh + l.val)) ≤ z := by
  rw [half_apply, amax_le oo hoo T0 T1 (fun k => msumN e (384 * p + k) (o + (hh + l.val))) _ (fun k => h0 k _) (fun k => by
    rw [h1]; exact congrArg (fun z => msumN e z _) (by omega))]
  refine forall_congr' fun j => ?_
  rw [show 384 * p + (oo + 8 * j.val + s.val) = 384 * p + oo + 8 * j.val + s.val by omega, show o + (hh + l.val) = o + hh + l.val by omega]

/-- The folded magnitudes of the rows of one group at one lane. -/
def Fold (e : Env) (o : Nat) (X : S2x96x128.Idx → EReal) (h : Fin 2) (q : Fin 96) (l : Fin 128) : Prop :=
  ∀ z, X (ix3 h q l) ≤ z ↔ ∀ j : Fin 16, mag (msumN e (128 * (q.val / 8) + 8 * j.val + q.val % 8) (o + 128 * h.val + l.val)) ≤ z

/-- What the operands hold for the batch `e` while its sums are made, `j` its row in the group of eight. -/
structure Held (e : Env) (j : Nat) (σ : St Ideal) : Prop where
  w : σ.a1 = e.W
  l : ∀ r k, σ.a8 (ix2 r k) = lhsL r k
  a : ∀ (d : Fin 1536) l, σ.a9 (ix2 d l) = lhsR (fun k => e.Av k d.val) ⟨d.val % 192, by omega⟩ l
  b : ∀ (k : Fin 64) (n : Fin 1792), σ.a11 (ix2 k n) = if h : k.val < 40 then e.Bv ⟨k.val, h⟩ n.val else 0
  s : ∀ (g : Nat) (hg : 8 * g + j < 96) (n : Fin 1792), σ.a12 (ix3 ⟨8 * g + j, hg⟩ 0 n) = e.S g n.val

/-- After `p` pairs of tiles. -/
structure AfterP (e : Env) (o p : Nat) (X7 : S1536x1792.Idx → EReal) (X13 : S2x96x128.Idx → EReal) (σ : St Ideal) : Prop where
  m : ∀ (d : Fin 1536) (n : Fin 1792), X7 (ix2 d n) = if d.val < 384 * p ∧ o ≤ n.val ∧ n.val < o + 256 then msumN e d.val n.val else σ.a7 (ix2 d n)
  f : ∀ (h : Fin 2) (q : Fin 96) (l : Fin 128), q.val < 24 * p → Fold e o X13 h q l

theorem afterP_succ (e : Env) (o : Nat) (ho : o + 256 ≤ 1792) (p : Nat) (hp : p < 4) (σ : St Ideal) (X7 : S1536x1792.Idx → EReal) (X13 : S2x96x128.Idx → EReal)
    (hX : AfterP e o p X7 X13 σ) (T0 T1 : FVec Ideal S192x256 .f32) (hT0 : ∀ r n, T0 (ix2 r n) = msumN e (384 * p + 0 + r.val) (o + n.val))
    (hT1 : ∀ r n, T1 (ix2 r n) = msumN e (384 * p + 192 + r.val) (o + n.val)) :
    AfterP e o (p + 1) (put (Rect.unit (s := S1536x1792) ![384 * p + 192, o] S192x256.size (inb2 (by omega) ho)) (tcast T1) (put (Rect.unit (s := S1536x1792) ![384 * p + 0, o] S192x256.size (inb2 (by omega) ho)) (tcast T0) X7))
      (put (Rect.unit (s := S2x96x128) ![1, 8 * (3 * p + 2), 0] S1x8x128.size (inb3 (by decide) (by omega) (Nat.le_refl 128))) (half 128 (by decide) (amax 256 (by decide) T0 T1))
      (put (Rect.unit (s := S2x96x128) ![0, 8 * (3 * p + 2), 0] S1x8x128.size (inb3 (by decide) (by omega) (Nat.le_refl 128))) (half 0 (by decide) (amax 256 (by decide) T0 T1))
      (put (Rect.unit (s := S2x96x128) ![1, 8 * (3 * p + 1), 0] S1x8x128.size (inb3 (by decide) (by omega) (Nat.le_refl 128))) (half 128 (by decide) (amax 128 (by decide) T0 T1))
      (put (Rect.unit (s := S2x96x128) ![0, 8 * (3 * p + 1), 0] S1x8x128.size (inb3 (by decide) (by omega) (Nat.le_refl 128))) (half 0 (by decide) (amax 128 (by decide) T0 T1))
      (put (Rect.unit (s := S2x96x128) ![1, 8 * (3 * p + 0), 0] S1x8x128.size (inb3 (by decide) (by omega) (Nat.le_refl 128))) (half 128 (by decide) (amax 0 (by decide) T0 T1))
      (put (Rect.unit (s := S2x96x128) ![0, 8 * (3 * p + 0), 0] S1x8x128.size (inb3 (by decide) (by omega) (Nat.le_refl 128))) (half 0 (by decide) (amax 0 (by decide) T0 T1))
      X13)))))) σ := by
  have hf := halfAt e o p T0 T1 hT0 hT1
  refine ⟨?_, ?_⟩
  · intro d n
    rw [put7 o ho (384 * p + 192) _ _ _ (msumN e) (fun r n => (congrFun (tcast_eq T1) _).trans (hT1 r n)), put7 o ho (384 * p + 0) _ _ _ (msumN e) (fun r n => (congrFun (tcast_eq T0) _).trans (hT0 r n))]
    have := hX.m d n
    rw [this]
    split_ifs <;> first | rfl | omega
  · intro h' r l hr z
    rw [put13, put13, put13, put13, put13, put13]
    by_cases hlt : r.val < 24 * p
    · iterate 6 rw [if_neg (by omega)]
      exact hX.f h' r l hlt z
    · have hh' : h'.val = 0 ∨ h'.val = 1 := by omega
      have hg : r.val / 8 = 3 * p ∨ r.val / 8 = 3 * p + 1 ∨ r.val / 8 = 3 * p + 2 := by omega
      have key : ∀ (hh : Nat) (hhh : hh + 128 ≤ 256) (oo : Nat) (hoo : oo + 128 ≤ 384), hh = 128 * h'.val → 384 * p + oo = 128 * (r.val / 8) → _ :=
        fun hh hhh oo hoo e1 e2 => (hf hh hhh oo hoo ⟨r.val % 8, by omega⟩ l z).trans (by rw [e1, e2])
      split_ifs with c1 c2 c3 c4 c5 c6
      · exact key _ _ _ _ (by omega) (by omega)
      · exact key _ _ _ _ (by omega) (by omega)
      · exact key _ _ _ _ (by omega) (by omega)
      · exact key _ _ _ _ (by omega) (by omega)
      · exact key _ _ _ _ (by omega) (by omega)
      · exact key _ _ _ _ (by omega) (by omega)
      · omega

/-- A read of a scale row. -/
abbrev ldS (X : S96x2x1792.Idx → EReal) (r : Nat) (o : Nat) (h : r + 1 ≤ 96) (ho : o + 256 ≤ 1792) : Vec Ideal S1x2x256 .bf16 := fun i =>
  X ((Rect.unit (s := S96x2x1792) ![r, 0, o] S1x2x256.size (inb3 h (Nat.le_refl 2) ho)).toLoadRect.idx i)

/-- A read of the whole left pad. -/
abbrev ldL (X : S192x128.Idx → EReal) : Vec Ideal S192x128 .bf16 := fun i =>
  X ((Rect.unit (s := S192x128) ![0, 0] S192x128.size inb_S192x128_S192x128_0_0).toLoadRect.idx i)

/-- A read of one tile's right pad. -/
abbrev ldR (X : S1536x128.Idx → EReal) (t : Nat) (h : t + 192 ≤ 1536) : Vec Ideal S192x128 .bf16 := fun i =>
  X ((Rect.unit (s := S1536x128) ![t, 0] S192x128.size (inb2 h (by decide))).toLoadRect.idx i)

attribute [local irreducible] tile deq half amax tcast

theorem blkP_ok (c : Dev nD) (A : Ops) (e : Env) (j : Nat) (o : Nat) (ho : o + 256 ≤ 1792) (p : Nat) (hp : p < 4) (v1 : BitVec 32)
    (hv1 : ∀ g, g < 12 → (Scalar.indexCast (Scalar.addi (BitVec.ofNat 32 (8 * g)) v1)).toNat + 1 ≤ 96)
    (hrow : ∀ g, g < 12 → (Scalar.indexCast (Scalar.addi (BitVec.ofNat 32 (8 * g)) v1)).toNat = 8 * g + j)
    (q : IVec S1536x256 4) (bt : Vec Ideal S64x256 .bf16) (hq : ∀ d n, q (ix2 d n) = e.code d ⟨o + n.val, by omega⟩)
    (hbt : ∀ k n, bt (ix2 k n) = if h : k.val < 40 then e.Bv ⟨k.val, h⟩ (o + n.val) else 0)
    (σ : St Ideal) (hσ : Held e j σ) (X7 : S1536x1792.Idx → EReal) (X13 : S2x96x128.Idx → EReal) (hX : AfterP e o p X7 X13 σ)
    (Φ : PUnit → St Ideal → Prop)
    (h : ∀ X7' X13', AfterP e o (p + 1) X7' X13' σ → Φ ⟨⟩ { σ with a7 := X7', a13 := X13' }) :
    Ok c A (blkP o ho p hp v1 hv1 q bt A.m7 A.h7 A.m8 A.h8 A.m9 A.h9 A.m12 A.h12 A.m13 A.h13) { σ with a7 := X7, a13 := X13 } Φ := by
  unfold blkP
  iterate 3 refine ld12 ?_
  refine ld8 ?_; refine ld9 ?_; refine ld7 ?_; refine st7 ?_; dsimp only
  iterate 3 refine ld12 ?_
  refine ld8 ?_; refine ld9 ?_; refine ld7 ?_; refine st7 ?_; dsimp only
  iterate 5 (refine ld13 ?_; refine st13 ?_; dsimp only)
  refine ld13 ?_; refine st13l ?_; dsimp only
  have hs : ∀ (g : Nat) (hg : g < 12) (n : Fin 256), ldS σ.a12 (Scalar.indexCast (Scalar.addi (BitVec.ofNat 32 (8 * g)) v1)).toNat o (hv1 g hg) ho (ix3 0 0 n) = e.S g (o + n.val) := fun g hg n => by
    have h1 := hv1 g hg
    have h2 := hrow g hg
    rw [← hσ.s g (by omega) ⟨o + n.val, by omega⟩]
    refine congrArg σ.a12 (funext fun a => ?_)
    fin_cases a
    · exact Fin.ext (by show (Scalar.indexCast (Scalar.addi (BitVec.ofNat 32 (8 * g)) v1)).toNat + 1 * 0 = 8 * g + j; omega)
    · rfl
    · exact Fin.ext (by show o + 1 * n.val = o + n.val; omega)
  have hs' : ∀ (g : Nat) (hg : g < 12) (k : Nat) (hk : g = k) (n : Fin 256),
      ldS σ.a12 (Scalar.indexCast (Scalar.addi (BitVec.ofNat 32 (8 * g)) v1)).toNat o (hv1 g hg) ho (ix3 0 0 n) = e.S k (o + n.val) := fun g hg k hk n => hk ▸ hs g hg n
  have hx : ∀ (r : Fin 192) (k : Fin 128), ldL σ.a8 (ix2 r k) = lhsL r k := fun r k => by
    rw [← hσ.l r k]
    refine congrArg σ.a8 (funext fun a => ?_)
    fin_cases a
    · exact Fin.ext (by show 0 + 1 * r.val = r.val; omega)
    · exact Fin.ext (by show 0 + 1 * k.val = k.val; omega)
  have hy : ∀ (c t : Nat) (ht : t = 192 * c) (h1 : t + 192 ≤ 1536) (r : Fin 192) (l : Fin 128),
      ldR σ.a9 t h1 (ix2 r l) = lhsR (fun k => e.Av k (t + r.val)) r l := fun c t ht h1 r l => by
    have := hσ.a ⟨t + r.val, by omega⟩ l
    rw [show (⟨(⟨t + r.val, by omega⟩ : Fin 1536).val % 192, by omega⟩ : Fin 192) = r from Fin.ext (by show (t + r.val) % 192 = r.val; omega)] at this
    rw [← this]
    refine congrArg σ.a9 (funext fun a => ?_)
    fin_cases a
    · exact Fin.ext (by show t + 1 * r.val = t + r.val; omega)
    · exact Fin.ext (by show 0 + 1 * l.val = l.val; omega)
  have hT0 := tileAt e o ho q bt hq hbt (2 * p) (384 * p + 0) (384 * p + 64) (384 * p + 128) (by omega) (by omega) (by omega) (by omega) (by omega) (by omega)
    (ldS σ.a12 (Scalar.indexCast (Scalar.addi (BitVec.ofNat 32 (8 * (3 * p + 0))) v1)).toNat o (hv1 _ (by omega)) ho) (ldS σ.a12 (Scalar.indexCast (Scalar.addi (BitVec.ofNat 32 (8 * (3 * p + 0))) v1)).toNat o (hv1 _ (by omega)) ho) (ldS σ.a12 (Scalar.indexCast (Scalar.addi (BitVec.ofNat 32 (8 * (3 * p + 1))) v1)).toNat o (hv1 _ (by omega)) ho) (hs' (3 * p + 0) (by omega) ((384 * p + 0) / 128) (by omega))
    (hs' (3 * p + 0) (by omega) ((384 * p + 64) / 128) (by omega))
    (hs' (3 * p + 1) (by omega) ((384 * p + 128) / 128) (by omega))
    (ldL σ.a8) (ldR σ.a9 (384 * p + 0) (by omega)) hx (hy (2 * p) (384 * p + 0) (by omega) (by omega))
  have hT1 := tileAt e o ho q bt hq hbt (2 * p + 1) (384 * p + 192) (384 * p + 256) (384 * p + 320) (by omega) (by omega) (by omega) (by omega) (by omega) (by omega)
    (ldS σ.a12 (Scalar.indexCast (Scalar.addi (BitVec.ofNat 32 (8 * (3 * p + 1))) v1)).toNat o (hv1 _ (by omega)) ho) (ldS σ.a12 (Scalar.indexCast (Scalar.addi (BitVec.ofNat 32 (8 * (3 * p + 2))) v1)).toNat o (hv1 _ (by omega)) ho) (ldS σ.a12 (Scalar.indexCast (Scalar.addi (BitVec.ofNat 32 (8 * (3 * p + 2))) v1)).toNat o (hv1 _ (by omega)) ho) (hs' (3 * p + 1) (by omega) ((384 * p + 192) / 128) (by omega))
    (hs' (3 * p + 2) (by omega) ((384 * p + 256) / 128) (by omega))
    (hs' (3 * p + 2) (by omega) ((384 * p + 320) / 128) (by omega))
    (ldL σ.a8) (ldR σ.a9 (384 * p + 192) (by omega)) hx (hy (2 * p + 1) (384 * p + 192) (by omega) (by omega))
  exact h _ _ (afterP_succ e o ho p hp σ X7 X13 hX _ _ hT0 hT1)

end Cert.KernelIdeal.Hand

end

end
-- ==== Proof.Val.BlkS.lean ====
/-
  The scales of 128 lanes: what the stores leave.
-/
module

public import proofs.«01_k».proof.Proof.Val.BlkP

@[expose] public section

set_option maxRecDepth 16384
set_option maxHeartbeats 4000000

noncomputable section

namespace Cert.KernelIdeal.Hand

open Cert.KernelIdeal Cert.KernelIdeal.Gen
open Idealize.ShloMosaic Idealize.ShloMosaic.ValueIdx

/-- The largest magnitude of a group's sums at one lane. -/
def gm (e : Env) (g n : Nat) : EReal := ⨆ r : Fin 128, mag (msumN e (128 * g + r.val) n)

theorem gm_eq (e : Env) (g n : Nat) (x : EReal)
    (h : ∀ z, x ≤ z ↔ ∀ s : Fin 8, ∀ j : Fin 16, mag (msumN e (128 * g + 8 * j.val + s.val) n) ≤ z) : x = gm e g n := by
  refine eq_of_forall_ge_iff fun z => (h z).trans ?_
  unfold gm
  rw [iSup_le_iff]
  constructor
  · intro H r
    have := H ⟨r.val % 8, by omega⟩ ⟨r.val / 8, by omega⟩
    rwa [show 128 * g + 8 * (r.val / 8) + r.val % 8 = 128 * g + r.val by omega] at this
  · intro H s j
    have := H ⟨8 * j.val + s.val, by omega⟩
    rwa [show 128 * g + (8 * j.val + s.val) = 128 * g + 8 * j.val + s.val by omega] at this

/-- A read of every eighth row, eight of them. -/
abbrev ldG8 (X : S2x96x128.Idx → EReal) (h : Nat) (hh : h + 1 ≤ 2) (s : Nat) (hs : s + 8 * (8 - 1) < 96) : Vec Ideal S1x8x128 .f32 := fun i =>
  X ((⟨![h, s, 0], S1x8x128.size, ![1, 8, 1], inb3s hh hs⟩ : LoadRect S2x96x128).idx i)

/-- A read of every eighth row, four of them. -/
abbrev ldG4 (X : S2x96x128.Idx → EReal) (h : Nat) (hh : h + 1 ≤ 2) (s : Nat) (hs : s + 8 * (4 - 1) < 96) : Vec Ideal S1x4x128 .f32 := fun i =>
  X ((⟨![h, s, 0], S1x4x128.size, ![1, 8, 1], inb3s hh hs⟩ : LoadRect S2x96x128).idx i)

/-- Part `h` of the folded magnitudes, for the lanes from `oh`. -/
def FoldH (e : Env) (X : S2x96x128.Idx → EReal) (h : Nat) (hh : h + 1 ≤ 2) (oh : Nat) : Prop :=
  ∀ (q : Fin 96) (l : Fin 128) (z : EReal), X (ix3 ⟨h, hh⟩ q l) ≤ z ↔ ∀ j : Fin 16, mag (msumN e (128 * (q.val / 8) + 8 * j.val + q.val % 8) (oh + l.val)) ≤ z

theorem gmaxAt8 (e : Env) (X : S2x96x128.Idx → EReal) (h : Nat) (hh : h + 1 ≤ 2) (oh : Nat) (hf : FoldH e X h hh oh) (g : Fin 8) (l : Fin 128) :
    gmax8 (ldG8 X h hh 0 (by decide))
    (ldG8 X h hh 1 (by decide))
    (ldG8 X h hh 2 (by decide))
    (ldG8 X h hh 3 (by decide))
    (ldG8 X h hh 4 (by decide))
    (ldG8 X h hh 5 (by decide))
    (ldG8 X h hh 6 (by decide))
    (ldG8 X h hh 7 (by decide)) (ix2 g l) = gm e g.val (oh + l.val) := by
  refine gm_eq e _ _ _ fun z => ?_
  refine (gmax8_le (fun s : Fin 8 => ldG8 X h hh s.val (by omega)) g l z).trans ?_
  refine forall_congr' fun s => ?_
  have := hf ⟨8 * g.val + s.val, by omega⟩ l z
  dsimp only at this ⊢
  rw [show (8 * g.val + s.val) / 8 = g.val by omega, show (8 * g.val + s.val) % 8 = s.val by omega] at this
  rw [← this]
  refine iff_of_eq (congrArg (fun x => X x ≤ z) (funext fun a => ?_))
  fin_cases a
  · rfl
  · exact Fin.ext (by show s.val + 8 * g.val = 8 * g.val + s.val; omega)
  · exact Fin.ext (by show 0 + 1 * l.val = l.val; omega)

theorem gmaxAt4 (e : Env) (X : S2x96x128.Idx → EReal) (h : Nat) (hh : h + 1 ≤ 2) (oh : Nat) (hf : FoldH e X h hh oh) (g : Fin 4) (l : Fin 128) :
    gmax4 (ldG4 X h hh 64 (by decide))
    (ldG4 X h hh 65 (by decide))
    (ldG4 X h hh 66 (by decide))
    (ldG4 X h hh 67 (by decide))
    (ldG4 X h hh 68 (by decide))
    (ldG4 X h hh 69 (by decide))
    (ldG4 X h hh 70 (by decide))
    (ldG4 X h hh 71 (by decide)) (ix2 g l) = gm e (8 + g.val) (oh + l.val) := by
  refine gm_eq e _ _ _ fun z => ?_
  refine (gmax4_le (fun s : Fin 8 => ldG4 X h hh (64 + s.val) (by omega)) g l z).trans ?_
  refine forall_congr' fun s => ?_
  have := hf ⟨64 + 8 * g.val + s.val, by omega⟩ l z
  dsimp only at this ⊢
  rw [show (64 + 8 * g.val + s.val) / 8 = 8 + g.val by omega, show (64 + 8 * g.val + s.val) % 8 = s.val by omega] at this
  rw [← this]
  refine iff_of_eq (congrArg (fun x => X x ≤ z) (funext fun a => ?_))
  fin_cases a
  · rfl
  · exact Fin.ext (by show 64 + s.val + 8 * g.val = 64 + 8 * g.val + s.val; omega)
  · exact Fin.ext (by show 0 + 1 * l.val = l.val; omega)

/-- What one step's scales leave. -/
structure AfterS (e : Env) (b j oh : Nat) (X14 : S12x1792.Idx → EReal) (X15 : S14x96x128.Idx → EReal) (Y14 : S12x1792.Idx → EReal) (Y15 : S14x96x128.Idx → EReal) : Prop where
  i : ∀ (g : Fin 12) (n : Fin 1792), Y14 (ix2 g n) = if oh ≤ n.val ∧ n.val < oh + 128 then Ideal.div cL (sclOf (gm e g.val n.val)) else X14 (ix2 g n)
  k : ∀ (b' : Fin 14) (q : Fin 96) (l : Fin 128), Y15 (ix3 b' q l) = if b'.val = b ∧ q.val % 8 = j then sclOf (gm e (q.val / 8) (oh + l.val)) else X15 (ix3 b' q l)

theorem put14_8 (oh : Nat) (inb : ∀ i, (![0, oh] : Fin 2 → Nat) i + S8x128.size i ≤ S12x1792.size i) (w : S8x128.Idx → EReal) (X : S12x1792.Idx → EReal) (g : Fin 12) (n : Fin 1792) :
    put (Rect.unit (s := S12x1792) ![0, oh] S8x128.size inb) w X (ix2 g n)
      = if h : g.val < 8 ∧ oh ≤ n.val ∧ n.val < oh + 128 then w (ix2 ⟨g.val, h.1⟩ ⟨n.val - oh, by omega⟩) else X (ix2 g n) := by
  by_cases h : g.val < 8 ∧ oh ≤ n.val ∧ n.val < oh + 128
  · rw [dif_pos h, put_hit _ _ _ (ix2 ⟨g.val, h.1⟩ ⟨n.val - oh, by omega⟩) _ (by
      intro a; fin_cases a
      · show g.val = 0 + 1 * g.val; omega
      · show n.val = oh + 1 * (n.val - oh); omega)]
  · rw [dif_neg h]
    by_cases h1 : g.val < 8
    · refine put_miss _ _ _ _ (Rect.not_mem_set_of_axis _ _ 1 oh 128 rfl rfl rfl ?_)
      show n.val < oh ∨ oh + 128 ≤ n.val
      omega
    · refine put_miss _ _ _ _ (Rect.not_mem_set_of_axis _ _ 0 0 8 rfl rfl rfl ?_)
      show g.val < 0 ∨ 0 + 8 ≤ g.val
      omega

theorem put14_4 (oh : Nat) (inb : ∀ i, (![8, oh] : Fin 2 → Nat) i + S4x128.size i ≤ S12x1792.size i) (w : S4x128.Idx → EReal) (X : S12x1792.Idx → EReal) (g : Fin 12) (n : Fin 1792) :
    put (Rect.unit (s := S12x1792) ![8, oh] S4x128.size inb) w X (ix2 g n)
      = if h : 8 ≤ g.val ∧ oh ≤ n.val ∧ n.val < oh + 128 then w (ix2 ⟨g.val - 8, by omega⟩ ⟨n.val - oh, by omega⟩) else X (ix2 g n) := by
  by_cases h : 8 ≤ g.val ∧ oh ≤ n.val ∧ n.val < oh + 128
  · rw [dif_pos h, put_hit _ _ _ (ix2 ⟨g.val - 8, by omega⟩ ⟨n.val - oh, by omega⟩) _ (by
      intro a; fin_cases a
      · show g.val = 8 + 1 * (g.val - 8); omega
      · show n.val = oh + 1 * (n.val - oh); omega)]
  · rw [dif_neg h]
    by_cases h1 : 8 ≤ g.val
    · refine put_miss _ _ _ _ (Rect.not_mem_set_of_axis _ _ 1 oh 128 rfl rfl rfl ?_)
      show n.val < oh ∨ oh + 128 ≤ n.val
      omega
    · refine put_miss _ _ _ _ (Rect.not_mem_set_of_axis _ _ 0 8 4 rfl rfl rfl ?_)
      show g.val < 8 ∨ 8 + 4 ≤ g.val
      omega

/-- A strided rectangle of rows misses an index of another residue or outside its range. -/
theorem put15_8 (b r : Nat) (hb : b < 14) (hr : r < 8) (r0 : Nat) (h0 : r0 = r) (inb) (hs) (w : S1x8x128.Idx → EReal) (X : S14x96x128.Idx → EReal) (b' : Fin 14) (q : Fin 96) (l : Fin 128) :
    put ⟨(⟨![b, r0, 0], S1x8x128.size, ![1, 8, 1], inb⟩ : LoadRect S14x96x128), hs⟩ w X (ix3 b' q l)
      = if h : (b'.val = b ∧ q.val % 8 = r) ∧ q.val / 8 < 8 then w (ix3 0 ⟨q.val / 8, h.2⟩ l) else X (ix3 b' q l) := by
  subst h0
  by_cases h : (b'.val = b ∧ q.val % 8 = r0) ∧ q.val / 8 < 8
  · rw [dif_pos h, put_hit _ _ _ (ix3 0 ⟨q.val / 8, h.2⟩ l) _ (by
      intro a; fin_cases a
      · show b'.val = b + 1 * 0; omega
      · show q.val = r0 + 8 * (q.val / 8); omega
      · show l.val = 0 + 1 * l.val; omega)]
  · rw [dif_neg h]
    refine put_miss _ _ _ _ fun hm => h ?_
    obtain ⟨x0, l0, e0⟩ := (LoadRect.mem_set _).1 hm 0
    obtain ⟨x1, l1, e1⟩ := (LoadRect.mem_set _).1 hm 1
    replace l0 : x0 < 1 := l0
    replace l1 : x1 < 8 := l1
    replace e0 : b'.val = b + 1 * x0 := e0
    replace e1 : q.val = r0 + 8 * x1 := e1
    omega

theorem put15_4 (b r : Nat) (hb : b < 14) (hr : r < 8) (r0 : Nat) (h0 : r0 = 64 + r) (inb) (hs) (w : S1x4x128.Idx → EReal) (X : S14x96x128.Idx → EReal) (b' : Fin 14) (q : Fin 96) (l : Fin 128) :
    put ⟨(⟨![b, r0, 0], S1x4x128.size, ![1, 8, 1], inb⟩ : LoadRect S14x96x128), hs⟩ w X (ix3 b' q l)
      = if h : (b'.val = b ∧ q.val % 8 = r) ∧ 8 ≤ q.val / 8 then w (ix3 0 ⟨q.val / 8 - 8, by omega⟩ l) else X (ix3 b' q l) := by
  subst h0
  by_cases h : (b'.val = b ∧ q.val % 8 = r) ∧ 8 ≤ q.val / 8
  · rw [dif_pos h, put_hit _ _ _ (ix3 0 ⟨q.val / 8 - 8, by omega⟩ l) _ (by
      intro a; fin_cases a
      · show b'.val = b + 1 * 0; omega
      · show q.val = 64 + r + 8 * (q.val / 8 - 8); omega
      · show l.val = 0 + 1 * l.val; omega)]
  · rw [dif_neg h]
    refine put_miss _ _ _ _ fun hm => h ?_
    obtain ⟨x0, l0, e0⟩ := (LoadRect.mem_set _).1 hm 0
    obtain ⟨x1, l1, e1⟩ := (LoadRect.mem_set _).1 hm 1
    replace l0 : x0 < 1 := l0
    replace l1 : x1 < 4 := l1
    replace e0 : b'.val = b + 1 * x0 := e0
    replace e1 : q.val = 64 + r + 8 * x1 := e1
    omega

theorem afterS (e : Env) (b j oh : Nat) (hb : b < 14) (hj : j < 8) (hoh : oh + 128 ≤ 1792) (G8 : FVec Ideal S8x128 .f32) (G4 : FVec Ideal S4x128 .f32)
    (h8 : ∀ g l, G8 (ix2 g l) = gm e g.val (oh + l.val)) (h4 : ∀ g l, G4 (ix2 g l) = gm e (8 + g.val) (oh + l.val))
    (X14 : S12x1792.Idx → EReal) (X15 : S14x96x128.Idx → EReal) (r8 r4 : Nat) (e8 : r8 = j) (e4 : r4 = 64 + j) (i8 i4 i15 i16 s15 s16) :
    AfterS e b j oh X14 X15
      (put (Rect.unit (s := S12x1792) ![8, oh] S4x128.size i4) (inv4 (scl4 G4)) (put (Rect.unit (s := S12x1792) ![0, oh] S8x128.size i8) (inv8 (scl8 G8)) X14))
      (put ⟨(⟨![b, r4, 0], S1x4x128.size, ![1, 8, 1], i16⟩ : LoadRect S14x96x128), s16⟩ (osc4 (scl4 G4))
        (put ⟨(⟨![b, r8, 0], S1x8x128.size, ![1, 8, 1], i15⟩ : LoadRect S14x96x128), s15⟩ (osc8 (scl8 G8)) X15)) := by
  constructor
  · intro g n
    rw [put14_4, put14_8]
    by_cases h1 : oh ≤ n.val ∧ n.val < oh + 128
    · rw [if_pos h1]
      by_cases h2 : 8 ≤ g.val
      · rw [dif_pos ⟨h2, h1⟩, inv4_apply, scl4_apply, h4]
        dsimp only
        rw [show 8 + (g.val - 8) = g.val by omega, show oh + (n.val - oh) = n.val by omega]
      · rw [dif_neg (by omega), dif_pos ⟨by omega, h1⟩, inv8_apply, scl8_apply, h8]
        dsimp only
        rw [show oh + (n.val - oh) = n.val by omega]
    · rw [if_neg h1, dif_neg (by omega), dif_neg (by omega)]
  · intro b' q l
    rw [put15_4 b j hb hj r4 e4, put15_8 b j hb hj r8 e8]
    by_cases h1 : b'.val = b ∧ q.val % 8 = j
    · rw [if_pos h1]
      by_cases h2 : 8 ≤ q.val / 8
      · rw [dif_pos ⟨h1, h2⟩, osc4_apply, scl4_apply, h4]
        dsimp only
        rw [show 8 + (q.val / 8 - 8) = q.val / 8 by omega]
      · rw [dif_neg (by omega), dif_pos ⟨h1, by omega⟩, osc8_apply, scl8_apply, h8]
    · rw [if_neg h1, dif_neg (fun h => h1 h.1), dif_neg (fun h => h1 h.1)]

attribute [local irreducible] gmax8 gmax4 scl8 scl4 inv8 inv4 osc8 osc4

theorem blkS_ok (c : Dev nD) (A : Ops) (e : Env) (j : Nat) (hj : j < 8) (h : Nat) (hh : h + 1 ≤ 2) (oh : Nat) (hoh : oh + 128 ≤ 1792) (b : Nat) (hb : b < 14) (v1 : BitVec 32)
    (hv8 : (Scalar.indexCast (Scalar.addi 0#32 v1)).toNat + 8 * (8 - 1) < 96) (hv4 : (Scalar.indexCast (Scalar.addi 64#32 v1)).toNat + 8 * (4 - 1) < 96)
    (e8 : (Scalar.indexCast (Scalar.addi 0#32 v1)).toNat = j) (e4 : (Scalar.indexCast (Scalar.addi 64#32 v1)).toNat = 64 + j)
    (σ : St Ideal) (hf : FoldH e σ.a13 h hh oh) (Φ : PUnit → St Ideal → Prop)
    (hΦ : ∀ X14 X15, AfterS e b j oh σ.a14 σ.a15 X14 X15 → Φ ⟨⟩ { σ with a14 := X14, a15 := X15 }) :
    Ok c A (blkS h hh oh hoh b hb v1 hv8 hv4 A.m13 A.h13 A.m14 A.h14 A.m15 A.h15) σ Φ := by
  unfold blkS
  iterate 8 refine ld13 ?_
  refine ld14 ?_; refine st14 ?_; dsimp only
  refine ld15 ?_; refine st15 ?_; dsimp only
  iterate 8 refine ld13 ?_
  refine ld14 ?_; refine st14 ?_; dsimp only
  refine ld15 ?_; refine st15l ?_; dsimp only
  exact hΦ _ _ (afterS e b j oh hb hj hoh _ _ (gmaxAt8 e σ.a13 h hh oh hf) (gmaxAt4 e σ.a13 h hh oh hf) σ.a14 σ.a15 _ _ e8 e4 _ _ _ _ _ _)

end Cert.KernelIdeal.Hand

end

end
-- ==== Proof.Val.Stage.lean ====
/-
  The whole kernel body as three stretches: what comes before the seven blocks of lanes, the blocks, and what comes after.
-/
module

public import proofs.«01_k».proof.Proof.Val.Block

@[expose] public section

set_option maxRecDepth 100000
set_option maxHeartbeats 0

noncomputable section

namespace Cert.KernelIdeal.Hand

open Cert.KernelIdeal Cert.KernelIdeal.Gen
open Idealize.ShloMosaic Idealize.SL.Sem

variable {F : FTy → Type} [FloatOps F] [Named F]

/-- The row block of the step, as the word the body computes. -/
def jw (i : grid0.Coords) : BitVec 32 := Scalar.remsi (Scalar.minsi (BitVec.ofNat 32 (i 0).val) 55#32) 8#32

theorem jw_row (i : grid0.Coords) (g : Nat) (hg : g < 12) :
    (Scalar.indexCast (Scalar.addi (BitVec.ofNat 32 (8 * g)) (jw i))).toNat + 1 ≤ 96 := k0_off1_inb i ⟨g, hg⟩ 0
theorem jw_8 (i : grid0.Coords) : (Scalar.indexCast (Scalar.addi 0#32 (jw i))).toNat + 8 * (8 - 1) < 96 :=
  (k0_off2_inb i 1).resolve_left (by decide)
theorem jw_4 (i : grid0.Coords) : (Scalar.indexCast (Scalar.addi 64#32 (jw i))).toNat + 8 * (4 - 1) < 96 :=
  (k0_off3_inb i 1).resolve_left (by decide)

/-- The step is the first. -/
def cond1 (i : grid0.Coords) : BitVec 1 := Scalar.cmpi .ne (Scalar.extui (Scalar.cmpi .eq (BitVec.ofNat 32 (i 0).val) 0#32) : BitVec 32) 0#32
/-- The step is a row group's first. -/
def cond2 (i : grid0.Coords) : BitVec 1 := Scalar.cmpi .ne (Scalar.extui (Scalar.cmpi .eq (jw i) 0#32) : BitVec 32) 0#32

/-- The first step's clearing. -/
def ini1a (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit := do
  have v12556 : IVec S192x128 32 := iota .tc S192x128 32 [0] iota_S192x128_d0_w32
  have v12557 : IVec S192x128 32 := iota .tc S192x128 32 [1] iota_S192x128_d1_w32
  have v12558 : IVec S192x128 1 := cmpi .eq v12556 v12557
  have cst_3732 : F .f32 := Scalar.ofBits .f32 0x40200000#32
  have cst_3733 : F .f32 := Scalar.ofBits .f32 0x00000000#32
  have v12559 : FVec F S192x128 .f32 := broadcast S192x128 cst_3732
  have v12560 : FVec F S192x128 .f32 := broadcast S192x128 cst_3733
  have v12561 : FVec F S192x128 .f32 := select v12558 v12559 v12560
  have v12562 : FVec F S192x128 .bf16 := truncf .bf16 v12561 bitsLt_bf16_f32
  let c0_3734 : Index := 0#32
  let c0_3735 : Index := 0#32
  let v12563 : Vec F S192x128 .bf16 ← Prog.lift (.load arg8 (Rect.unit (s := S192x128) ![0, 0] S192x128.size inb_S192x128_S192x128_0_0).toLoadRect (View.loadsAt_vmem h_S192x128))
  have v12564 : FVec F S192x128 .bf16 := shapeCast S192x128 v12563 shapeCasts_S192x128_S192x128
  have v12565 : FVec F S192x128 .bf16 := shapeCast S192x128 v12562 shapeCasts_S192x128_S192x128
  Prog.lift (.store arg8 (Rect.unit (s := S192x128) ![0, 0] S192x128.size inb_S192x128_S192x128_0_0) v12565 Finset.univ (View.stores_vmem h_S192x128 (harg8.storeExact_slice rfl _ packedbf16_S192x128_S192x128_0_0) (fun _ => rfl)) (.inl rfl))
  have cst_3736 : F .bf16 := Scalar.ofBits .bf16 0x0000#16
  have v12566 : FVec F S128x1536 .bf16 := broadcast S128x1536 cst_3736
  let c0_3737 : Index := 0#32
  let c0_3738 : Index := 0#32
  let v12567 : Vec F S128x1536 .bf16 ← Prog.lift (.load arg10 (Rect.unit (s := S128x1536) ![0, 0] S128x1536.size inb_S128x1536_S128x1536_0_0).toLoadRect (View.loadsAt_vmem h_S128x1536))
  have v12568 : FVec F S128x1536 .bf16 := shapeCast S128x1536 v12567 shapeCasts_S128x1536_S128x1536
  have v12569 : FVec F S128x1536 .bf16 := shapeCast S128x1536 v12566 shapeCasts_S128x1536_S128x1536
  Prog.lift (.store arg10 (Rect.unit (s := S128x1536) ![0, 0] S128x1536.size inb_S128x1536_S128x1536_0_0) v12569 Finset.univ (View.stores_vmem h_S128x1536 (harg10.storeExact_slice rfl _ packedbf16_S128x1536_S128x1536_0_0) (fun _ => rfl)) (.inl rfl))
  have cst_3739 : F .bf16 := Scalar.ofBits .bf16 0x0000#16
  have v12570 : FVec F S64x1792 .bf16 := broadcast S64x1792 cst_3739
  let c0_3740 : Index := 0#32
  let c0_3741 : Index := 0#32
  let v12571 : Vec F S64x1792 .bf16 ← Prog.lift (.load arg11 (Rect.unit (s := S64x1792) ![0, 0] S64x1792.size inb_S64x1792_S64x1792_0_0).toLoadRect (View.loadsAt_vmem h_S64x1792))
  have v12572 : FVec F S64x1792 .bf16 := shapeCast S64x1792 v12571 shapeCasts_S64x1792_S64x1792
  have v12573 : FVec F S64x1792 .bf16 := shapeCast S64x1792 v12570 shapeCasts_S64x1792_S64x1792
  Prog.lift (.store arg11 (Rect.unit (s := S64x1792) ![0, 0] S64x1792.size inb_S64x1792_S64x1792_0_0) v12573 Finset.univ (View.stores_vmem h_S64x1792 (harg11.storeExact_slice rfl _ packedbf16_S64x1792_S64x1792_0_0) (fun _ => rfl)) (.inl rfl))
  have cst_3742 : F .f32 := Scalar.ofBits .f32 0x00000000#32
  have v12574 : FVec F S1536x1792 .f32 := broadcast S1536x1792 cst_3742
  let c0_3743 : Index := 0#32
  let c0_3744 : Index := 0#32
  let v12575 : Vec F S1536x1792 .f32 ← Prog.lift (.load arg7 (Rect.unit (s := S1536x1792) ![0, 0] S1536x1792.size inb_S1536x1792_S1536x1792_0_0).toLoadRect (View.loadsAt_vmem h_S1536x1792))
  have v12576 : FVec F S1536x1792 .f32 := shapeCast S1536x1792 v12575 shapeCasts_S1536x1792_S1536x1792
  have v12577 : FVec F S1536x1792 .f32 := shapeCast S1536x1792 v12574 shapeCasts_S1536x1792_S1536x1792
  Prog.lift (.store arg7 (Rect.unit (s := S1536x1792) ![0, 0] S1536x1792.size inb_S1536x1792_S1536x1792_0_0) v12577 Finset.univ (View.stores_vmem_bits_univ h_S1536x1792 rfl) (.inl rfl))
  have cst_3745 : F .f32 := Scalar.ofBits .f32 0x00000000#32
  have v12578 : FVec F S12x1792 .f32 := broadcast S12x1792 cst_3745
  let c0_3746 : Index := 0#32
  let c0_3747 : Index := 0#32
  let v12579 : Vec F S12x1792 .f32 ← Prog.lift (.load arg14 (Rect.unit (s := S12x1792) ![0, 0] S12x1792.size inb_S12x1792_S12x1792_0_0).toLoadRect (View.loadsAt_vmem h_S12x1792))
  have v12580 : FVec F S12x1792 .f32 := shapeCast S12x1792 v12579 shapeCasts_S12x1792_S12x1792
  have v12581 : FVec F S12x1792 .f32 := shapeCast S12x1792 v12578 shapeCasts_S12x1792_S12x1792
  Prog.lift (.store arg14 (Rect.unit (s := S12x1792) ![0, 0] S12x1792.size inb_S12x1792_S12x1792_0_0) v12581 Finset.univ (View.stores_vmem_bits_univ h_S12x1792 rfl) (.inl rfl))
  pure ⟨⟩
def ini1 (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit :=
  if cond1 i = 1#1 then ini1a i arg1 harg1 arg2 harg2 arg3 harg3 arg4 harg4 arg5 harg5 arg6 harg6 arg7 harg7 arg8 harg8 arg9 harg9 arg10 harg10 arg11 harg11 arg12 harg12 arg13 harg13 arg14 harg14 arg15 harg15 else Prog.ret ⟨⟩
/-- A new row group's scales. -/
def ini2a (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit := do
  let ⟨v12587, c16_i32_3753⟩ : Σ' (v12587 : FVec F S8x1792 .bf16), BitVec 32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15
  let ⟨v12617, v12623_lo, v12623_hi⟩ : Σ' (v12617 : FVec F S8x1792 .bf16) (v12623_lo : FVec F S8x1792 .bf16), FVec F S8x1792 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 v12587 c16_i32_3753
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 v12617 v12623_lo v12623_hi
  let c10_3792 : Index := 10#32
  let c0_3793 : Index := 0#32
  let c0_3794 : Index := 0#32
  let v12656 : Vec F S1x8x1792 .bf16 ← Prog.lift (.load arg2 (Rect.unit (s := S12x8x1792) ![10, 0, 0] S1x8x1792.size inb_S12x8x1792_S1x8x1792_10_0_0).toLoadRect (View.loadsAt_vmem h_S1x8x1792))
  have v12657 : FVec F S8x1792 .bf16 := shapeCast S8x1792 v12656 shapeCasts_S1x8x1792_S8x1792
  let c16_i32_3795 : BitVec 32 := 16#32
  have v12660 : IVec S8x1792 32 := broadcast S8x1792 c16_i32_3795
  let c80_3796 : Index := 80#32
  let c0_3797 : Index := 0#32
  let v12663_raw : Vec F S8x2x1792 .bf16 ← Prog.lift (.load arg12 (Rect.unit (s := S96x2x1792) ![80, 0, 0] S8x2x1792.size inb_S96x2x1792_S8x2x1792_80_0_0).toLoadRect (View.loadsAt_vmem h_S8x2x1792))
  have v12663_lo : FVec F S8x1792 .bf16 := shapeCast S8x1792 (rowsOfParity 0 S8x1x1792 v12663_raw bitcasts_S8x2x1792_w16_S8x1x1792_w32) shapeCasts_S8x1x1792_S8x1792
  have v12663_hi : FVec F S8x1792 .bf16 := shapeCast S8x1792 (rowsOfParity 1 S8x1x1792 v12663_raw bitcasts_S8x2x1792_w16_S8x1x1792_w32) shapeCasts_S8x1x1792_S8x1792
  have v12664_lo : FVec F S8x1792 .bf16 := v12663_lo
  have v12664_hi : FVec F S8x1792 .bf16 := v12663_hi
  have v12665_lo : FVec F S8x1792 .bf16 := v12657
  have v12665_hi : FVec F S8x1792 .bf16 := v12657
  have k0_w11 : Vec F S8x2x1792 .bf16 := interleaveRows S8x2x1792 (shapeCast S8x1x1792 v12665_lo shapeCasts_S8x1792_S8x1x1792) (shapeCast S8x1x1792 v12665_hi shapeCasts_S8x1792_S8x1x1792) bitcasts_S8x2x1792_w16_S8x1x1792_w32
  Prog.lift (.store arg12 (Rect.unit (s := S96x2x1792) ![80, 0, 0] S8x2x1792.size inb_S96x2x1792_S8x2x1792_80_0_0) k0_w11 Finset.univ (View.stores_vmem h_S8x2x1792 ((harg12.pairWhole rank2_S96x2x1792).storeExact_slice rfl _ (Rect.wholeRows_unit rank2_S96x2x1792 rfl rfl) pairs_S96x2x1792_bf16) (fun _ => rfl)) (.inl rfl))
  let c11_3798 : Index := 11#32
  let c0_3799 : Index := 0#32
  let c0_3800 : Index := 0#32
  let v12666 : Vec F S1x8x1792 .bf16 ← Prog.lift (.load arg2 (Rect.unit (s := S12x8x1792) ![11, 0, 0] S1x8x1792.size inb_S12x8x1792_S1x8x1792_11_0_0).toLoadRect (View.loadsAt_vmem h_S1x8x1792))
  have v12667 : FVec F S8x1792 .bf16 := shapeCast S8x1792 v12666 shapeCasts_S1x8x1792_S8x1792
  let c16_i32_3801 : BitVec 32 := 16#32
  have v12670 : IVec S8x1792 32 := broadcast S8x1792 c16_i32_3801
  let c88_3802 : Index := 88#32
  let c0_3803 : Index := 0#32
  let v12673_raw : Vec F S8x2x1792 .bf16 ← Prog.lift (.load arg12 (Rect.unit (s := S96x2x1792) ![88, 0, 0] S8x2x1792.size inb_S96x2x1792_S8x2x1792_88_0_0).toLoadRect (View.loadsAt_vmem h_S8x2x1792))
  have v12673_lo : FVec F S8x1792 .bf16 := shapeCast S8x1792 (rowsOfParity 0 S8x1x1792 v12673_raw bitcasts_S8x2x1792_w16_S8x1x1792_w32) shapeCasts_S8x1x1792_S8x1792
  have v12673_hi : FVec F S8x1792 .bf16 := shapeCast S8x1792 (rowsOfParity 1 S8x1x1792 v12673_raw bitcasts_S8x2x1792_w16_S8x1x1792_w32) shapeCasts_S8x1x1792_S8x1792
  have v12674_lo : FVec F S8x1792 .bf16 := v12673_lo
  have v12674_hi : FVec F S8x1792 .bf16 := v12673_hi
  have v12675_lo : FVec F S8x1792 .bf16 := v12667
  have v12675_hi : FVec F S8x1792 .bf16 := v12667
  have k0_w12 : Vec F S8x2x1792 .bf16 := interleaveRows S8x2x1792 (shapeCast S8x1x1792 v12675_lo shapeCasts_S8x1792_S8x1x1792) (shapeCast S8x1x1792 v12675_hi shapeCasts_S8x1792_S8x1x1792) bitcasts_S8x2x1792_w16_S8x1x1792_w32
  Prog.lift (.store arg12 (Rect.unit (s := S96x2x1792) ![88, 0, 0] S8x2x1792.size inb_S96x2x1792_S8x2x1792_88_0_0) k0_w12 Finset.univ (View.stores_vmem h_S8x2x1792 ((harg12.pairWhole rank2_S96x2x1792).storeExact_slice rfl _ (Rect.wholeRows_unit rank2_S96x2x1792 rfl rfl) pairs_S96x2x1792_bf16) (fun _ => rfl)) (.inl rfl))
  pure ⟨⟩
def ini2 (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit :=
  if cond2 i = 1#1 then ini2a i arg1 harg1 arg2 harg2 arg3 harg3 arg4 harg4 arg5 harg5 arg6 harg6 arg7 harg7 arg8 harg8 arg9 harg9 arg10 harg10 arg11 harg11 arg12 harg12 arg13 harg13 arg14 harg14 arg15 harg15 else Prog.ret ⟨⟩

theorem bind_ite {E : Type → Type _} {α β : Type} (c : Prop) [Decidable c] (a b : Prog E α) (J : α → Prog E β) :
    Prog.bind (if c then a else b) J = if _h : c then Prog.bind a J else Prog.bind b J := by
  by_cases h : c
  · rw [if_pos h, dif_pos h]
  · rw [if_neg h, dif_neg h]

/-- The factors of the step. -/
def pre (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit := do
  let c0 : Index := 0#32
  let c0_3 : Index := 0#32
  let c0_4 : Index := 0#32
  let v8 : Vec F S1x40x1792 .bf16 ← Prog.lift (.load arg4 (Rect.unit (s := S1x40x1792) ![0, 0, 0] S1x40x1792.size inb_S1x40x1792_S1x40x1792_0_0_0).toLoadRect (View.loadsAt_vmem h_S1x40x1792))
  have v9 : FVec F S40x1792 .bf16 := shapeCast S40x1792 v8 shapeCasts_S1x40x1792_S40x1792
  let c0_5 : Index := 0#32
  let c0_6 : Index := 0#32
  let v10 : Vec F S40x1792 .bf16 ← Prog.lift (.load arg11 (Rect.unit (s := S64x1792) ![0, 0] S40x1792.size inb_S64x1792_S40x1792_0_0).toLoadRect (View.loadsAt_vmem h_S40x1792))
  have v11 : FVec F S40x1792 .bf16 := shapeCast S40x1792 v10 shapeCasts_S40x1792_S40x1792
  have v12 : FVec F S40x1792 .bf16 := shapeCast S40x1792 v9 shapeCasts_S40x1792_S40x1792
  Prog.lift (.store arg11 (Rect.unit (s := S64x1792) ![0, 0] S40x1792.size inb_S64x1792_S40x1792_0_0) v12 Finset.univ (View.stores_vmem h_S40x1792 (harg11.storeExact_slice rfl _ packedbf16_S64x1792_S40x1792_0_0) (fun _ => rfl)) (.inl rfl))
  let c0_7 : Index := 0#32
  let c0_8 : Index := 0#32
  let c0_9 : Index := 0#32
  let v13 : Vec F S1x40x1536 .bf16 ← Prog.lift (.load arg3 (Rect.unit (s := S1x40x1536) ![0, 0, 0] S1x40x1536.size inb_S1x40x1536_S1x40x1536_0_0_0).toLoadRect (View.loadsAt_vmem h_S1x40x1536))
  have v14 : FVec F S40x1536 .bf16 := shapeCast S40x1536 v13 shapeCasts_S1x40x1536_S40x1536
  let c64 : Index := 64#32
  let c0_10 : Index := 0#32
  let v15 : Vec F S40x1536 .bf16 ← Prog.lift (.load arg10 (Rect.unit (s := S128x1536) ![64, 0] S40x1536.size inb_S128x1536_S40x1536_64_0).toLoadRect (View.loadsAt_vmem h_S40x1536))
  have v16 : FVec F S40x1536 .bf16 := shapeCast S40x1536 v15 shapeCasts_S40x1536_S40x1536
  have v17 : FVec F S40x1536 .bf16 := shapeCast S40x1536 v14 shapeCasts_S40x1536_S40x1536
  Prog.lift (.store arg10 (Rect.unit (s := S128x1536) ![64, 0] S40x1536.size inb_S128x1536_S40x1536_64_0) v17 Finset.univ (View.stores_vmem h_S40x1536 (harg10.storeExact_slice rfl _ packedbf16_S128x1536_S40x1536_64_0) (fun _ => rfl)) (.inl rfl))
  let c0_11 : Index := 0#32
  let c0_12 : Index := 0#32
  let v18 : Vec F S128x1536 .bf16 ← Prog.lift (.load arg10 (Rect.unit (s := S128x1536) ![0, 0] S128x1536.size inb_S128x1536_S128x1536_0_0).toLoadRect (View.loadsAt_vmem h_S128x1536))
  have v19 : FVec F S1536x128 .bf16 := transpose S1536x128 [1, 0] v18 transposes_S128x1536_p1_0_S1536x128
  have v20 : IVec S192x128 32 := iota .tc S192x128 32 [0] iota_S192x128_d0_w32
  have v21 : IVec S192x128 32 := iota .tc S192x128 32 [1] iota_S192x128_d1_w32
  let c128_i32 : BitVec 32 := 128#32
  have v22 : IVec S192x128 32 := broadcast S192x128 c128_i32
  have v23 : IVec S192x128 32 := subi v20 v22
  have v24 : IVec S192x128 1 := cmpi .eq v23 v21
  let c64_i32 : BitVec 32 := 64#32
  have v25 : IVec S192x128 32 := broadcast S192x128 c64_i32
  have v26 : IVec S192x128 1 := cmpi .slt v21 v25
  have v27 : IVec S192x128 1 := andi v24 v26
  have cst : F .f32 := Scalar.ofBits .f32 0x40200000#32
  have cst_13 : F .f32 := Scalar.ofBits .f32 0x00000000#32
  have v28 : FVec F S192x128 .f32 := broadcast S192x128 cst
  have v29 : FVec F S192x128 .f32 := broadcast S192x128 cst_13
  have v30 : FVec F S192x128 .f32 := select v27 v28 v29
  have v31 : FVec F S192x128 .bf16 := truncf .bf16 v30 bitsLt_bf16_f32
  have v32 : FVec F S192x128 .bf16 := extractStridedSlice S192x128 ![0, 0] v19 slices_S1536x128_o0_0_S192x128
  have v33 : FVec F S192x128 .bf16 := addf v32 v31
  let c0_14 : Index := 0#32
  let c0_15 : Index := 0#32
  let v34 : Vec F S192x128 .bf16 ← Prog.lift (.load arg9 (Rect.unit (s := S1536x128) ![0, 0] S192x128.size inb_S1536x128_S192x128_0_0).toLoadRect (View.loadsAt_vmem h_S192x128))
  have v35 : FVec F S192x128 .bf16 := shapeCast S192x128 v34 shapeCasts_S192x128_S192x128
  have v36 : FVec F S192x128 .bf16 := shapeCast S192x128 v33 shapeCasts_S192x128_S192x128
  Prog.lift (.store arg9 (Rect.unit (s := S1536x128) ![0, 0] S192x128.size inb_S1536x128_S192x128_0_0) v36 Finset.univ (View.stores_vmem h_S192x128 (harg9.storeExact_slice rfl _ packedbf16_S1536x128_S192x128_0_0) (fun _ => rfl)) (.inl rfl))
  have v37 : FVec F S192x128 .bf16 := extractStridedSlice S192x128 ![192, 0] v19 slices_S1536x128_o192_0_S192x128
  have v38 : FVec F S192x128 .bf16 := addf v37 v31
  let c192 : Index := 192#32
  let c0_16 : Index := 0#32
  let v39 : Vec F S192x128 .bf16 ← Prog.lift (.load arg9 (Rect.unit (s := S1536x128) ![192, 0] S192x128.size inb_S1536x128_S192x128_192_0).toLoadRect (View.loadsAt_vmem h_S192x128))
  have v40 : FVec F S192x128 .bf16 := shapeCast S192x128 v39 shapeCasts_S192x128_S192x128
  have v41 : FVec F S192x128 .bf16 := shapeCast S192x128 v38 shapeCasts_S192x128_S192x128
  Prog.lift (.store arg9 (Rect.unit (s := S1536x128) ![192, 0] S192x128.size inb_S1536x128_S192x128_192_0) v41 Finset.univ (View.stores_vmem h_S192x128 (harg9.storeExact_slice rfl _ packedbf16_S1536x128_S192x128_192_0) (fun _ => rfl)) (.inl rfl))
  have v42 : FVec F S192x128 .bf16 := extractStridedSlice S192x128 ![384, 0] v19 slices_S1536x128_o384_0_S192x128
  have v43 : FVec F S192x128 .bf16 := addf v42 v31
  let c384 : Index := 384#32
  let c0_17 : Index := 0#32
  let v44 : Vec F S192x128 .bf16 ← Prog.lift (.load arg9 (Rect.unit (s := S1536x128) ![384, 0] S192x128.size inb_S1536x128_S192x128_384_0).toLoadRect (View.loadsAt_vmem h_S192x128))
  have v45 : FVec F S192x128 .bf16 := shapeCast S192x128 v44 shapeCasts_S192x128_S192x128
  have v46 : FVec F S192x128 .bf16 := shapeCast S192x128 v43 shapeCasts_S192x128_S192x128
  Prog.lift (.store arg9 (Rect.unit (s := S1536x128) ![384, 0] S192x128.size inb_S1536x128_S192x128_384_0) v46 Finset.univ (View.stores_vmem h_S192x128 (harg9.storeExact_slice rfl _ packedbf16_S1536x128_S192x128_384_0) (fun _ => rfl)) (.inl rfl))
  have v47 : FVec F S192x128 .bf16 := extractStridedSlice S192x128 ![576, 0] v19 slices_S1536x128_o576_0_S192x128
  have v48 : FVec F S192x128 .bf16 := addf v47 v31
  let c576 : Index := 576#32
  let c0_18 : Index := 0#32
  let v49 : Vec F S192x128 .bf16 ← Prog.lift (.load arg9 (Rect.unit (s := S1536x128) ![576, 0] S192x128.size inb_S1536x128_S192x128_576_0).toLoadRect (View.loadsAt_vmem h_S192x128))
  have v50 : FVec F S192x128 .bf16 := shapeCast S192x128 v49 shapeCasts_S192x128_S192x128
  have v51 : FVec F S192x128 .bf16 := shapeCast S192x128 v48 shapeCasts_S192x128_S192x128
  Prog.lift (.store arg9 (Rect.unit (s := S1536x128) ![576, 0] S192x128.size inb_S1536x128_S192x128_576_0) v51 Finset.univ (View.stores_vmem h_S192x128 (harg9.storeExact_slice rfl _ packedbf16_S1536x128_S192x128_576_0) (fun _ => rfl)) (.inl rfl))
  have v52 : FVec F S192x128 .bf16 := extractStridedSlice S192x128 ![768, 0] v19 slices_S1536x128_o768_0_S192x128
  have v53 : FVec F S192x128 .bf16 := addf v52 v31
  let c768 : Index := 768#32
  let c0_19 : Index := 0#32
  let v54 : Vec F S192x128 .bf16 ← Prog.lift (.load arg9 (Rect.unit (s := S1536x128) ![768, 0] S192x128.size inb_S1536x128_S192x128_768_0).toLoadRect (View.loadsAt_vmem h_S192x128))
  have v55 : FVec F S192x128 .bf16 := shapeCast S192x128 v54 shapeCasts_S192x128_S192x128
  have v56 : FVec F S192x128 .bf16 := shapeCast S192x128 v53 shapeCasts_S192x128_S192x128
  Prog.lift (.store arg9 (Rect.unit (s := S1536x128) ![768, 0] S192x128.size inb_S1536x128_S192x128_768_0) v56 Finset.univ (View.stores_vmem h_S192x128 (harg9.storeExact_slice rfl _ packedbf16_S1536x128_S192x128_768_0) (fun _ => rfl)) (.inl rfl))
  have v57 : FVec F S192x128 .bf16 := extractStridedSlice S192x128 ![960, 0] v19 slices_S1536x128_o960_0_S192x128
  have v58 : FVec F S192x128 .bf16 := addf v57 v31
  let c960 : Index := 960#32
  let c0_20 : Index := 0#32
  let v59 : Vec F S192x128 .bf16 ← Prog.lift (.load arg9 (Rect.unit (s := S1536x128) ![960, 0] S192x128.size inb_S1536x128_S192x128_960_0).toLoadRect (View.loadsAt_vmem h_S192x128))
  have v60 : FVec F S192x128 .bf16 := shapeCast S192x128 v59 shapeCasts_S192x128_S192x128
  have v61 : FVec F S192x128 .bf16 := shapeCast S192x128 v58 shapeCasts_S192x128_S192x128
  Prog.lift (.store arg9 (Rect.unit (s := S1536x128) ![960, 0] S192x128.size inb_S1536x128_S192x128_960_0) v61 Finset.univ (View.stores_vmem h_S192x128 (harg9.storeExact_slice rfl _ packedbf16_S1536x128_S192x128_960_0) (fun _ => rfl)) (.inl rfl))
  have v62 : FVec F S192x128 .bf16 := extractStridedSlice S192x128 ![1152, 0] v19 slices_S1536x128_o1152_0_S192x128
  have v63 : FVec F S192x128 .bf16 := addf v62 v31
  let c1152 : Index := 1152#32
  let c0_21 : Index := 0#32
  let v64 : Vec F S192x128 .bf16 ← Prog.lift (.load arg9 (Rect.unit (s := S1536x128) ![1152, 0] S192x128.size inb_S1536x128_S192x128_1152_0).toLoadRect (View.loadsAt_vmem h_S192x128))
  have v65 : FVec F S192x128 .bf16 := shapeCast S192x128 v64 shapeCasts_S192x128_S192x128
  have v66 : FVec F S192x128 .bf16 := shapeCast S192x128 v63 shapeCasts_S192x128_S192x128
  Prog.lift (.store arg9 (Rect.unit (s := S1536x128) ![1152, 0] S192x128.size inb_S1536x128_S192x128_1152_0) v66 Finset.univ (View.stores_vmem h_S192x128 (harg9.storeExact_slice rfl _ packedbf16_S1536x128_S192x128_1152_0) (fun _ => rfl)) (.inl rfl))
  have v67 : FVec F S192x128 .bf16 := extractStridedSlice S192x128 ![1344, 0] v19 slices_S1536x128_o1344_0_S192x128
  have v68 : FVec F S192x128 .bf16 := addf v67 v31
  let c1344 : Index := 1344#32
  let c0_22 : Index := 0#32
  let v69 : Vec F S192x128 .bf16 ← Prog.lift (.load arg9 (Rect.unit (s := S1536x128) ![1344, 0] S192x128.size inb_S1536x128_S192x128_1344_0).toLoadRect (View.loadsAt_vmem h_S192x128))
  have v70 : FVec F S192x128 .bf16 := shapeCast S192x128 v69 shapeCasts_S192x128_S192x128
  have v71 : FVec F S192x128 .bf16 := shapeCast S192x128 v68 shapeCasts_S192x128_S192x128
  Prog.lift (.store arg9 (Rect.unit (s := S1536x128) ![1344, 0] S192x128.size inb_S1536x128_S192x128_1344_0) v71 Finset.univ (View.stores_vmem h_S192x128 (harg9.storeExact_slice rfl _ packedbf16_S1536x128_S192x128_1344_0) (fun _ => rfl)) (.inl rfl))
  let c0_23 : Index := 0#32
  let c0_24 : Index := 0#32
/-- After the blocks: at a row group's last step, the scales written out. -/
def epi (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit := do
  if k0_h3 : k0_cond3 i = 1#1 then do
    k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15
    k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15
    let c10_3792 : Index := 10#32
    let c0_3793 : Index := 0#32
    let c0_3794 : Index := 0#32
    let v12606 : Vec F S1x96x128 .f32 ← Prog.lift (.load arg15 (Rect.unit (s := S14x96x128) ![10, 0, 0] S1x96x128.size inb_S14x96x128_S1x96x128_10_0_0).toLoadRect (View.loadsAt_vmem h_S1x96x128))
    have v12607 : FVec F S96x128 .f32 := shapeCast S96x128 v12606 shapeCasts_S1x96x128_S96x128
    have v12608 : FVec F S12x8x128 .f32 := shapeCast S12x8x128 v12607 shapeCasts_S96x128_S12x8x128
    have v12609 : FVec F S12x8x128 .bf16 := truncf .bf16 v12608 bitsLt_bf16_f32
    let c0_3795 : Index := 0#32
    let c0_3796 : Index := 0#32
    let c1280_3797 : Index := 1280#32
    let v12610 : Vec F S12x8x128 .bf16 ← Prog.lift (.load arg6 (Rect.unit (s := S12x8x1792) ![0, 0, 1280] S12x8x128.size inb_S12x8x1792_S12x8x128_0_0_1280).toLoadRect (View.loadsAt_vmem h_S12x8x128))
    Prog.lift (.store arg6 (Rect.unit (s := S12x8x1792) ![0, 0, 1280] S12x8x128.size inb_S12x8x1792_S12x8x128_0_0_1280) v12609 Finset.univ (View.stores_vmem h_S12x8x128 (harg6.storeExact_slice rfl _ packedbf16_S12x8x1792_S12x8x128_0_0_1280) (fun _ => rfl)) (.inl rfl))
    let c11_3798 : Index := 11#32
    let c0_3799 : Index := 0#32
    let c0_3800 : Index := 0#32
    let v12611 : Vec F S1x96x128 .f32 ← Prog.lift (.load arg15 (Rect.unit (s := S14x96x128) ![11, 0, 0] S1x96x128.size inb_S14x96x128_S1x96x128_11_0_0).toLoadRect (View.loadsAt_vmem h_S1x96x128))
    have v12612 : FVec F S96x128 .f32 := shapeCast S96x128 v12611 shapeCasts_S1x96x128_S96x128
    have v12613 : FVec F S12x8x128 .f32 := shapeCast S12x8x128 v12612 shapeCasts_S96x128_S12x8x128
    have v12614 : FVec F S12x8x128 .bf16 := truncf .bf16 v12613 bitsLt_bf16_f32
    let c0_3801 : Index := 0#32
    let c0_3802 : Index := 0#32
    let c1408_3803 : Index := 1408#32
    let v12615 : Vec F S12x8x128 .bf16 ← Prog.lift (.load arg6 (Rect.unit (s := S12x8x1792) ![0, 0, 1408] S12x8x128.size inb_S12x8x1792_S12x8x128_0_0_1408).toLoadRect (View.loadsAt_vmem h_S12x8x128))
    Prog.lift (.store arg6 (Rect.unit (s := S12x8x1792) ![0, 0, 1408] S12x8x128.size inb_S12x8x1792_S12x8x128_0_0_1408) v12614 Finset.univ (View.stores_vmem h_S12x8x128 (harg6.storeExact_slice rfl _ packedbf16_S12x8x1792_S12x8x128_0_0_1408) (fun _ => rfl)) (.inl rfl))
    let c12_3804 : Index := 12#32
    let c0_3805 : Index := 0#32
    let c0_3806 : Index := 0#32
    let v12616 : Vec F S1x96x128 .f32 ← Prog.lift (.load arg15 (Rect.unit (s := S14x96x128) ![12, 0, 0] S1x96x128.size inb_S14x96x128_S1x96x128_12_0_0).toLoadRect (View.loadsAt_vmem h_S1x96x128))
    have v12617 : FVec F S96x128 .f32 := shapeCast S96x128 v12616 shapeCasts_S1x96x128_S96x128
    have v12618 : FVec F S12x8x128 .f32 := shapeCast S12x8x128 v12617 shapeCasts_S96x128_S12x8x128
    have v12619 : FVec F S12x8x128 .bf16 := truncf .bf16 v12618 bitsLt_bf16_f32
    let c0_3807 : Index := 0#32
    let c0_3808 : Index := 0#32
    let c1536_3809 : Index := 1536#32
    let v12620 : Vec F S12x8x128 .bf16 ← Prog.lift (.load arg6 (Rect.unit (s := S12x8x1792) ![0, 0, 1536] S12x8x128.size inb_S12x8x1792_S12x8x128_0_0_1536).toLoadRect (View.loadsAt_vmem h_S12x8x128))
    Prog.lift (.store arg6 (Rect.unit (s := S12x8x1792) ![0, 0, 1536] S12x8x128.size inb_S12x8x1792_S12x8x128_0_0_1536) v12619 Finset.univ (View.stores_vmem h_S12x8x128 (harg6.storeExact_slice rfl _ packedbf16_S12x8x1792_S12x8x128_0_0_1536) (fun _ => rfl)) (.inl rfl))
    let c13_3810 : Index := 13#32
    let c0_3811 : Index := 0#32
    let c0_3812 : Index := 0#32
    let v12621 : Vec F S1x96x128 .f32 ← Prog.lift (.load arg15 (Rect.unit (s := S14x96x128) ![13, 0, 0] S1x96x128.size inb_S14x96x128_S1x96x128_13_0_0).toLoadRect (View.loadsAt_vmem h_S1x96x128))
    have v12622 : FVec F S96x128 .f32 := shapeCast S96x128 v12621 shapeCasts_S1x96x128_S96x128
    have v12623 : FVec F S12x8x128 .f32 := shapeCast S12x8x128 v12622 shapeCasts_S96x128_S12x8x128
    have v12624 : FVec F S12x8x128 .bf16 := truncf .bf16 v12623 bitsLt_bf16_f32
    let c0_3813 : Index := 0#32
    let c0_3814 : Index := 0#32
    let c1664_3815 : Index := 1664#32
    let v12625 : Vec F S12x8x128 .bf16 ← Prog.lift (.load arg6 (Rect.unit (s := S12x8x1792) ![0, 0, 1664] S12x8x128.size inb_S12x8x1792_S12x8x128_0_0_1664).toLoadRect (View.loadsAt_vmem h_S12x8x128))
    Prog.lift (.store arg6 (Rect.unit (s := S12x8x1792) ![0, 0, 1664] S12x8x128.size inb_S12x8x1792_S12x8x128_0_0_1664) v12624 Finset.univ (View.stores_vmem h_S12x8x128 (harg6.storeExact_slice rfl _ packedbf16_S12x8x1792_S12x8x128_0_0_1664) (fun _ => rfl)) (.inl rfl))
    pure ⟨⟩
  else do
    pure ⟨⟩
  pure ⟨⟩
/-- The seven blocks. -/
def mid (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit := do
  blk 0 (by decide) (by decide) 0 (by decide) (jw i) (jw_row i) (jw_8 i) (jw_4 i) arg1 harg1 arg5 harg5 arg7 harg7 arg8 harg8 arg9 harg9 arg11 harg11 arg12 harg12 arg13 harg13 arg14 harg14 arg15 harg15
  blk 256 (by decide) (by decide) 2 (by decide) (jw i) (jw_row i) (jw_8 i) (jw_4 i) arg1 harg1 arg5 harg5 arg7 harg7 arg8 harg8 arg9 harg9 arg11 harg11 arg12 harg12 arg13 harg13 arg14 harg14 arg15 harg15
  blk 512 (by decide) (by decide) 4 (by decide) (jw i) (jw_row i) (jw_8 i) (jw_4 i) arg1 harg1 arg5 harg5 arg7 harg7 arg8 harg8 arg9 harg9 arg11 harg11 arg12 harg12 arg13 harg13 arg14 harg14 arg15 harg15
  blk 768 (by decide) (by decide) 6 (by decide) (jw i) (jw_row i) (jw_8 i) (jw_4 i) arg1 harg1 arg5 harg5 arg7 harg7 arg8 harg8 arg9 harg9 arg11 harg11 arg12 harg12 arg13 harg13 arg14 harg14 arg15 harg15
  blk 1024 (by decide) (by decide) 8 (by decide) (jw i) (jw_row i) (jw_8 i) (jw_4 i) arg1 harg1 arg5 harg5 arg7 harg7 arg8 harg8 arg9 harg9 arg11 harg11 arg12 harg12 arg13 harg13 arg14 harg14 arg15 harg15
  blk 1280 (by decide) (by decide) 10 (by decide) (jw i) (jw_row i) (jw_8 i) (jw_4 i) arg1 harg1 arg5 harg5 arg7 harg7 arg8 harg8 arg9 harg9 arg11 harg11 arg12 harg12 arg13 harg13 arg14 harg14 arg15 harg15
  blk 1536 (by decide) (by decide) 12 (by decide) (jw i) (jw_row i) (jw_8 i) (jw_4 i) arg1 harg1 arg5 harg5 arg7 harg7 arg8 harg8 arg9 harg9 arg11 harg11 arg12 harg12 arg13 harg13 arg14 harg14 arg15 harg15
/-- The body. -/
def body (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) PUnit := do
  ini1 i arg1 harg1 arg2 harg2 arg3 harg3 arg4 harg4 arg5 harg5 arg6 harg6 arg7 harg7 arg8 harg8 arg9 harg9 arg10 harg10 arg11 harg11 arg12 harg12 arg13 harg13 arg14 harg14 arg15 harg15
  ini2 i arg1 harg1 arg2 harg2 arg3 harg3 arg4 harg4 arg5 harg5 arg6 harg6 arg7 harg7 arg8 harg8 arg9 harg9 arg10 harg10 arg11 harg11 arg12 harg12 arg13 harg13 arg14 harg14 arg15 harg15
  pre i arg1 harg1 arg2 harg2 arg3 harg3 arg4 harg4 arg5 harg5 arg6 harg6 arg7 harg7 arg8 harg8 arg9 harg9 arg10 harg10 arg11 harg11 arg12 harg12 arg13 harg13 arg14 harg14 arg15 harg15
  mid i arg1 harg1 arg2 harg2 arg3 harg3 arg4 harg4 arg5 harg5 arg6 harg6 arg7 harg7 arg8 harg8 arg9 harg9 arg10 harg10 arg11 harg11 arg12 harg12 arg13 harg13 arg14 harg14 arg15 harg15
  epi i arg1 harg1 arg2 harg2 arg3 harg3 arg4 harg4 arg5 harg5 arg6 harg6 arg7 harg7 arg8 harg8 arg9 harg9 arg10 harg10 arg11 harg11 arg12 harg12 arg13 harg13 arg14 harg14 arg15 harg15

end Cert.KernelIdeal.Hand

end

end
-- ==== Proof.Val.Mid.lean ====
/-
  The seven blocks of lanes of one step: what they leave in the kept sums, multipliers and scales and in the codes' block.
-/
module

public import proofs.«01_k».proof.Proof.Val.BlkQ
public import proofs.«01_k».proof.Proof.Val.BlkS
public import proofs.«01_k».proof.Proof.Val.Stage

@[expose] public section

set_option maxRecDepth 16384
set_option maxHeartbeats 4000000

noncomputable section

namespace Cert.KernelIdeal.Hand

open Cert.KernelIdeal Cert.KernelIdeal.Gen
open Idealize.ShloMosaic Idealize.ShloMosaic.ValueIdx

/-- What the lanes before `C` hold after a step's blocks, the lanes from `C` being as before. -/
structure AfterB (e : Env) (j C : Nat) (σ : St Ideal) (Y5 : S1x1792x768.Idx → BitVec 8) (Y7 : S1536x1792.Idx → EReal) (Y14 : S12x1792.Idx → EReal)
    (Y15 : S14x96x128.Idx → EReal) : Prop where
  q : ∀ (n : Fin 1792) (b : Fin 768), Y5 (ix3 0 n b) = if n.val < C then qbyte σ.a7 σ.a14 n b else σ.a5 (ix3 0 n b)
  m : ∀ (d : Fin 1536) (n : Fin 1792), Y7 (ix2 d n) = if n.val < C then msumN e d.val n.val else σ.a7 (ix2 d n)
  i : ∀ (g : Fin 12) (n : Fin 1792), Y14 (ix2 g n) = if n.val < C then Ideal.div cL (sclOf (gm e g.val n.val)) else σ.a14 (ix2 g n)
  k : ∀ (b : Fin 14) (q : Fin 96) (l : Fin 128), Y15 (ix3 b q l) = if 128 * b.val < C ∧ q.val % 8 = j then sclOf (gm e (q.val / 8) (128 * b.val + l.val)) else σ.a15 (ix3 b q l)

/-- The columns of the state that the blocks change, replaced. -/
abbrev upd (σ : St Ideal) (Y5 : S1x1792x768.Idx → BitVec 8) (Y7 : S1536x1792.Idx → EReal) (Y13 : S2x96x128.Idx → EReal) (Y14 : S12x1792.Idx → EReal)
    (Y15 : S14x96x128.Idx → EReal) : St Ideal := { σ with a5 := Y5, a7 := Y7, a13 := Y13, a14 := Y14, a15 := Y15 }

theorem Held.upd {e : Env} {j : Nat} {σ : St Ideal} (h : Held e j σ) (Y5 Y7 Y13 Y14 Y15) : Held e j (upd σ Y5 Y7 Y13 Y14 Y15) := ⟨h.w, h.l, h.a, h.b, h.s⟩

attribute [local irreducible] wdec

theorem blk_ok (c : Dev nD) (A : Ops) (e : Env) (j : Nat) (hj : j < 8) (o : Nat) (ho : o + 256 ≤ 1792) (hd : 4 ∣ o) (b : Nat) (hb : b + 1 < 14) (hob : o = 128 * b) (v1 : BitVec 32)
    (hv1 : ∀ g, g < 12 → (Scalar.indexCast (Scalar.addi (BitVec.ofNat 32 (8 * g)) v1)).toNat + 1 ≤ 96)
    (hv8 : (Scalar.indexCast (Scalar.addi 0#32 v1)).toNat + 8 * (8 - 1) < 96) (hv4 : (Scalar.indexCast (Scalar.addi 64#32 v1)).toNat + 8 * (4 - 1) < 96)
    (hrow : ∀ g, g < 12 → (Scalar.indexCast (Scalar.addi (BitVec.ofNat 32 (8 * g)) v1)).toNat = 8 * g + j)
    (σ : St Ideal) (hσ : Held e j σ) (Y5 : S1x1792x768.Idx → BitVec 8) (Y7 : S1536x1792.Idx → EReal) (Y13 : S2x96x128.Idx → EReal) (Y14 : S12x1792.Idx → EReal)
    (Y15 : S14x96x128.Idx → EReal) (hY : AfterB e j o σ Y5 Y7 Y14 Y15) (Φ : PUnit → St Ideal → Prop)
    (h : ∀ Z5 Z7 Z13 Z14 Z15, AfterB e j (o + 256) σ Z5 Z7 Z14 Z15 → Φ ⟨⟩ (upd σ Z5 Z7 Z13 Z14 Z15)) :
    Ok c A (blk o ho hd b hb v1 hv1 hv8 hv4 A.m1 A.h1 A.m5 A.h5 A.m7 A.h7 A.m8 A.h8 A.m9 A.h9 A.m11 A.h11 A.m12 A.h12 A.m13 A.h13 A.m14 A.h14 A.m15 A.h15)
      (upd σ Y5 Y7 Y13 Y14 Y15) Φ := by
  unfold blk
  refine Ok_bind (blkQ_ok c A o ho hd _ (fun _ τ => ∃ X, (∀ n b, X (ix3 0 n b) = if o ≤ n.val ∧ n.val < o + 256 then qbyte Y7 Y14 n b else Y5 (ix3 0 n b)) ∧ τ = upd σ X Y7 Y13 Y14 Y15)
    fun X hX => ⟨X, hX, rfl⟩) ?_
  rintro - - ⟨X5, hX5, rfl⟩
  refine ld1 ?_; refine ld11 ?_
  have hq : ∀ d n, wdec (F := Ideal) (fun x => σ.a1 ((Rect.unit (s := S1x1792x768) ![0, o, 0] S1x256x768.size (inb3 (Nat.le_refl 1) ho (Nat.le_refl 768))).toLoadRect.idx x)) (ix2 d n)
      = e.code d ⟨o + n.val, by omega⟩ := fun d n => by
    rw [wdec_apply, hσ.w]
    unfold Env.code
    congr 2
    funext a
    fin_cases a
    · rfl
    · exact Fin.ext (by show o + 1 * n.val = o + n.val; omega)
    · exact Fin.ext (by show 0 + 1 * (d.val / 2) = d.val / 2; omega)
  have hbt : ∀ k n, σ.a11 ((Rect.unit (s := S64x1792) ![0, o] S64x256.size (inb2 (by decide) ho)).toLoadRect.idx (ix2 k n))
      = if h : k.val < 40 then e.Bv ⟨k.val, h⟩ (o + n.val) else 0 := fun k n => by
    rw [← hσ.b k ⟨o + n.val, by omega⟩]
    refine congrArg σ.a11 (funext fun a => ?_)
    fin_cases a
    · exact Fin.ext (by show 0 + 1 * k.val = k.val; omega)
    · exact Fin.ext (by show o + 1 * n.val = o + n.val; omega)
  have hP := fun p hp X7 X13 hX => blkP_ok c A e j o ho p hp v1 hv1 hrow _ (fun x => σ.a11 ((Rect.unit (s := S64x1792) ![0, o] S64x256.size (inb2 (by decide) ho)).toLoadRect.idx x)) hq hbt (upd σ X5 Y7 Y13 Y14 Y15) (hσ.upd X5 Y7 Y13 Y14 Y15) X7 X13 hX
    (fun _ τ => ∃ Z7 Z13, AfterP e o (p + 1) Z7 Z13 (upd σ X5 Y7 Y13 Y14 Y15) ∧ τ = upd σ X5 Z7 Z13 Y14 Y15) fun Z7 Z13 hZ => ⟨Z7, Z13, hZ, rfl⟩
  have h0 : AfterP e o 0 Y7 Y13 (upd σ X5 Y7 Y13 Y14 Y15) := ⟨fun d n => (if_neg (by omega)).symm, fun h q l hq => absurd hq (by omega)⟩
  refine Ok_bind (hP 0 (by decide) Y7 Y13 h0) ?_
  rintro - - ⟨P7, P13, h1, rfl⟩
  refine Ok_bind (hP 1 (by decide) P7 P13 h1) ?_
  rintro - - ⟨R7, R13, h2, rfl⟩
  refine Ok_bind (hP 2 (by decide) R7 R13 h2) ?_
  rintro - - ⟨S7, S13, h3, rfl⟩
  refine Ok_bind (hP 3 (by decide) S7 S13 h3) ?_
  rintro - - ⟨Z7, Z13, h4, rfl⟩
  have f0 : FoldH e Z13 0 (by decide) o := fun q l z => by
    have := h4.f 0 q l (by omega) z
    rwa [show o + 128 * (0 : Fin 2).val + l.val = o + l.val from by show o + 128 * 0 + l.val = _; omega] at this
  have f1 : FoldH e Z13 1 (by decide) (o + 128) := fun q l z => by
    have := h4.f 1 q l (by omega) z
    rwa [show o + 128 * (1 : Fin 2).val + l.val = o + 128 + l.val from by show o + 128 * 1 + l.val = _; omega] at this
  have e8 : (Scalar.indexCast (Scalar.addi 0#32 v1)).toNat = j := (hrow 0 (by decide)).trans (by omega)
  have e4 : (Scalar.indexCast (Scalar.addi 64#32 v1)).toNat = 64 + j := (hrow 8 (by decide)).trans (by omega)
  refine Ok_bind (blkS_ok c A e j hj 0 (by decide) o (by omega) b (by omega) v1 hv8 hv4 e8 e4 (upd σ X5 Z7 Z13 Y14 Y15) f0
    (fun _ τ => ∃ A14 A15, AfterS e b j o Y14 Y15 A14 A15 ∧ τ = upd σ X5 Z7 Z13 A14 A15) fun A14 A15 hA => ⟨A14, A15, hA, rfl⟩) ?_
  rintro - - ⟨A14, A15, s0, rfl⟩
  refine blkS_ok c A e j hj 1 (by decide) (o + 128) ho (b + 1) hb v1 hv8 hv4 e8 e4 (upd σ X5 Z7 Z13 A14 A15) f1 _ fun B14 B15 s1 => ?_
  refine h X5 Z7 Z13 B14 B15 ⟨?_, ?_, ?_, ?_⟩
  · intro n b
    rw [hX5, hY.q]
    by_cases c1 : n.val < o
    · rw [if_neg (by omega), if_pos c1, if_pos (by omega)]
    · by_cases c2 : n.val < o + 256
      · rw [if_pos (by omega), if_pos c2]
        unfold qbyte
        rw [hY.m, hY.m, hY.i, if_neg c1, if_neg c1, if_neg c1]
      · rw [if_neg (by omega), if_neg c1, if_neg c2]
  · intro d n
    rw [h4.m]
    show (if _ then _ else Y7 (ix2 d n)) = _
    rw [hY.m]
    split_ifs <;> first | rfl | omega
  · intro g n
    rw [s1.i]
    show (if _ then _ else A14 (ix2 g n)) = _
    rw [s0.i, hY.i]
    split_ifs <;> first | rfl | omega
  · intro b' q l
    rw [s1.k]
    show (if _ then _ else A15 (ix3 b' q l)) = _
    rw [s0.k, hY.k]
    have t1 : b'.val = b + 1 → o + 128 + l.val = 128 * b'.val + l.val := by omega
    have t0 : b'.val = b → o + l.val = 128 * b'.val + l.val := by omega
    split_ifs with c1 c2 c3 c4 c5 c6 <;> first | rfl | omega | rw [t1 c1.1] | rw [t0 (And.left ‹b'.val = b ∧ _›)]

theorem mid_ok (c : Dev nD) (A : Ops) (e : Env) (i : grid0.Coords) (j : Nat) (hj : j < 8)
    (hrow : ∀ g, g < 12 → (Scalar.indexCast (Scalar.addi (BitVec.ofNat 32 (8 * g)) (jw i))).toNat = 8 * g + j)
    (σ : St Ideal) (hσ : Held e j σ) (Φ : PUnit → St Ideal → Prop)
    (h : ∀ Z5 Z7 Z13 Z14 Z15, AfterB e j 1792 σ Z5 Z7 Z14 Z15 → Φ ⟨⟩ (upd σ Z5 Z7 Z13 Z14 Z15)) :
    Ok c A (mid i A.m1 A.h1 A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15) σ Φ := by
  unfold mid
  have hB := fun o ho hd b hb hob Y5 Y7 Y13 Y14 Y15 hY => blk_ok c A e j hj o ho hd b hb hob (jw i) (jw_row i) (jw_8 i) (jw_4 i) hrow σ hσ Y5 Y7 Y13 Y14 Y15 hY
    (fun _ τ => ∃ Z5 Z7 Z13 Z14 Z15, AfterB e j (o + 256) σ Z5 Z7 Z14 Z15 ∧ τ = upd σ Z5 Z7 Z13 Z14 Z15) fun Z5 Z7 Z13 Z14 Z15 hZ => ⟨Z5, Z7, Z13, Z14, Z15, hZ, rfl⟩
  have h0 : AfterB e j 0 σ σ.a5 σ.a7 σ.a14 σ.a15 := ⟨fun n b => (if_neg (by omega)).symm, fun d n => (if_neg (by omega)).symm, fun g n => (if_neg (by omega)).symm,
    fun b q l => (if_neg (by omega)).symm⟩
  refine Ok_bind (hB 0 (by decide) (by decide) 0 (by decide) (by decide) σ.a5 σ.a7 σ.a13 σ.a14 σ.a15 h0) ?_
  rintro - - ⟨_, _, _, _, _, h1, rfl⟩
  refine Ok_bind (hB 256 (by decide) (by decide) 2 (by decide) (by decide) _ _ _ _ _ h1) ?_
  rintro - - ⟨_, _, _, _, _, h2, rfl⟩
  refine Ok_bind (hB 512 (by decide) (by decide) 4 (by decide) (by decide) _ _ _ _ _ h2) ?_
  rintro - - ⟨_, _, _, _, _, h3, rfl⟩
  refine Ok_bind (hB 768 (by decide) (by decide) 6 (by decide) (by decide) _ _ _ _ _ h3) ?_
  rintro - - ⟨_, _, _, _, _, h4, rfl⟩
  refine Ok_bind (hB 1024 (by decide) (by decide) 8 (by decide) (by decide) _ _ _ _ _ h4) ?_
  rintro - - ⟨_, _, _, _, _, h5, rfl⟩
  refine Ok_bind (hB 1280 (by decide) (by decide) 10 (by decide) (by decide) _ _ _ _ _ h5) ?_
  rintro - - ⟨_, _, _, _, _, h6, rfl⟩
  exact blk_ok c A e j hj 1536 (by decide) (by decide) 12 (by decide) (by decide) (jw i) (jw_row i) (jw_8 i) (jw_4 i) hrow σ hσ _ _ _ _ _ h6 Φ h

end Cert.KernelIdeal.Hand

end

end
-- ==== Proof.Val.Pro.lean ====
/-
  What comes before the blocks of one step (the first step's clearing, a row group's scales, the factors) and what comes after them.
-/
module

public import proofs.«01_k».proof.Proof.Val.BlkP
public import proofs.«01_k».proof.Proof.Val.Stage

@[expose] public section

set_option maxRecDepth 16384
set_option maxHeartbeats 4000000

noncomputable section

namespace Cert.KernelIdeal.Hand

open Cert.KernelIdeal Cert.KernelIdeal.Gen
open Idealize.ShloMosaic Idealize.ShloMosaic.ValueIdx Idealize.SL.Sem

theorem ofbh : Ideal.ofBits .bf16 0x0000#16 = 0 := by simp [Ideal.ofBits, Ideal.ieee]

/-- A part's result handed on. -/
theorem Ok_into {β γ : Type} {c : Dev nD} {A : Ops} {prog : Prog (TpuEff nD τ sig (Elt Ideal) Λ₀ .tc) β} {k : β → Prog (TpuEff nD τ sig (Elt Ideal) Λ₀ .tc) γ} {σ : St Ideal}
    {Ψ : γ → St Ideal → Prop} (h : Ok c A prog σ fun x τ => Ok c A (k x) τ Ψ) : Ok c A (prog >>= k) σ Ψ := Ok_bind h fun _ _ hx => hx

/-! ## The unit masks -/

theorem ite_via {α : Type} {p : Prop} [Decidable p] {a b v : α} (h1 : p → a = v) (h2 : ¬p → b = v) : (if p then a else b) = v := by
  by_cases h : p
  · rw [if_pos h]; exact h1 h
  · rw [if_neg h]; exact h2 h

/-- A load of a whole array. -/
theorem ld_whole {α : Type} {s : Shape} {off : Fin s.rank → Nat} (h0 : ∀ i, off i = 0) (inb : ∀ i, off i + s.size i ≤ s.size i) (X : s.Idx → α) :
    (fun x => X ((Rect.unit (s := s) off s.size inb).toLoadRect.idx x)) = X := by
  refine funext fun x => congrArg X (funext fun a => Fin.ext ?_)
  show off a + 1 * (x a).val = (x a).val
  rw [h0]; omega

theorem sel_eq (a b : Nat) (ha : a < 1000) (hb : b < 1000) (x y : EReal) :
    Scalar.select (IntOp.cmpi .eq (BitVec.ofNat 32 a) (BitVec.ofNat 32 b)) x y = if a = b then x else y := by
  have : (BitVec.ofNat 32 a == BitVec.ofNat 32 b) = decide (a = b) := by
    rw [Bool.eq_iff_iff]
    simp only [beq_iff_eq, decide_eq_true_eq, ← BitVec.toNat_inj, BitVec.toNat_ofNat]
    omega
  unfold Scalar.select IntOp.cmpi
  simp only [this]
  by_cases h : a = b <;> simp [h]

theorem sel_sub (r : Nat) (hr : r < 192) (l : Fin 128) (x y : EReal) :
    Scalar.select (IntOp.andi (IntOp.cmpi .eq (IntOp.subi (BitVec.ofNat 32 r) 128#32) (BitVec.ofNat 32 l.val)) (IntOp.cmpi .slt (BitVec.ofNat 32 l.val) 64#32)) x y
      = if r = 128 + l.val ∧ l.val < 64 then x else y := by
  have h1 : (BitVec.ofNat 32 r - 128#32 == BitVec.ofNat 32 l.val) = decide (r = 128 + l.val) := by
    rw [Bool.eq_iff_iff]
    simp only [beq_iff_eq, decide_eq_true_eq, ← BitVec.toNat_inj, BitVec.toNat_ofNat, BitVec.toNat_sub]
    omega
  have h2 : BitVec.slt (BitVec.ofNat 32 l.val) 64#32 = decide (l.val < 64) :=
    (by decide : ∀ l : Fin 128, BitVec.slt (BitVec.ofNat 32 l.val) 64#32 = decide (l.val < 64)) l
  unfold Scalar.select IntOp.cmpi IntOp.andi IntOp.subi
  simp only [h1, h2]
  by_cases c1 : r = 128 + l.val <;> by_cases c2 : l.val < 64 <;> simp [c1, c2]

theorem iota_row (r : Fin 192) (k : Fin 128) : iota .tc S192x128 32 [0] iota_S192x128_d0_w32 (ix2 r k) = BitVec.ofNat 32 r.val :=
  congrArg (BitVec.ofNat 32) (by show 0 * 192 + r.val = r.val; omega)
theorem iota_col (r : Fin 192) (k : Fin 128) : iota .tc S192x128 32 [1] iota_S192x128_d1_w32 (ix2 r k) = BitVec.ofNat 32 k.val :=
  congrArg (BitVec.ofNat 32) (by show 0 * 128 + k.val = k.val; omega)

/-- The left pad. -/
theorem eyeL (r : Fin 192) (k : Fin 128) :
    shapeCast S192x128 (truncf (F := Ideal) .bf16 (select (cmpi .eq (iota .tc S192x128 32 [0] iota_S192x128_d0_w32) (iota .tc S192x128 32 [1] iota_S192x128_d1_w32))
      (broadcast S192x128 (Scalar.ofBits (F := Ideal) .f32 0x40200000#32)) (broadcast S192x128 (Scalar.ofBits (F := Ideal) .f32 0x00000000#32))) bitsLt_bf16_f32)
      shapeCasts_S192x128_S192x128 (ix2 r k) = lhsL r k := by
  rw [shapeCast_self]
  show Scalar.select (IntOp.cmpi .eq (iota .tc S192x128 32 [0] iota_S192x128_d0_w32 (ix2 r k)) (iota .tc S192x128 32 [1] iota_S192x128_d1_w32 (ix2 r k)))
    (Ideal.ofBits .f32 0x40200000#32) (Ideal.ofBits .f32 0x00000000#32) = _
  rw [iota_row, iota_col, sel_eq _ _ (by omega) (by omega), ofb0]
  rfl

/-- The right pad's mask. -/
def eyeR : FVec Ideal S192x128 .bf16 :=
  truncf (F := Ideal) .bf16 (select (andi (cmpi .eq (subi (iota .tc S192x128 32 [0] iota_S192x128_d0_w32) (broadcast S192x128 128#32)) (iota .tc S192x128 32 [1] iota_S192x128_d1_w32))
    (cmpi .slt (iota .tc S192x128 32 [1] iota_S192x128_d1_w32) (broadcast S192x128 64#32)))
      (broadcast S192x128 (Scalar.ofBits (F := Ideal) .f32 0x40200000#32)) (broadcast S192x128 (Scalar.ofBits (F := Ideal) .f32 0x00000000#32))) bitsLt_bf16_f32

theorem eyeR_apply (r : Fin 192) (l : Fin 128) : eyeR (ix2 r l) = if r.val = 128 + l.val ∧ l.val < 64 then c25 else 0 := by
  show Scalar.select (IntOp.andi (IntOp.cmpi .eq (IntOp.subi (iota .tc S192x128 32 [0] iota_S192x128_d0_w32 (ix2 r l)) 128#32) (iota .tc S192x128 32 [1] iota_S192x128_d1_w32 (ix2 r l)))
    (IntOp.cmpi .slt (iota .tc S192x128 32 [1] iota_S192x128_d1_w32 (ix2 r l)) 64#32)) (Ideal.ofBits .f32 0x40200000#32) (Ideal.ofBits .f32 0x00000000#32) = _
  rw [iota_row, iota_col, sel_sub _ r.isLt, ofb0]
  rfl

/-! ## The first step's clearing -/

theorem put_all2 {a b : Nat} {α : Type} (inb : ∀ i, (![0, 0] : Fin 2 → Nat) i + (![a, b] : Fin 2 → Nat) i ≤ (⟨2, ![a, b]⟩ : Shape).size i) (w : (⟨2, ![a, b]⟩ : Shape).Idx → α)
    (X : (⟨2, ![a, b]⟩ : Shape).Idx → α) : put (Rect.unit (s := ⟨2, ![a, b]⟩) ![0, 0] (![a, b] : Fin 2 → Nat) inb) w X = w := by
  funext i
  rw [put_hit _ _ _ i _ (by
    intro d; fin_cases d
    · show (i 0).val = 0 + 1 * (i 0).val; omega
    · show (i 1).val = 0 + 1 * (i 1).val; omega)]

theorem ini1_ok (c : Dev nD) (A : Ops) (i : grid0.Coords) (σ : St Ideal) (Φ : PUnit → St Ideal → Prop)
    (h1 : cond1 i = 1#1 → ∀ X7 X8 X10 X11 X14, (∀ r k, X8 (ix2 r k) = lhsL r k) → (∀ x, X10 x = 0) → (∀ x, X11 x = 0) →
      Φ ⟨⟩ { σ with a7 := X7, a8 := X8, a10 := X10, a11 := X11, a14 := X14 }) (h2 : cond1 i ≠ 1#1 → Φ ⟨⟩ σ) :
    Ok c A (ini1 i A.m1 A.h1 A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15) σ Φ := by
  unfold ini1
  by_cases hc : cond1 i = 1#1
  · rw [if_pos hc]
    unfold ini1a
    dsimp only
    refine ld8 ?_; refine st8 ?_; try dsimp only
    refine ld10 ?_; refine st10 ?_; try dsimp only
    refine ld11 ?_; refine st11 ?_; try dsimp only
    refine ld7 ?_; refine st7 ?_; try dsimp only
    refine ld14 ?_; refine st14 ?_; try dsimp only
    refine Ok_ret ?_
    refine h1 hc _ _ _ _ _ (fun r k => ?_) (fun x => ?_) (fun x => ?_)
    · refine (congrFun (put_all2 _ _ _) _).trans (eyeL r k)
    · refine (congrFun (put_all2 _ _ _) _).trans ?_
      rw [shapeCast_self]; exact ofbh
    · refine (congrFun (put_all2 _ _ _) _).trans ?_
      rw [shapeCast_self]; exact ofbh
  · rw [if_neg hc]
    exact Ok_ret (h2 hc)

/-! ## A row group's scales -/

/-- One group's scale rows written twice, side by side. -/
theorem srow_apply (x : S1x8x1792.Idx → EReal) (r : Fin 8) (p : Fin 2) (n : Fin 1792) :
    interleaveRows S8x2x1792 (shapeCast S8x1x1792 (shapeCast S8x1792 x shapeCasts_S1x8x1792_S8x1792) shapeCasts_S8x1792_S8x1x1792)
      (shapeCast S8x1x1792 (shapeCast S8x1792 x shapeCasts_S1x8x1792_S8x1792) shapeCasts_S8x1792_S8x1x1792) bitcasts_S8x2x1792_w16_S8x1x1792_w32 (ix3 r p n) = x (ix3 0 r n) := by
  unfold interleaveRows
  dsimp only
  rw [ite_self]
  refine (congrArg (shapeCast S8x1x1792 _ shapeCasts_S8x1792_S8x1x1792) (?_ : _ = ix3 r (0 : Fin 1) n)).trans ?_
  · funext a
    fin_cases a
    · exact Fin.ext (by simp)
    · exact Fin.ext (by have := p.isLt; show p.val / 2 = 0; omega)
    · exact Fin.ext (by simp)
  · rw [shapeCast_apply _ _ (ix3 r 0 n) (ix2 r n) (by rw [rm3, rm2]; simp)]
    exact shapeCast_apply _ _ _ (ix3 0 r n) (by rw [rm3, rm2]; simp)

theorem put12 (b G : Nat) (hb : b = 8 * G) (inb : ∀ i, (![b, 0, 0] : Fin 3 → Nat) i + S8x2x1792.size i ≤ S96x2x1792.size i)
    (w : S8x2x1792.Idx → EReal) (X : S96x2x1792.Idx → EReal) (q : Fin 96) (p : Fin 2) (n : Fin 1792) :
    put (Rect.unit (s := S96x2x1792) ![b, 0, 0] S8x2x1792.size inb) w X (ix3 q p n)
      = if q.val / 8 = G then w (ix3 ⟨q.val % 8, by omega⟩ p n) else X (ix3 q p n) := by
  subst hb
  by_cases h : q.val / 8 = G
  · rw [if_pos h, put_hit _ _ _ (ix3 ⟨q.val % 8, by omega⟩ p n) _ (by
      intro a; fin_cases a
      · show q.val = 8 * G + 1 * (q.val % 8); omega
      · show p.val = 0 + 1 * p.val; omega
      · show n.val = 0 + 1 * n.val; omega)]
  · rw [if_neg h]
    refine put_miss _ _ _ _ (Rect.not_mem_set_of_axis _ _ 0 (8 * G) 8 rfl rfl rfl ?_)
    show q.val < 8 * G ∨ 8 * G + 8 ≤ q.val
    omega

/-- A group's rows of the fetched scales. -/
theorem lda_apply (X : S12x8x1792.Idx → EReal) (g : Nat) (q : Fin 96) (hq : q.val / 8 = g) (inb : ∀ i, (![g, 0, 0] : Fin 3 → Nat) i + S1x8x1792.size i ≤ S12x8x1792.size i) (n : Fin 1792) :
    X ((Rect.unit (s := S12x8x1792) ![g, 0, 0] S1x8x1792.size inb).toLoadRect.idx (ix3 0 ⟨q.val % 8, by omega⟩ n)) = X (ix3 ⟨q.val / 8, by omega⟩ ⟨q.val % 8, by omega⟩ n) := by
  subst hq
  refine congrArg X (funext fun a => ?_)
  fin_cases a
  · exact Fin.ext (by show q.val / 8 + 1 * 0 = q.val / 8; omega)
  · exact Fin.ext (by show 0 + 1 * (q.val % 8) = q.val % 8; omega)
  · exact Fin.ext (by show 0 + 1 * n.val = n.val; omega)

theorem ini2_ok (c : Dev nD) (A : Ops) (i : grid0.Coords) (σ : St Ideal) (Φ : PUnit → St Ideal → Prop)
    (h1 : cond2 i = 1#1 → ∀ X12, (∀ (q : Fin 96) p n, X12 (ix3 q p n) = σ.a2 (ix3 ⟨q.val / 8, by omega⟩ ⟨q.val % 8, by omega⟩ n)) →
      Φ ⟨⟩ { σ with a12 := X12 }) (h2 : cond2 i ≠ 1#1 → Φ ⟨⟩ σ) :
    Ok c A (ini2 i A.m1 A.h1 A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15) σ Φ := by
  unfold ini2
  by_cases hc : cond2 i = 1#1
  · rw [if_pos hc]
    unfold ini2a
    refine Ok_into ?_
    unfold k0_part1
    dsimp only
    iterate 3 (refine ld2 ?_; refine ld12 ?_; refine st12 ?_; try dsimp only)
    refine ld2 ?_
    refine Ok_ret ?_
    dsimp only
    refine Ok_into ?_
    unfold k0_part2
    dsimp only
    refine ld12 ?_; refine st12 ?_; try dsimp only
    iterate 2 (refine ld2 ?_; refine ld12 ?_; refine st12 ?_; try dsimp only)
    refine ld2 ?_; refine ld12 ?_
    refine Ok_ret ?_
    dsimp only
    refine Ok_into ?_
    unfold k0_part3
    dsimp only
    refine st12 ?_; try dsimp only
    iterate 3 (refine ld2 ?_; refine ld12 ?_; refine st12 ?_; try dsimp only)
    refine Ok_ret ?_
    try dsimp only
    iterate 2 (refine ld2 ?_; refine ld12 ?_; refine st12 ?_; try dsimp only)
    refine Ok_ret ?_
    refine h1 hc _ fun q p n => ?_
    rw [put12 88 11 rfl, put12 80 10 rfl, put12 72 9 rfl, put12 64 8 rfl, put12 56 7 rfl, put12 48 6 rfl, put12 40 5 rfl, put12 32 4 rfl, put12 24 3 rfl,
      put12 16 2 rfl, put12 8 1 rfl, put12 0 0 rfl]
    iterate 12 refine ite_via (fun hq => (srow_apply _ _ _ _).trans (lda_apply _ _ q hq _ _)) (fun _ => ?_)
    omega
  · rw [if_neg hc]
    exact Ok_ret (h2 hc)

/-! ## The factors -/

theorem put9 (t c : Nat) (hc : t = 192 * c) (inb : ∀ i, (![t, 0] : Fin 2 → Nat) i + S192x128.size i ≤ S1536x128.size i)
    (w : S192x128.Idx → EReal) (X : S1536x128.Idx → EReal) (d : Fin 1536) (l : Fin 128) :
    put (Rect.unit (s := S1536x128) ![t, 0] S192x128.size inb) w X (ix2 d l)
      = if d.val / 192 = c then w (ix2 ⟨d.val % 192, by omega⟩ l) else X (ix2 d l) := by
  subst hc
  by_cases h : d.val / 192 = c
  · rw [if_pos h, put_hit _ _ _ (ix2 ⟨d.val % 192, by omega⟩ l) _ (by
      intro a; fin_cases a
      · show d.val = 192 * c + 1 * (d.val % 192); omega
      · show l.val = 0 + 1 * l.val; omega)]
  · rw [if_neg h]
    refine put_miss _ _ _ _ (Rect.not_mem_set_of_axis _ _ 0 (192 * c) 192 rfl rfl rfl ?_)
    show d.val < 192 * c ∨ 192 * c + 192 ≤ d.val
    omega

theorem put11 (inb : ∀ i, (![0, 0] : Fin 2 → Nat) i + S40x1792.size i ≤ S64x1792.size i) (x : S1x40x1792.Idx → EReal) (X : S64x1792.Idx → EReal)
    (hX : ∀ k n, 40 ≤ k.val → X (ix2 k n) = 0) (k : Fin 64) (n : Fin 1792) :
    put (Rect.unit (s := S64x1792) ![0, 0] S40x1792.size inb) (shapeCast S40x1792 (shapeCast S40x1792 x shapeCasts_S1x40x1792_S40x1792) shapeCasts_S40x1792_S40x1792) X (ix2 k n)
      = if h : k.val < 40 then x (ix3 0 ⟨k.val, h⟩ n) else 0 := by
  by_cases h : k.val < 40
  · rw [dif_pos h, put_hit _ _ _ (ix2 ⟨k.val, h⟩ n) _ (by
      intro a; fin_cases a
      · show k.val = 0 + 1 * k.val; omega
      · show n.val = 0 + 1 * n.val; omega), shapeCast_self]
    exact shapeCast_apply _ _ _ _ (by rw [rm3, rm2]; simp)
  · rw [dif_neg h, put_miss _ _ _ _ (Rect.not_mem_set_of_axis _ _ 0 0 40 rfl rfl rfl (by show k.val < 0 ∨ 0 + 40 ≤ k.val; omega))]
    exact hX k n (by omega)

theorem put10 (inb : ∀ i, (![64, 0] : Fin 2 → Nat) i + S40x1536.size i ≤ S128x1536.size i) (x : S1x40x1536.Idx → EReal) (X : S128x1536.Idx → EReal)
    (hX : ∀ (l : Fin 128) d, l.val < 64 ∨ 104 ≤ l.val → X (ix2 l d) = 0) (l : Fin 128) (d : Fin 1536) :
    put (Rect.unit (s := S128x1536) ![64, 0] S40x1536.size inb) (shapeCast S40x1536 (shapeCast S40x1536 x shapeCasts_S1x40x1536_S40x1536) shapeCasts_S40x1536_S40x1536) X (ix2 l d)
      = if h : 64 ≤ l.val ∧ l.val < 104 then x (ix3 0 ⟨l.val - 64, by omega⟩ d) else 0 := by
  by_cases h : 64 ≤ l.val ∧ l.val < 104
  · rw [dif_pos h, put_hit _ _ _ (ix2 ⟨l.val - 64, by omega⟩ d) _ (by
      intro a; fin_cases a
      · show l.val = 64 + 1 * (l.val - 64); omega
      · show d.val = 0 + 1 * d.val; omega), shapeCast_self]
    exact shapeCast_apply _ _ _ _ (by rw [rm3, rm2]; simp)
  · rw [dif_neg h, put_miss _ _ _ _ (Rect.not_mem_set_of_axis _ _ 0 64 40 rfl rfl rfl (by show l.val < 64 ∨ 64 + 40 ≤ l.val; omega))]
    exact hX l d (by omega)

/-- One tile's right operand. -/
theorem rtile (a : Fin 40 → Nat → EReal) (V : S128x1536.Idx → EReal) (hV : ∀ (l : Fin 128) (d : Fin 1536), V (ix2 l d) = if h : 64 ≤ l.val ∧ l.val < 104 then a ⟨l.val - 64, by omega⟩ d.val else 0)
    (t : Nat) (hs : S1536x128.Slices ![t, 0] S192x128) (d : Fin 1536) (hd : t + d.val % 192 = d.val) (l : Fin 128) :
    shapeCast S192x128 (addf (F := Ideal) (φ := .bf16) (extractStridedSlice S192x128 ![t, 0] (transpose S1536x128 [1, 0] V transposes_S128x1536_p1_0_S1536x128) hs) eyeR)
      shapeCasts_S192x128_S192x128 (ix2 ⟨d.val % 192, by omega⟩ l) = lhsR (fun k => a k d.val) ⟨d.val % 192, by omega⟩ l := by
  rw [shapeCast_self]
  show extractStridedSlice S192x128 ![t, 0] (transpose S1536x128 [1, 0] V transposes_S128x1536_p1_0_S1536x128) hs (ix2 ⟨d.val % 192, by omega⟩ l) + eyeR (ix2 ⟨d.val % 192, by omega⟩ l) = _
  rw [extractStridedSlice_apply _ _ _ _ (ix2 d l) (by
      intro a; fin_cases a
      · show d.val = t + d.val % 192; omega
      · show l.val = 0 + l.val; omega),
    transpose_apply _ _ _ (ix2 d l) (ix2 l d) (by intro a; fin_cases a <;> rfl), hV, eyeR_apply]
  unfold lhsR
  dsimp only
  by_cases h1 : l.val < 64
  · rw [dif_neg (by omega), zero_add, if_pos h1]
    simp only [h1, and_true]
  · rw [if_neg h1, if_neg (by omega), add_zero]
    by_cases h2 : l.val < 104
    · rw [dif_pos ⟨by omega, h2⟩, dif_pos h2]
    · rw [dif_neg (by omega), dif_neg h2]

theorem pre_ok (c : Dev nD) (A : Ops) (i : grid0.Coords) (σ : St Ideal) (a : Fin 40 → Nat → EReal) (ha : ∀ k (d : Fin 1536), σ.a3 (ix3 0 k d) = a k d.val)
    (h10 : ∀ (l : Fin 128) d, l.val < 64 ∨ 104 ≤ l.val → σ.a10 (ix2 l d) = 0) (h11 : ∀ (k : Fin 64) n, 40 ≤ k.val → σ.a11 (ix2 k n) = 0) (Φ : PUnit → St Ideal → Prop)
    (h : ∀ X9 X10 X11, (∀ (d : Fin 1536) l, X9 (ix2 d l) = lhsR (fun k => a k d.val) ⟨d.val % 192, by omega⟩ l) →
      (∀ (l : Fin 128) d, l.val < 64 ∨ 104 ≤ l.val → X10 (ix2 l d) = 0) →
      (∀ (k : Fin 64) n, X11 (ix2 k n) = if h : k.val < 40 then σ.a4 (ix3 0 ⟨k.val, h⟩ n) else 0) → Φ ⟨⟩ { σ with a9 := X9, a10 := X10, a11 := X11 }) :
    Ok c A (pre i A.m1 A.h1 A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15) σ Φ := by
  unfold pre
  dsimp only
  refine ld4 ?_; refine ld11 ?_; refine st11 ?_; try dsimp only
  refine ld3 ?_; refine ld10 ?_; refine st10 ?_; try dsimp only
  refine ld10 ?_
  iterate 7 (refine ld9 ?_; refine st9 ?_; try dsimp only)
  refine ld9 ?_; refine st9l ?_; try dsimp only
  have e3 := ld_whole (s := S1x40x1536) (off := ![0, 0, 0]) (by intro i; fin_cases i <;> rfl) inb_S1x40x1536_S1x40x1536_0_0_0 σ.a3
  have e4 := ld_whole (s := S1x40x1792) (off := ![0, 0, 0]) (by intro i; fin_cases i <;> rfl) inb_S1x40x1792_S1x40x1792_0_0_0 σ.a4
  have hV := put10 inb_S128x1536_S40x1536_64_0 σ.a3 σ.a10 h10
  rw [← e3] at hV
  have hB := put11 inb_S64x1792_S40x1792_0_0 σ.a4 σ.a11 h11
  rw [← e4] at hB
  have hV' : ∀ (l : Fin 128) (d : Fin 1536), (fun x => put (Rect.unit (s := S128x1536) ![64, 0] S40x1536.size inb_S128x1536_S40x1536_64_0) (shapeCast S40x1536 (shapeCast S40x1536 (fun x => σ.a3 ((Rect.unit (s := S1x40x1536) ![0, 0, 0] S1x40x1536.size inb_S1x40x1536_S1x40x1536_0_0_0).toLoadRect.idx x)) shapeCasts_S1x40x1536_S40x1536) shapeCasts_S40x1536_S40x1536) σ.a10
      ((Rect.unit (s := S128x1536) ![0, 0] S128x1536.size inb_S128x1536_S128x1536_0_0).toLoadRect.idx x)) (ix2 l d) = if h : 64 ≤ l.val ∧ l.val < 104 then a ⟨l.val - 64, by omega⟩ d.val else 0 := fun l d => by
    rw [ld_whole (s := S128x1536) (off := ![0, 0]) (by intro i; fin_cases i <;> rfl)]
    rw [hV l d, e3]
    by_cases hl : 64 ≤ l.val ∧ l.val < 104
    · rw [dif_pos hl, dif_pos hl, ha]
    · rw [dif_neg hl, dif_neg hl]
  refine h _ _ _ (fun d l => ?_) (fun l d hl => ?_) (fun k n => ?_)
  · rw [put9 1344 7 rfl, put9 1152 6 rfl, put9 960 5 rfl, put9 768 4 rfl, put9 576 3 rfl, put9 384 2 rfl, put9 192 1 rfl, put9 0 0 rfl]
    iterate 8 refine ite_via (fun hq => rtile a _ hV' _ _ d (by omega) l) (fun _ => ?_)
    omega
  · refine (hV l d).trans (dif_neg (by omega))
  · refine (hB k n).trans ?_
    rw [e4]

/-! ## The scales written out -/

theorem put6 (o L : Nat) (ho : o = 128 * L) (inb : ∀ i, (![0, 0, o] : Fin 3 → Nat) i + S12x8x128.size i ≤ S12x8x1792.size i)
    (w : S12x8x128.Idx → EReal) (X : S12x8x1792.Idx → EReal) (g : Fin 12) (r : Fin 8) (n : Fin 1792) :
    put (Rect.unit (s := S12x8x1792) ![0, 0, o] S12x8x128.size inb) w X (ix3 g r n)
      = if n.val / 128 = L then w (ix3 g r ⟨n.val % 128, by omega⟩) else X (ix3 g r n) := by
  subst ho
  by_cases h : n.val / 128 = L
  · rw [if_pos h, put_hit _ _ _ (ix3 g r ⟨n.val % 128, by omega⟩) _ (by
      intro a; fin_cases a
      · show g.val = 0 + 1 * g.val; omega
      · show r.val = 0 + 1 * r.val; omega
      · show n.val = 128 * L + 1 * (n.val % 128); omega)]
  · rw [if_neg h]
    refine put_miss _ _ _ _ (Rect.not_mem_set_of_axis _ _ 2 (128 * L) 128 rfl rfl rfl ?_)
    show n.val < 128 * L ∨ 128 * L + 128 ≤ n.val
    omega

theorem oscale (Y : S14x96x128.Idx → EReal) (L : Nat) (inb : ∀ i, (![L, 0, 0] : Fin 3 → Nat) i + S1x96x128.size i ≤ S14x96x128.size i) (g : Fin 12) (r : Fin 8) (n : Fin 1792) (hL : n.val / 128 = L) :
    truncf (F := Ideal) (φ := .f32) .bf16 (shapeCast S12x8x128 (shapeCast S96x128 (fun x : S1x96x128.Idx => Y ((Rect.unit (s := S14x96x128) ![L, 0, 0] S1x96x128.size inb).toLoadRect.idx x)) shapeCasts_S1x96x128_S96x128)
      shapeCasts_S96x128_S12x8x128) bitsLt_bf16_f32 (ix3 g r ⟨n.val % 128, by omega⟩) = Y (ix3 ⟨n.val / 128, by omega⟩ ⟨8 * g.val + r.val, by omega⟩ ⟨n.val % 128, by omega⟩) := by
  subst hL
  refine Eq.trans (b := shapeCast S12x8x128 (shapeCast S96x128 (fun x : S1x96x128.Idx => Y ((Rect.unit (s := S14x96x128) ![n.val / 128, 0, 0] S1x96x128.size inb).toLoadRect.idx x)) shapeCasts_S1x96x128_S96x128) shapeCasts_S96x128_S12x8x128 (ix3 g r ⟨n.val % 128, by omega⟩)) rfl ?_
  rw [shapeCast_apply _ _ _ (ix2 ⟨8 * g.val + r.val, by omega⟩ ⟨n.val % 128, by omega⟩) (by
      rw [rm3, rm2]; show (8 * g.val + r.val) * 128 + n.val % 128 = (g.val * 8 + r.val) * 128 + n.val % 128; omega),
    shapeCast_apply _ _ _ (ix3 0 ⟨8 * g.val + r.val, by omega⟩ ⟨n.val % 128, by omega⟩) (by rw [rm3, rm2]; simp)]
  refine congrArg Y (funext fun a => ?_)
  fin_cases a
  · exact Fin.ext (by show n.val / 128 + 1 * 0 = n.val / 128; omega)
  · exact Fin.ext (by show 0 + 1 * (8 * g.val + r.val) = 8 * g.val + r.val; omega)
  · exact Fin.ext (by show 0 + 1 * (n.val % 128) = n.val % 128; omega)

theorem epi_ok (c : Dev nD) (A : Ops) (i : grid0.Coords) (σ : St Ideal) (Φ : PUnit → St Ideal → Prop)
    (h1 : k0_cond3 i = 1#1 → ∀ X6, (∀ (g : Fin 12) (r : Fin 8) (n : Fin 1792), X6 (ix3 g r n) = σ.a15 (ix3 ⟨n.val / 128, by omega⟩ ⟨8 * g.val + r.val, by omega⟩ ⟨n.val % 128, by omega⟩)) →
      Φ ⟨⟩ { σ with a6 := X6 }) (h2 : k0_cond3 i ≠ 1#1 → Φ ⟨⟩ σ) :
    Ok c A (epi i A.m1 A.h1 A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15) σ Φ := by
  unfold epi
  by_cases hc : k0_cond3 i = 1#1
  · rw [dif_pos hc]
    refine Ok_into ?_
    unfold k0_part4
    dsimp only
    iterate 5 (refine ld15 ?_; refine ld6 ?_; refine st6 ?_; try dsimp only)
    refine Ok_ret ?_
    refine Ok_into ?_
    unfold k0_part5
    dsimp only
    iterate 5 (refine ld15 ?_; refine ld6 ?_; refine st6 ?_; try dsimp only)
    refine Ok_ret ?_
    try dsimp only
    iterate 3 (refine ld15 ?_; refine ld6 ?_; refine st6 ?_; try dsimp only)
    refine ld15 ?_; refine ld6 ?_; refine st6 ?_; try dsimp only
    refine Ok_ret ?_
    refine h1 hc _ fun g r n => ?_
    rw [put6 1664 13 rfl, put6 1536 12 rfl, put6 1408 11 rfl, put6 1280 10 rfl, put6 1152 9 rfl, put6 1024 8 rfl, put6 896 7 rfl, put6 768 6 rfl, put6 640 5 rfl, put6 512 4 rfl, put6 384 3 rfl, put6 256 2 rfl, put6 128 1 rfl, put6 0 0 rfl]
    iterate 14 refine ite_via (fun hq => oscale _ _ _ g r n hq) (fun _ => ?_)
    omega
  · rw [dif_neg hc]
    exact Ok_ret (h2 hc)

end Cert.KernelIdeal.Hand

end

end
-- ==== Proof.Val.Step.lean ====
/-
  One step of the grid, whatever the steps before it have left: what it keeps between steps, and what it writes.
-/
module

public import proofs.«01_k».proof.Proof.Val.Mid
public import proofs.«01_k».proof.Proof.Val.Pro

@[expose] public section

set_option maxRecDepth 16384
set_option maxHeartbeats 4000000

noncomputable section

namespace Cert.KernelIdeal.Hand

open Cert.KernelIdeal Cert.KernelIdeal.Gen
open Idealize.ShloMosaic Idealize.ShloMosaic.ValueIdx Idealize.SL.Sem

theorem jw_eq (i : grid0.Coords) : jw i = BitVec.ofNat 32 (min (i 0).val 55 % 8) :=
  (by decide : ∀ t : Fin 57, Scalar.remsi (Scalar.minsi (BitVec.ofNat 32 t.val) 55#32) 8#32 = BitVec.ofNat 32 (min t.val 55 % 8)) (i 0)

theorem cond1_iff (i : grid0.Coords) : cond1 i = 1#1 ↔ (i 0).val = 0 :=
  (by decide : ∀ t : Fin 57, Scalar.cmpi .ne (Scalar.extui (Scalar.cmpi .eq (BitVec.ofNat 32 t.val) 0#32) : BitVec 32) 0#32 = 1#1 ↔ t.val = 0) (i 0)

theorem cond2_iff (i : grid0.Coords) : cond2 i = 1#1 ↔ min (i 0).val 55 % 8 = 0 := by
  unfold cond2
  rw [jw_eq]
  exact (by decide : ∀ t : Fin 57, Scalar.cmpi .ne (Scalar.extui (Scalar.cmpi .eq (BitVec.ofNat 32 (min t.val 55 % 8)) 0#32) : BitVec 32) 0#32 = 1#1 ↔ min t.val 55 % 8 = 0) (i 0)

theorem cond3_iff (i : grid0.Coords) : k0_cond3 i = 1#1 ↔ min (i 0).val 55 % 8 = 7 :=
  (by decide : ∀ t : Fin 57, k0_cond3 (fun | 0 => t) = 1#1 ↔ min t.val 55 % 8 = 7) (i 0)

theorem rowOff (g : Nat) (hg : g < 12) (i : grid0.Coords) :
    (Scalar.indexCast (Scalar.addi (BitVec.ofNat 32 (8 * g)) (jw i))).toNat = 8 * g + min (i 0).val 55 % 8 := by
  rw [jw_eq]
  exact (by decide : ∀ g : Fin 12, ∀ j : Fin 8, (Scalar.indexCast (Scalar.addi (BitVec.ofNat 32 (8 * g.val)) (BitVec.ofNat 32 j.val))).toNat = 8 * g.val + j.val)
    ⟨g, hg⟩ ⟨min (i 0).val 55 % 8, by omega⟩

/-- The byte at a lane and a row pair of a batch. -/
def obyte (e : Env) (n : Fin 1792) (b : Fin 768) : BitVec 8 :=
  pk (qcode (msumN e (2 * b.val) n.val) (Ideal.div cL (sclOf (gm e (b.val / 64) n.val))))
    (qcode (msumN e (2 * b.val + 1) n.val) (Ideal.div cL (sclOf (gm e (b.val / 64) n.val))))

/-- What the steps before step `t` leave for it; `E` gives each batch's arrays. -/
structure Inv (E : Nat → Env) (t : Nat) (σ : St Ideal) : Prop where
  m : 0 < t → ∀ (d : Fin 1536) (n : Fin 1792), σ.a7 (ix2 d n) = msumN (E (min (t - 1) 55)) d.val n.val
  i : 0 < t → ∀ (g : Fin 12) (n : Fin 1792), σ.a14 (ix2 g n) = Ideal.div cL (sclOf (gm (E (min (t - 1) 55)) g.val n.val))
  l : 0 < t → ∀ r k, σ.a8 (ix2 r k) = lhsL r k
  r : 0 < t → ∀ (l : Fin 128) d, l.val < 64 ∨ 104 ≤ l.val → σ.a10 (ix2 l d) = 0
  b : 0 < t → ∀ (k : Fin 64) n, 40 ≤ k.val → σ.a11 (ix2 k n) = 0
  s : min t 55 % 8 ≠ 0 → ∀ (q : Fin 96) (n : Fin 1792), σ.a12 (ix3 q 0 n) = (E (8 * (min t 55 / 8) + q.val % 8)).S (q.val / 8) n.val
  k : ∀ (b : Fin 14) (q : Fin 96) (l : Fin 128), q.val % 8 < min t 55 % 8 →
    σ.a15 (ix3 b q l) = sclOf (gm (E (8 * (min t 55 / 8) + q.val % 8)) (q.val / 8) (128 * b.val + l.val))

theorem body_ok (c : Dev nD) (A : Ops) (E : Nat → Env) (i : grid0.Coords) (σ : St Ideal) (hI : Inv E (i 0).val σ)
    (hW : σ.a1 = (E (min (i 0).val 55)).W)
    (hS : ∀ (g : Fin 12) (r : Fin 8) (n : Fin 1792), σ.a2 (ix3 g r n) = (E (8 * (min (i 0).val 55 / 8) + r.val)).S g.val n.val)
    (hA : ∀ k (d : Fin 1536), σ.a3 (ix3 0 k d) = (E (min (i 0).val 55)).Av k d.val)
    (hB : ∀ k (n : Fin 1792), σ.a4 (ix3 0 k n) = (E (min (i 0).val 55)).Bv k n.val)
    (Φ : PUnit → St Ideal → Prop)
    (h : ∀ τ, Inv E ((i 0).val + 1) τ → τ.a1 = σ.a1 → τ.a2 = σ.a2 → τ.a3 = σ.a3 → τ.a4 = σ.a4 →
      (0 < (i 0).val → ∀ n b, τ.a5 (ix3 0 n b) = obyte (E ((i 0).val - 1)) n b) →
      (k0_cond3 i = 1#1 → ∀ (g : Fin 12) (r : Fin 8) (n : Fin 1792), τ.a6 (ix3 g r n) = sclOf (gm (E (8 * (min (i 0).val 55 / 8) + r.val)) g.val n.val)) → Φ ⟨⟩ τ) :
    Ok c A (body i A.m1 A.h1 A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15) σ Φ := by
  unfold body
  have ht : (i 0).val < 57 := (i 0).isLt
  generalize htt : (i 0).val = t at *
  set u := min t 55 with hu
  -- the first step's clearing
  refine Ok_bind (Φ := fun _ τ => ∃ X7 X8 X10 X11 X14, τ = { σ with a7 := X7, a8 := X8, a10 := X10, a11 := X11, a14 := X14 }
      ∧ (0 < t → X7 = σ.a7 ∧ X14 = σ.a14) ∧ (∀ r k, X8 (ix2 r k) = lhsL r k) ∧ (∀ (l : Fin 128) d, l.val < 64 ∨ 104 ≤ l.val → X10 (ix2 l d) = 0)
      ∧ (∀ (k : Fin 64) n, 40 ≤ k.val → X11 (ix2 k n) = 0))
    (ini1_ok c A i σ _ (fun hc X7 X8 X10 X11 X14 h8 h10 h11 => ⟨X7, X8, X10, X11, X14, rfl, fun h0 => absurd ((cond1_iff i).1 hc) (by omega), h8, fun l d _ => h10 _, fun k n _ => h11 _⟩)
      (fun hc => by
        have h0 : 0 < t := by
          rcases Nat.eq_zero_or_pos t with h0 | h0
          · exact absurd ((cond1_iff i).2 (by omega)) hc
          · exact h0
        exact ⟨σ.a7, σ.a8, σ.a10, σ.a11, σ.a14, rfl, fun _ => ⟨rfl, rfl⟩, hI.l h0, hI.r h0, hI.b h0⟩)) ?_
  rintro _ _ ⟨X7, X8, X10, X11, X14, rfl, hk, h8, h10, h11⟩
  -- a row group's scales
  refine Ok_bind (Φ := fun _ τ => ∃ X12, τ = { σ with a7 := X7, a8 := X8, a10 := X10, a11 := X11, a14 := X14, a12 := X12 }
      ∧ (∀ (q : Fin 96) (n : Fin 1792), X12 (ix3 q 0 n) = (E (8 * (u / 8) + q.val % 8)).S (q.val / 8) n.val))
    (ini2_ok c A i _ _ (fun hc X12 h12 => ⟨X12, rfl, fun q n => (h12 q 0 n).trans (hS _ _ _)⟩)
      (fun hc => ⟨σ.a12, rfl, hI.s (fun h0 => hc ((cond2_iff i).2 (by rw [htt]; exact h0)))⟩)) ?_
  rintro _ _ ⟨X12, rfl, h12⟩
  -- the factors
  refine Ok_bind (pre_ok c A i { σ with a7 := X7, a8 := X8, a10 := X10, a11 := X11, a14 := X14, a12 := X12 } (E u).Av hA h10 h11 (fun _ τ => ∃ X9 X10 X11, τ = { σ with a7 := X7, a8 := X8, a9 := X9, a10 := X10, a11 := X11, a14 := X14, a12 := X12 }
      ∧ (∀ (d : Fin 1536) l, X9 (ix2 d l) = lhsR (fun k => (E u).Av k d.val) ⟨d.val % 192, by omega⟩ l) ∧ (∀ (l : Fin 128) d, l.val < 64 ∨ 104 ≤ l.val → X10 (ix2 l d) = 0)
      ∧ (∀ (k : Fin 64) (n : Fin 1792), X11 (ix2 k n) = if h : k.val < 40 then (E u).Bv ⟨k.val, h⟩ n.val else 0))
    (fun X9 X10 X11 g9 g10 g11 => ⟨X9, X10, X11, rfl, g9, g10, fun k n => (g11 k n).trans (by
      by_cases h : k.val < 40
      · rw [dif_pos h, dif_pos h]; exact hB _ _
      · rw [dif_neg h, dif_neg h])⟩)) ?_
  clear h10 h11
  rintro _ _ ⟨X9, X10, X11, rfl, h9, h10, h11⟩
  -- the blocks
  refine Ok_bind (mid_ok c A (E u) i (u % 8) (by omega) (fun g hg => by rw [rowOff g hg i, htt]) { σ with a7 := X7, a8 := X8, a9 := X9, a10 := X10, a11 := X11, a14 := X14, a12 := X12 } ⟨hW, h8, h9, h11, fun g hg n => by
      refine (h12 ⟨8 * g + u % 8, hg⟩ n).trans ?_
      show (E (8 * (u / 8) + (8 * g + u % 8) % 8)).S ((8 * g + u % 8) / 8) n.val = _
      rw [show 8 * (u / 8) + (8 * g + u % 8) % 8 = u by omega, show (8 * g + u % 8) / 8 = g by omega]⟩
    (fun _ τ => ∃ Z5 Z7 Z13 Z14 Z15, AfterB (E u) (u % 8) 1792 { σ with a7 := X7, a8 := X8, a9 := X9, a10 := X10, a11 := X11, a14 := X14, a12 := X12 } Z5 Z7 Z14 Z15
      ∧ τ = upd { σ with a7 := X7, a8 := X8, a9 := X9, a10 := X10, a11 := X11, a14 := X14, a12 := X12 } Z5 Z7 Z13 Z14 Z15)
    (fun Z5 Z7 Z13 Z14 Z15 hZ => ⟨Z5, Z7, Z13, Z14, Z15, hZ, rfl⟩)) ?_
  rintro _ _ ⟨Z5, Z7, Z13, Z14, Z15, hZ, rfl⟩
  have hq := hZ.q
  have hm := hZ.m
  have hi := hZ.i
  have hkk := hZ.k
  clear hZ
  dsimp only at hq hm hi hkk
  have hm' : ∀ (d : Fin 1536) (n : Fin 1792), Z7 (ix2 d n) = msumN (E u) d.val n.val := fun d n => (hm d n).trans (if_pos n.isLt)
  have hi' : ∀ (g : Fin 12) (n : Fin 1792), Z14 (ix2 g n) = Ideal.div cL (sclOf (gm (E u) g.val n.val)) := fun g n => (hi g n).trans (if_pos n.isLt)
  have hall : ∀ (b : Fin 14) (q : Fin 96) (l : Fin 128), q.val % 8 ≤ u % 8 → Z15 (ix3 b q l) = sclOf (gm (E (8 * (u / 8) + q.val % 8)) (q.val / 8) (128 * b.val + l.val)) := by
    intro b q l hql
    rw [hkk b q l]
    by_cases hj : q.val % 8 = u % 8
    · rw [if_pos ⟨by omega, hj⟩, hj, show 8 * (u / 8) + u % 8 = u by omega]
    · rw [if_neg (fun h => hj h.2)]
      exact hI.k b q l (by omega)
  have ho : 0 < t → ∀ n b, Z5 (ix3 0 n b) = obyte (E (t - 1)) n b := by
    intro h0 n b
    rw [hq n b, if_pos n.isLt, (hk h0).1, (hk h0).2]
    unfold qbyte obyte
    rw [hI.m h0, hI.m h0, hI.i h0, show min (t - 1) 55 = t - 1 by omega]
  have hnext : ∀ X6, Inv E (t + 1) (upd { σ with a6 := X6, a7 := X7, a8 := X8, a9 := X9, a10 := X10, a11 := X11, a14 := X14, a12 := X12 } Z5 Z7 Z13 Z14 Z15) := by
    intro X6
    refine ⟨fun _ => ?_, fun _ => ?_, fun _ => h8, fun _ => h10, fun _ k n hk40 => (h11 k n).trans (dif_neg (by omega)), fun hne q n => ?_, fun b q l hql => ?_⟩
    · rw [show min (t + 1 - 1) 55 = u by omega]; exact hm'
    · rw [show min (t + 1 - 1) 55 = u by omega]; exact hi'
    · rw [show min (t + 1) 55 / 8 = u / 8 by omega]; exact h12 q n
    · rw [show min (t + 1) 55 / 8 = u / 8 by omega]; exact hall b q l (by omega)
  -- the scales written out
  refine epi_ok c A i _ _ (fun hc X6 h6 => h _ (hnext X6) rfl rfl rfl rfl ho fun _ g r n => ?_) (fun hc => h _ (hnext σ.a6) rfl rfl rfl rfl ho fun h3 => absurd h3 hc)
  have h7 := (cond3_iff i).1 hc
  rw [htt] at h7
  refine (h6 g r n).trans ((hall _ _ _ (by show (8 * g.val + r.val) % 8 ≤ u % 8; omega)).trans ?_)
  show sclOf (gm (E (8 * (u / 8) + (8 * g.val + r.val) % 8)) ((8 * g.val + r.val) / 8) (128 * (n.val / 128) + n.val % 128)) = _
  rw [show (8 * g.val + r.val) % 8 = r.val by omega, show (8 * g.val + r.val) / 8 = g.val by omega, show 128 * (n.val / 128) + n.val % 128 = n.val by omega]

end Cert.KernelIdeal.Hand
-- ==== Proof.Val.Body.lean ====
/-
  The printed body is exactly the three stretches.
-/
module

public import proofs.«01_k».proof.Proof.Val.Stage

@[expose] public section

set_option maxRecDepth 100000
set_option maxHeartbeats 0

noncomputable section

namespace Cert.KernelIdeal.Hand

open Cert.KernelIdeal Cert.KernelIdeal.Gen
open Idealize.ShloMosaic Idealize.SL.Sem

variable {F : FTy → Type} [FloatOps F] [Named F]

theorem assoc5 {E : Type → Type _} {α β γ δ ε : Type} (a : Prog E α) (b : Prog E β) (c : Prog E γ) (K1 : γ → Prog E δ) (K2 : δ → Prog E ε) :
    Prog.bind (Prog.bind (Prog.bind a fun _ => Prog.bind b fun _ => c) K1) K2
      = Prog.bind a fun _ => Prog.bind b fun _ => Prog.bind (Prog.bind c K1) K2 := by
  have h1 := Prog.bind_assoc (Prog.bind a fun _ => Prog.bind b fun _ => c) K1 K2
  have h2 := Prog.bind_assoc a (fun _ => Prog.bind b fun _ => c) (fun x => Prog.bind (K1 x) K2)
  have h3 := Prog.bind_assoc b (fun _ => c) (fun x => Prog.bind (K1 x) K2)
  have h4 := Prog.bind_assoc c K1 K2
  exact h1.trans (h2.trans (congrArg _ (funext fun _ => h3.trans (congrArg _ (funext fun _ => h4.symm)))))

/-- The factors' first part, as it is printed with the values it hands on. -/
def pre6 (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    Prog (TpuEff nD τ sig (Elt F) Λ₀ .tc) (Σ' (v1 : BitVec 32) (v19 : FVec F S1536x128 .bf16) (v31 : FVec F S192x128 .bf16), FVec F S192x128 .bf16) := do
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.remsi v0 c8_i32
  let c0 : Index := 0#32
  let c0_3 : Index := 0#32
  let c0_4 : Index := 0#32
  let v8 : Vec F S1x40x1792 .bf16 ← Prog.lift (.load arg4 (Rect.unit (s := S1x40x1792) ![0, 0, 0] S1x40x1792.size inb_S1x40x1792_S1x40x1792_0_0_0).toLoadRect (View.loadsAt_vmem h_S1x40x1792))
  have v9 : FVec F S40x1792 .bf16 := shapeCast S40x1792 v8 shapeCasts_S1x40x1792_S40x1792
  let c0_5 : Index := 0#32
  let c0_6 : Index := 0#32
  let v10 : Vec F S40x1792 .bf16 ← Prog.lift (.load arg11 (Rect.unit (s := S64x1792) ![0, 0] S40x1792.size inb_S64x1792_S40x1792_0_0).toLoadRect (View.loadsAt_vmem h_S40x1792))
  have v11 : FVec F S40x1792 .bf16 := shapeCast S40x1792 v10 shapeCasts_S40x1792_S40x1792
  have v12 : FVec F S40x1792 .bf16 := shapeCast S40x1792 v9 shapeCasts_S40x1792_S40x1792
  Prog.lift (.store arg11 (Rect.unit (s := S64x1792) ![0, 0] S40x1792.size inb_S64x1792_S40x1792_0_0) v12 Finset.univ (View.stores_vmem h_S40x1792 (harg11.storeExact_slice rfl _ packedbf16_S64x1792_S40x1792_0_0) (fun _ => rfl)) (.inl rfl))
  let c0_7 : Index := 0#32
  let c0_8 : Index := 0#32
  let c0_9 : Index := 0#32
  let v13 : Vec F S1x40x1536 .bf16 ← Prog.lift (.load arg3 (Rect.unit (s := S1x40x1536) ![0, 0, 0] S1x40x1536.size inb_S1x40x1536_S1x40x1536_0_0_0).toLoadRect (View.loadsAt_vmem h_S1x40x1536))
  have v14 : FVec F S40x1536 .bf16 := shapeCast S40x1536 v13 shapeCasts_S1x40x1536_S40x1536
  let c64 : Index := 64#32
  let c0_10 : Index := 0#32
  let v15 : Vec F S40x1536 .bf16 ← Prog.lift (.load arg10 (Rect.unit (s := S128x1536) ![64, 0] S40x1536.size inb_S128x1536_S40x1536_64_0).toLoadRect (View.loadsAt_vmem h_S40x1536))
  have v16 : FVec F S40x1536 .bf16 := shapeCast S40x1536 v15 shapeCasts_S40x1536_S40x1536
  have v17 : FVec F S40x1536 .bf16 := shapeCast S40x1536 v14 shapeCasts_S40x1536_S40x1536
  Prog.lift (.store arg10 (Rect.unit (s := S128x1536) ![64, 0] S40x1536.size inb_S128x1536_S40x1536_64_0) v17 Finset.univ (View.stores_vmem h_S40x1536 (harg10.storeExact_slice rfl _ packedbf16_S128x1536_S40x1536_64_0) (fun _ => rfl)) (.inl rfl))
  let c0_11 : Index := 0#32
  let c0_12 : Index := 0#32
  let v18 : Vec F S128x1536 .bf16 ← Prog.lift (.load arg10 (Rect.unit (s := S128x1536) ![0, 0] S128x1536.size inb_S128x1536_S128x1536_0_0).toLoadRect (View.loadsAt_vmem h_S128x1536))
  have v19 : FVec F S1536x128 .bf16 := transpose S1536x128 [1, 0] v18 transposes_S128x1536_p1_0_S1536x128
  have v20 : IVec S192x128 32 := iota .tc S192x128 32 [0] iota_S192x128_d0_w32
  have v21 : IVec S192x128 32 := iota .tc S192x128 32 [1] iota_S192x128_d1_w32
  let c128_i32 : BitVec 32 := 128#32
  have v22 : IVec S192x128 32 := broadcast S192x128 c128_i32
  have v23 : IVec S192x128 32 := subi v20 v22
  have v24 : IVec S192x128 1 := cmpi .eq v23 v21
  let c64_i32 : BitVec 32 := 64#32
  have v25 : IVec S192x128 32 := broadcast S192x128 c64_i32
  have v26 : IVec S192x128 1 := cmpi .slt v21 v25
  have v27 : IVec S192x128 1 := andi v24 v26
  have cst : F .f32 := Scalar.ofBits .f32 0x40200000#32
  have cst_13 : F .f32 := Scalar.ofBits .f32 0x00000000#32
  have v28 : FVec F S192x128 .f32 := broadcast S192x128 cst
  have v29 : FVec F S192x128 .f32 := broadcast S192x128 cst_13
  have v30 : FVec F S192x128 .f32 := select v27 v28 v29
  have v31 : FVec F S192x128 .bf16 := truncf .bf16 v30 bitsLt_bf16_f32
  have v32 : FVec F S192x128 .bf16 := extractStridedSlice S192x128 ![0, 0] v19 slices_S1536x128_o0_0_S192x128
  pure ⟨v1, v19, v31, v32⟩
theorem part6_eq (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = Prog.bind (ini1 i arg1 harg1 arg2 harg2 arg3 harg3 arg4 harg4 arg5 harg5 arg6 harg6 arg7 harg7 arg8 harg8 arg9 harg9 arg10 harg10 arg11 harg11 arg12 harg12 arg13 harg13 arg14 harg14 arg15 harg15) fun _ => Prog.bind (ini2 i arg1 harg1 arg2 harg2 arg3 harg3 arg4 harg4 arg5 harg5 arg6 harg6 arg7 harg7 arg8 harg8 arg9 harg9 arg10 harg10 arg11 harg11 arg12 harg12 arg13 harg13 arg14 harg14 arg15 harg15) fun _ => pre6 i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  simp only [ini1, ini2, bind_ite]
  rfl
/-! ## Walking two programs side by side -/

section Walk
variable {E : Type → Type _} {α β γ δ : Type}
theorem walk_op {e : E α} {k k' : α → Prog E β} (h : ∀ x, k x = k' x) : (Prog.lift e >>= k) = (Prog.lift e >>= k') := congrArg _ (funext h)
theorem walk_la {p : Prog E α} {k : α → Prog E β} {f : β → Prog E γ} {R : Prog E γ} (h : (p >>= fun x => k x >>= f) = R) : ((p >>= k) >>= f) = R :=
  (Prog.bind_assoc p k f).trans h
theorem walk_ra {p : Prog E α} {k : α → Prog E β} {f : β → Prog E γ} {L : Prog E γ} (h : L = (p >>= fun x => k x >>= f)) : L = ((p >>= k) >>= f) :=
  h.trans (Prog.bind_assoc p k f).symm
theorem walk_lp {v : α} {f : α → Prog E β} {R : Prog E β} (h : f v = R) : ((pure v : Prog E α) >>= f) = R := h
theorem walk_rp {v : α} {f : α → Prog E β} {L : Prog E β} (h : L = f v) : L = ((pure v : Prog E α) >>= f) := h
end Walk

/-- Where the walk ends: the second program is down to `epi`. -/
theorem walk_stop {L : Prog (TpuEff nD τ sig (Elt F) Λ₀ .tc) PUnit} {i : grid0.Coords} (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) (h : L = epi i arg1 harg1 arg2 harg2 arg3 harg3 arg4 harg4 arg5 harg5 arg6 harg6 arg7 harg7 arg8 harg8 arg9 harg9 arg10 harg10 arg11 harg11 arg12 harg12 arg13 harg13 arg14 harg14 arg15 harg15) : L = epi (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 := h
theorem body_eq (i : grid0.Coords) (arg1 : Memref sig .tc .vmem S1x1792x768 .i8) (harg1 : arg1.IsWhole) (arg2 : Memref sig .tc .vmem S12x8x1792 .bf16) (harg2 : arg2.IsWhole) (arg3 : Memref sig .tc .vmem S1x40x1536 .bf16) (harg3 : arg3.IsWhole) (arg4 : Memref sig .tc .vmem S1x40x1792 .bf16) (harg4 : arg4.IsWhole) (arg5 : Memref sig .tc .vmem S1x1792x768 .i8) (harg5 : arg5.IsWhole) (arg6 : Memref sig .tc .vmem S12x8x1792 .bf16) (harg6 : arg6.IsWhole) (arg7 : Memref sig .tc .vmem S1536x1792 .f32) (harg7 : arg7.IsWhole) (arg8 : Memref sig .tc .vmem S192x128 .bf16) (harg8 : arg8.IsWhole) (arg9 : Memref sig .tc .vmem S1536x128 .bf16) (harg9 : arg9.IsWhole) (arg10 : Memref sig .tc .vmem S128x1536 .bf16) (harg10 : arg10.IsWhole) (arg11 : Memref sig .tc .vmem S64x1792 .bf16) (harg11 : arg11.IsWhole) (arg12 : Memref sig .tc .vmem S96x2x1792 .bf16) (harg12 : arg12.IsWhole) (arg13 : Memref sig .tc .vmem S2x96x128 .f32) (harg13 : arg13.IsWhole) (arg14 : Memref sig .tc .vmem S12x1792 .f32) (harg14 : arg14.IsWhole) (arg15 : Memref sig .tc .vmem S14x96x128 .f32) (harg15 : arg15.IsWhole) :
    cc0_lora_merge (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = body i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  unfold cc0_lora_merge k0_part289
  rw [part6_eq]
  refine (assoc5 (ini1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) (ini2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) (pre6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) _ _).trans ?_
  refine congrArg _ (funext fun _ => congrArg _ (funext fun _ => ?_))
  iterate 50 iterate 100 try ((fail_if_success (with_reducible refine walk_stop _ _ _ _ _ _ _ _ _ _ _ _ _ _ _ _ _ _ _ _ _ _ _ _ _ _ _ _ _ _ ?_)); (first | refine walk_la ?_ | refine walk_lp ?_ | refine walk_ra ?_ | refine walk_rp ?_ | refine walk_op fun _ => ?_))
  exact rfl

end Cert.KernelIdeal.Hand

end

end
-- ==== Proof.Val.Value.lean ====
/-
  What the kernel leaves in its two result arrays: the steps run one after another through the launch.
-/
module

public import Idealize.ShloMosaic.Lib.Pipeline.DatRel
public import Idealize.ShloMosaic.Lib.Pipeline.ArrRel
public import proofs.«01_k».proof.Proof.Val.Frame
public import proofs.«01_k».proof.Proof.Val.Step
public import proofs.«01_k».proof.Proof.Val.Body

@[expose] public section

set_option maxRecDepth 16384

noncomputable section

namespace Cert.KernelIdeal.Value

open Cert.KernelIdeal Cert.KernelIdeal.Gen
open Cert.KernelIdeal.Hand hiding frame
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

local notation "𝕄" => MT nD τ sig Unit (Elt Ideal) ℕ (UR sig nD τ) ℕ

variable (m : (ℓ : Loc nD τ sig) → Buf (Elt Ideal) ℓ) (ρ : Dev nD → PrngReg)

/-- Batch `b`'s arrays, read off the four arguments. -/
def Ein (c : Dev nD) (b : Nat) : Env where
  W x := (m ((c : Thread nD τ).loc main_arg0) : S56x1792x768.Idx → BitVec 8) (ix3 ⟨b % 56, Nat.mod_lt _ (by decide)⟩ (x 1) (x 2))
  S g n := (m ((c : Thread nD τ).loc main_arg1) : S56x1792x12.Idx → EReal) (ix3 ⟨b % 56, Nat.mod_lt _ (by decide)⟩ ⟨n % 1792, Nat.mod_lt _ (by decide)⟩ ⟨g % 12, Nat.mod_lt _ (by decide)⟩)
  Av k d := (m ((c : Thread nD τ).loc main_arg2) : S56x40x1536.Idx → EReal) (ix3 ⟨b % 56, Nat.mod_lt _ (by decide)⟩ k ⟨d % 1536, Nat.mod_lt _ (by decide)⟩)
  Bv k n := (m ((c : Thread nD τ).loc main_arg3) : S56x1792x40.Idx → EReal) (ix3 ⟨b % 56, Nat.mod_lt _ (by decide)⟩ ⟨n % 1792, Nat.mod_lt _ (by decide)⟩ k)

/-! ## The inputs' blocks -/

theorem idx0 : ∀ t : Fin 57, win0_0.index t 0 = min t.val 55 ∧ win0_0.index t 1 = 0 ∧ win0_0.index t 2 = 0 := by decide +kernel
theorem idx1 : ∀ t : Fin 57, win0_1.index t 0 = 0 ∧ win0_1.index t 1 = min t.val 55 / 8 ∧ win0_1.index t 2 = 0 := by decide +kernel
theorem idx2 : ∀ t : Fin 57, win0_2.index t 0 = min t.val 55 ∧ win0_2.index t 1 = 0 ∧ win0_2.index t 2 = 0 := by decide +kernel
theorem idx3 : ∀ t : Fin 57, win0_3.index t 0 = min t.val 55 ∧ win0_3.index t 1 = 0 ∧ win0_3.index t 2 = 0 := by decide +kernel
theorem coord : ∀ t : Fin 57, (grid0.coords t 0).val = t.val := by decide +kernel

theorem V_v0 (c : Dev nD) : V m c main_v0 = transpose S12x56x1792 [2, 0, 1] (m ((c : Thread nD τ).loc main_arg1) : S56x1792x12.Idx → EReal) transposes_S56x1792x12_S12x56x1792_2_0_1 := by
  rfl
theorem V_v1 (c : Dev nD) : V m c main_v1 = transpose S56x40x1792 [0, 2, 1] (m ((c : Thread nD τ).loc main_arg3) : S56x1792x40.Idx → EReal) transposes_S56x1792x40_S56x40x1792_0_2_1 := by
  rfl

theorem blk0 (c : Dev nD) (t : Fin 57) : iblk m c 0 t = (Ein m c (min t.val 55)).W := by
  funext x
  have hx : (x 0).val = 0 := by have h1 : (x 0).val < 1 := (x 0).isLt; omega
  have ht := t.isLt
  show V m c main_arg0 ((win0_0.blk t).view.emb x) = _
  rw [V_main_arg0]
  refine congrArg (m ((c : Thread nD τ).loc main_arg0)) (funext fun a => Fin.ext ?_)
  fin_cases a
  · show win0_0.index t 0 * 1 + 1 * (x 0).val = min t.val 55 % 56; rw [(idx0 t).1]; omega
  · show win0_0.index t 1 * 1792 + 1 * (x 1).val = (x 1).val; rw [(idx0 t).2.1]; omega
  · show win0_0.index t 2 * 768 + 1 * (x 2).val = (x 2).val; rw [(idx0 t).2.2]; omega

theorem blk1 (c : Dev nD) (t : Fin 57) (g : Fin 12) (r : Fin 8) (n : Fin 1792) :
    iblk m c 1 t (ix3 g r n) = (Ein m c (8 * (min t.val 55 / 8) + r.val)).S g.val n.val := by
  have ht := t.isLt
  show V m c main_v0 ((win0_1.blk t).view.emb (ix3 g r n)) = _
  rw [V_v0]
  refine transpose_apply _ _ _ _ _ ?_
  intro a
  fin_cases a
  · show g.val % 12 = win0_1.index t 0 * 12 + 1 * g.val; rw [(idx1 t).1]; omega
  · show (8 * (min t.val 55 / 8) + r.val) % 56 = win0_1.index t 1 * 8 + 1 * r.val; rw [(idx1 t).2.1]; omega
  · show n.val % 1792 = win0_1.index t 2 * 1792 + 1 * n.val; rw [(idx1 t).2.2]; omega

theorem blk2 (c : Dev nD) (t : Fin 57) (k : Fin 40) (d : Fin 1536) :
    iblk m c 2 t (ix3 0 k d) = (Ein m c (min t.val 55)).Av k d.val := by
  have ht := t.isLt
  show V m c main_arg2 ((win0_2.blk t).view.emb (ix3 0 k d)) = _
  rw [V_main_arg2]
  refine congrArg (m ((c : Thread nD τ).loc main_arg2)) (funext fun a => Fin.ext ?_)
  fin_cases a
  · show win0_2.index t 0 * 1 + 1 * 0 = min t.val 55 % 56; rw [(idx2 t).1]; omega
  · show win0_2.index t 1 * 40 + 1 * k.val = k.val; rw [(idx2 t).2.1]; omega
  · show win0_2.index t 2 * 1536 + 1 * d.val = d.val % 1536; rw [(idx2 t).2.2]; omega

theorem blk3 (c : Dev nD) (t : Fin 57) (k : Fin 40) (n : Fin 1792) :
    iblk m c 3 t (ix3 0 k n) = (Ein m c (min t.val 55)).Bv k n.val := by
  have ht := t.isLt
  show V m c main_v1 ((win0_3.blk t).view.emb (ix3 0 k n)) = _
  rw [V_v1]
  refine transpose_apply _ _ _ _ _ ?_
  intro a
  fin_cases a
  · show min t.val 55 % 56 = win0_3.index t 0 * 1 + 1 * 0; rw [(idx3 t).1]; omega
  · show k.val = win0_3.index t 1 * 40 + 1 * k.val; rw [(idx3 t).2.1]; omega
  · show n.val % 1792 = win0_3.index t 2 * 1792 + 1 * n.val; rw [(idx3 t).2.2]; omega

/-! ## The launch's data -/

/-- The fifteen operands at point `t`. -/
def opsAt (t : Fin cfg0.N) : Ops where
  m1 := win0_0.stage (cfg0.slots t 0)
  h1 := hstage0_0 ((cfg0.slots t 0).cast nbuf0_0)
  m2 := win0_1.stage (cfg0.slots t 1)
  h2 := hstage0_1 ((cfg0.slots t 1).cast nbuf0_1)
  m3 := win0_2.stage (cfg0.slots t 2)
  h3 := hstage0_2 ((cfg0.slots t 2).cast nbuf0_2)
  m4 := win0_3.stage (cfg0.slots t 3)
  h4 := hstage0_3 ((cfg0.slots t 3).cast nbuf0_3)
  m5 := win0_4.stage (cfg0.slots t 4)
  h5 := hstage0_4 ((cfg0.slots t 4).cast nbuf0_4)
  m6 := win0_5.stage (cfg0.slots t 5)
  h6 := hstage0_5 ((cfg0.slots t 5).cast nbuf0_5)
  m7 := Memref.whole cc0_scratch0
  h7 := Memref.isWhole_whole _
  m8 := Memref.whole cc0_scratch1
  h8 := Memref.isWhole_whole _
  m9 := Memref.whole cc0_scratch2
  h9 := Memref.isWhole_whole _
  m10 := Memref.whole cc0_scratch3
  h10 := Memref.isWhole_whole _
  m11 := Memref.whole cc0_scratch4
  h11 := Memref.isWhole_whole _
  m12 := Memref.whole cc0_scratch5
  h12 := Memref.isWhole_whole _
  m13 := Memref.whole cc0_scratch6
  h13 := Memref.isWhole_whole _
  m14 := Memref.whole cc0_scratch7
  h14 := Memref.isWhole_whole _
  m15 := Memref.whole cc0_scratch8
  h15 := Memref.isWhole_whole _

/-- The scratch buffers held at what the steps before point `t` leave. -/
def track (c : Dev nD) (t : Nat) : sProp 𝕄 :=
  iprop((∃ σ : St Ideal, ⌜Inv (Ein m c) t σ⌝ ∗ (((c : Thread nD τ).loc cc0_scratch0) ↦{fullShare} σ.a7) ∗ (((c : Thread nD τ).loc cc0_scratch1) ↦{fullShare} σ.a8) ∗ (((c : Thread nD τ).loc cc0_scratch2) ↦{fullShare} σ.a9) ∗ (((c : Thread nD τ).loc cc0_scratch3) ↦{fullShare} σ.a10) ∗ (((c : Thread nD τ).loc cc0_scratch4) ↦{fullShare} σ.a11) ∗ (((c : Thread nD τ).loc cc0_scratch5) ↦{fullShare} σ.a12) ∗ (((c : Thread nD τ).loc cc0_scratch6) ↦{fullShare} σ.a13) ∗ (((c : Thread nD τ).loc cc0_scratch7) ↦{fullShare} σ.a14) ∗ (((c : Thread nD τ).loc cc0_scratch8) ↦{fullShare} σ.a15)) ∗ ∃ r, prngReg c r)

/-- What a step leaves in the outputs' staging buffers: the batch before's bytes, and at a row group's last step the group's scales. -/
def leaves (c : Dev nD) : (w : Fin cfg0.W) → Fin cfg0.N → ((cfg0.win w).block.Idx → Elt Ideal (cfg0.win w).elt) → Prop := fun w => match w with
  | 0 => fun _ _ => True
  | 1 => fun _ _ => True
  | 2 => fun _ _ => True
  | 3 => fun _ _ => True
  | 4 => fun t X => 0 < t.val → ∀ (n : Fin 1792) (b : Fin 768), (X : S1x1792x768.Idx → BitVec 8) (ix3 0 n b) = obyte (Ein m c (t.val - 1)) n b
  | 5 => fun t X => k0_cond3 (grid0.coords t) = 1#1 → ∀ (g : Fin 12) (r : Fin 8) (n : Fin 1792), (X : S12x8x1792.Idx → EReal) (ix3 g r n) = sclOf (gm (Ein m c (8 * (min t.val 55 / 8) + r.val)) g.val n.val)

def datV (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
  Φ t := track m c t.val
  q _ := fullShare
  owed _ := 0

theorem AV_eq (c : Dev nD) (w : Fin cfg0.W) : (datV m 0 c).A w = V m c (Pipeline.arrRef spec0 w) := by dsimp only [datV]

abbrev rdatV (c : Dev nD) := (datV m 0 c).toRRel forgets0 (leaves m c)

def preV (c : Dev nD) (t : Fin cfg0.N) : sProp 𝕄 :=
  iprop((datV m 0 c).Φ t.castSucc ∗ (datV m 0 c).owesAt () t.castSucc
    ∗ inO c t 0 (iblk m c 0 t) ∗ inO c t 1 (iblk m c 1 t) ∗ inO c t 2 (iblk m c 2 t) ∗ inO c t 3 (iblk m c 3 t)
    ∗ (∃ Y, ⌜(rdatV m c).Finds 4 t Y⌝ ∗ inO c t 4 Y) ∗ (∃ Y, ⌜(rdatV m c).Finds 5 t Y⌝ ∗ inO c t 5 Y))
def postV (c : Dev nD) (t : Fin cfg0.N) : sProp 𝕄 :=
  iprop((datV m 0 c).Φ t.succ ∗ (datV m 0 c).owesAt () t.succ
    ∗ inO c t 0 (iblk m c 0 t) ∗ inO c t 1 (iblk m c 1 t) ∗ inO c t 2 (iblk m c 2 t) ∗ inO c t 3 (iblk m c 3 t)
    ∗ (∃ X, ⌜leaves m c 4 t X⌝ ∗ inO c t 4 X) ∗ (∃ X, ⌜leaves m c 5 t X⌝ ∗ inO c t 5 X))

/-- One step's record related to the next. -/
theorem step_ok (c : Dev nD) (t : Fin cfg0.N) (σ : St Ideal) (hI : Inv (Ein m c) t.val σ) (Y4 : S1x1792x768.Idx → BitVec 8) (Y5 : S12x8x1792.Idx → EReal) :
    Ok c (opsAt t) (bodyAt0 (F := Ideal) t) { σ with a1 := iblk m c 0 t, a2 := iblk m c 1 t, a3 := iblk m c 2 t, a4 := iblk m c 3 t, a5 := Y4, a6 := Y5 }
      fun _ τ => Inv (Ein m c) (t.val + 1) τ ∧ τ.a1 = iblk m c 0 t ∧ τ.a2 = iblk m c 1 t ∧ τ.a3 = iblk m c 2 t ∧ τ.a4 = iblk m c 3 t
        ∧ leaves m c 4 t τ.a5 ∧ leaves m c 5 t τ.a6 := by
  have hc : (grid0.coords t 0).val = t.val := coord t
  unfold bodyAt0
  rw [body_eq]
  refine body_ok c (opsAt t) (Ein m c) (grid0.coords t) _ ?_ ?_ ?_ ?_ ?_ _ ?_
  · rw [hc]; exact ⟨hI.m, hI.i, hI.l, hI.r, hI.b, hI.s, hI.k⟩
  · rw [hc]; exact blk0 m c t
  · rw [hc]; exact blk1 m c t
  · rw [hc]; exact blk2 m c t
  · rw [hc]; exact blk3 m c t
  · rw [hc]
    exact fun τ h0 h1 h2 h3 h4 h5 h6 => ⟨h0, h1, h2, h3, h4, h5, h6⟩

set_option maxHeartbeats 4000000 in
theorem sound_bodyV (c : Dev nD) (t : Fin cfg0.N) :
    preV m c t ⊢ wp frame (wpE (defs₀ (F := Ideal)) Variants.none c none) Set.univ (bodyAt0 t) (fun _ => postV m c t) := by
  unfold preV postV
  rw [show (datV m 0 c).owesAt () t.succ = (datV m 0 c).owesAt () t.castSucc from rfl,
    show (datV m 0 c).Φ t.castSucc = track m c t.val from rfl, show (datV m 0 c).Φ t.succ = track m c (t.val + 1) from rfl]
  unfold track
  iintro ⟨⟨⟨%σ, %hI, S0, S1, S2, S3, S4, S5, S6, S7, S8⟩, Hg⟩, HO, H1, H2, H3, H4, ⟨%Y4, -, H5⟩, ⟨%Y5, -, H6⟩⟩
  iapply (step_ok m c t σ hI Y4 Y5 _)
  unfold Hand.own opsAt
  dsimp only
  simp only [owns_whole]
  isplitl [H1 H2 H3 H4 H5 H6 S0 S1 S2 S3 S4 S5 S6 S7 S8]
  · isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iintro %_ %τ %hτ ⟨H1, H2, H3, H4, H5, H6, S0, S1, S2, S3, S4, S5, S6, S7, S8⟩
  isplitl [Hg S0 S1 S2 S3 S4 S5 S6 S7 S8]
  · isplitr [Hg]; swap; · iexact Hg
    iexists τ
    isplitr
    · ipureintro; exact hτ.1
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [HO]; · iexact HO
  rw [hτ.2.1, hτ.2.2.1, hτ.2.2.2.1, hτ.2.2.2.2.1]
  isplitl [H1]; · iexact H1
  isplitl [H2]; · iexact H2
  isplitl [H3]; · iexact H3
  isplitl [H4]; · iexact H4
  isplitl [H5]
  · iexists τ.a5; isplitr
    · ipureintro; exact hτ.2.2.2.2.2.1
    · iexact H5
  · iexists τ.a6; isplitr
    · ipureintro; exact hτ.2.2.2.2.2.2
    · iexact H6

theorem beforeV_0 (c : Dev nD) (t : Fin cfg0.N) (d) : (datV m 0 c).before 0 t d = iblk m c 0 t := before0_0_of m _ rfl (fun _ => rfl) t d
theorem beforeV_1 (c : Dev nD) (t : Fin cfg0.N) (d) : (datV m 0 c).before 1 t d = iblk m c 1 t := before0_1_of m _ rfl (fun _ => rfl) t d
theorem beforeV_2 (c : Dev nD) (t : Fin cfg0.N) (d) : (datV m 0 c).before 2 t d = iblk m c 2 t := before0_2_of m _ rfl (fun _ => rfl) t d
theorem beforeV_3 (c : Dev nD) (t : Fin cfg0.N) (d) : (datV m 0 c).before 3 t d = iblk m c 3 t := before0_3_of m _ rfl (fun _ => rfl) t d

theorem obligationV (c : Dev nD) :
    Pipeline.BodyObligationRel (datV m 0 c) (defs₀ (F := Ideal)) Variants.none () Set.univ forgets0 (leaves m c) := fun t => by
  rw [bigSep_W0, bigSep_W0, defs₀_row]
  refine triple_restated (sound_bodyV m c t) rfl ?_ fun _ => .rfl
  unfold preV
  simp only [forgets0, beforeV_0, beforeV_1, beforeV_2, beforeV_3]
  iintro ⟨HP, HO, ⟨%_, H0⟩, ⟨%_, H1⟩, ⟨%_, H2⟩, ⟨%_, H3⟩, H4, H5⟩
  isplitl [HP]; · iexact HP
  isplitl [HO]; · iexact HO
  isplitl [H0]; · iexact H0
  isplitl [H1]; · iexact H1
  isplitl [H2]; · iexact H2
  isplitl [H3]; · iexact H3
  isplitl [H4]; · iexact H4
  iexact H5

/-- Before the first step the scratch buffers may hold anything. -/
theorem track_in (c : Dev nD) : Pipeline.ΦA spec0 c ⊢ track m c 0 := by
  unfold Pipeline.ΦA track
  rw [scopedRest0_eq]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩⟩, Hg⟩
  isplitr [Hg]; swap; · iexact Hg
  iexists (⟨fun _ => 0, fun _ => 0, fun _ => 0, fun _ => 0, fun _ => 0, fun _ => 0, f0, f1, f2, f3, f4, f5, f6, f7, f8⟩ : St Ideal)
  isplitr
  · ipureintro
    exact ⟨fun h => absurd h (by decide), fun h => absurd h (by decide), fun h => absurd h (by decide), fun h => absurd h (by decide), fun h => absurd h (by decide),
      fun h => absurd rfl h, fun b q l h => absurd h (by simp)⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

/-- After the last step what they hold is forgotten. -/
theorem track_out (c : Dev nD) (t : Nat) : track m c t ⊢ Pipeline.ΦA spec0 c := by
  unfold Pipeline.ΦA track
  rw [scopedRest0_eq]
  iintro ⟨⟨%σ, -, S0, S1, S2, S3, S4, S5, S6, S7, S8⟩, Hg⟩
  isplitr [Hg]; swap; · iexact Hg
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  iexists _; iexact S8

set_option backward.isDefEq.respectTransparency.types false in
theorem run_mainV :
    θ_run defs (onTc (τ := τ) (main (F := Ideal))) (s₀ m ρ)
      (fun r => Pipeline.RDat.FramePost (cfgs 0) (fun c => (datV m 0 c).toRRel forgets0 (leaves m c)) (V m) r ∧ r.2.sem = fun _ => 0) :=
  Pipeline.RDat.θ_run_frame_track cfgs (0 : Fin 1) launch0 defs₀ Variants.none (fun c => (datV m 0 c).toRRel forgets0 (leaves m c)) m ρ main
    (hbody := fun c => (obligationV m c).toRRel) (hshare := fun c => (datV m 0 c).share_full fun _ => rfl)
    (howed := fun _ _ => rfl) (V := V m) (hmain := hmain m Variants.none) (hA := AV_eq m)
    (hin := fun c => track_in m c) (hout := fun c => track_out m c _) (Q' := _)

/-! ## The two results -/

/-- The bytes of every batch. -/
def resQ (c : Dev nD) : S56x1792x768.Idx → BitVec 8 := fun x => obyte (Ein m c (x 0).val) (x 1) (x 2)
/-- The scales of every batch, the groups leading. -/
def resS (c : Dev nD) : S12x56x1792.Idx → EReal := fun x => sclOf (gm (Ein m c (x 1).val) (x 0).val (x 2).val)

theorem idx4 : ∀ t : Fin 57, win0_4.index t 0 = t.val - 1 ∧ win0_4.index t 1 = 0 ∧ win0_4.index t 2 = 0 := by decide +kernel
theorem idx5 : ∀ t : Fin 57, win0_5.index t 0 = 0 ∧ win0_5.index t 1 = min t.val 55 / 8 ∧ win0_5.index t 2 = 0 := by decide +kernel
theorem fl4 (t : Fin 57) (h : win0_4.flush t = true) : 0 < t.val := by
  have := (by decide +kernel : ∀ t : Fin 57, (!(win0_4.flush t) || Nat.blt 0 t.val) = true) t
  rw [h] at this
  exact Nat.le_of_ble_eq_true this
theorem fl5 (t : Fin 57) (h : win0_5.flush t = true) : k0_cond3 (grid0.coords t) = 1#1 := by
  have := (by decide +kernel : ∀ t : Fin 57, (!(win0_5.flush t) || k0_cond3 (grid0.coords t) == 1#1) = true) t
  rw [h] at this
  simpa using this

theorem arr4 (c : Dev nD) (after) (hL : ∀ u : Fin cfg0.N, (cfg0.win 4).flush u = true → leaves m c 4 u (after 4 u)) :
    ((rdatV m c).withAfter after).arrAt 4 cfg0.N = resQ m c := by
  refine Pipeline.Dat.arrAt_eq_of_covers _ 4 _ (by decide +kernel) fun t hf y => ?_
  have h := hL t hf (fl4 t hf) (y 1) (y 2)
  have hy : (y 0).val = 0 := by have h1 : (y 0).val < 1 := (y 0).isLt; omega
  have e : (resQ m c) (((cfg0.win 4).blk t).view.emb y) = obyte (Ein m c (t.val - 1)) (y 1) (y 2) := by
    unfold resQ
    congr 1
    · refine congrArg _ ?_
      show win0_4.index t 0 * 1 + 1 * (y 0).val = _
      rw [(idx4 t).1]; omega
    · refine Fin.ext ?_
      show win0_4.index t 1 * 1792 + 1 * (y 1).val = _
      rw [(idx4 t).2.1]; omega
    · refine Fin.ext ?_
      show win0_4.index t 2 * 768 + 1 * (y 2).val = _
      rw [(idx4 t).2.2]; omega
  refine Eq.trans ?_ e.symm
  refine Eq.trans ?_ h
  refine congrArg (after 4 t) (funext fun a => Fin.ext ?_)
  fin_cases a
  · exact hy
  · rfl
  · rfl

theorem arr5 (c : Dev nD) (after) (hL : ∀ u : Fin cfg0.N, (cfg0.win 5).flush u = true → leaves m c 5 u (after 5 u)) :
    ((rdatV m c).withAfter after).arrAt 5 cfg0.N = resS m c := by
  refine Pipeline.Dat.arrAt_eq_of_covers _ 5 _ (by decide +kernel) fun t hf y => ?_
  have h := hL t hf (fl5 t hf) (y 0) (y 1) (y 2)
  have e : (resS m c) (((cfg0.win 5).blk t).view.emb y) = sclOf (gm (Ein m c (8 * (min t.val 55 / 8) + (y 1).val)) (y 0).val (y 2).val) := by
    unfold resS
    have e0 : (((cfg0.win 5).blk t).view.emb y 0).val = (y 0).val := by
      show win0_5.index t 0 * 12 + 1 * (y 0).val = _
      rw [(idx5 t).1]; omega
    have e1 : (((cfg0.win 5).blk t).view.emb y 1).val = 8 * (min t.val 55 / 8) + (y 1).val := by
      show win0_5.index t 1 * 8 + 1 * (y 1).val = _
      rw [(idx5 t).2.1]; omega
    have e2 : (((cfg0.win 5).blk t).view.emb y 2).val = (y 2).val := by
      show win0_5.index t 2 * 1792 + 1 * (y 2).val = _
      rw [(idx5 t).2.2]; omega
    exact congrArg sclOf (by rw [show gm (Ein m c (((cfg0.win 5).blk t).view.emb y 1).val) (((cfg0.win 5).blk t).view.emb y 0).val (((cfg0.win 5).blk t).view.emb y 2).val
      = gm (Ein m c (8 * (min t.val 55 / 8) + (y 1).val)) (y 0).val (y 2).val from by rw [e0, e1, e2]])
  refine Eq.trans ?_ e.symm
  refine Eq.trans ?_ h
  refine congrArg (after 5 t) (funext fun a => Fin.ext ?_)
  fin_cases a <;> rfl

/-- Every run ends with the two results and the four arguments unchanged. -/
theorem run :
    θ_run defs (onTc (τ := τ) (main (F := Ideal))) ⟨m, fun _ => 0, ρ⟩ (fun r => ∀ c : Dev nD,
      r.2.mem ((c.tc : Thread nD τ).loc main_v2_0) = resQ m c
      ∧ r.2.mem ((c.tc : Thread nD τ).loc main_v2_1) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ?_) (run_mainV m ρ)
  obtain ⟨after, hL, hA⟩ := h.1.exists_exact c
  exact ⟨(hA 4).trans (arr4 m c after fun u hf => (datV m 0 c).toRRel_leaves rfl (hL 4 u hf)),
      (hA 5).trans (arr5 m c after fun u hf => (datV m 0 c).toRRel_leaves rfl (hL 5 u hf)),
      ((h.1).arr_in c 0 rfl).trans ((AV_eq m c 0).trans (V_main_arg0 m c)),
      ((h.1 c).2 main_arg1 (Pipeline.mem_restRefs_of main_arg1 (by decide) (by decide))).trans (V_main_arg1 m c),
      ((h.1).arr_in c 2 rfl).trans ((AV_eq m c 2).trans (V_main_arg2 m c)),
      ((h.1 c).2 main_arg3 (Pipeline.mem_restRefs_of main_arg3 (by decide) (by decide))).trans (V_main_arg3 m c)⟩

end Cert.KernelIdeal.Value
-- ==== Proof.Val.Algebra.lean ====
/-
  The arithmetic the two programs differ by: where the constant is applied, and where the codes are clipped.
-/
module

public import proofs.«01_k».proof.Proof.Val.BlkS
public import Idealize.ShloMosaic.PureOps.IdealRules
public import Idealize.ShloMosaic.PureOps.Ideal.Laws

@[expose] public section

set_option maxRecDepth 16384
set_option maxHeartbeats 1000000

noncomputable section

namespace Cert.KernelIdeal.Hand

open Cert.KernelIdeal Cert.KernelIdeal.Gen
open Idealize.ShloMosaic Idealize.ShloMosaic.ValueIdx

/-! ## The constants -/

theorem cL_eq : cL = ((2 / 5 : ℝ) : EReal) := by
  unfold cL
  rw [IdealRules.named_const.ideal_named_scalar _ _ _ _ rfl]

theorem c25_eq : c25 = ((5 / 2 : ℝ) : EReal) := by
  unfold c25
  simp [Ideal.ofBits, Ideal.ieee, -EReal.coe_mul]; norm_num

theorem ofb_seven : Ideal.ofBits .f32 0x40E00000#32 = ((7 : ℝ) : EReal) := by
  simp [Ideal.ofBits, Ideal.ieee, -EReal.coe_mul]; norm_num

theorem ofb_one : Ideal.ofBits .f32 0x3F800000#32 = ((1 : ℝ) : EReal) := by
  simp [Ideal.ofBits, Ideal.ieee, -EReal.coe_mul]; norm_num

theorem ofb_bot : Ideal.ofBits .f32 0xFF800000#32 = ⊥ := by
  simp [Ideal.ofBits, Ideal.ieee]

/-- The reference's 16 / 40 is the kernel's constant. -/
theorem ratio : Ideal.div (Ideal.ofBits .f32 0x41800000#32) (Ideal.ofBits .f32 0x42200000#32) = cL := by
  rw [cL_eq, show Ideal.ofBits .f32 0x41800000#32 = ((16 : ℝ) : EReal) by simp [Ideal.ofBits, Ideal.ieee, -EReal.coe_mul]; norm_num,
    show Ideal.ofBits .f32 0x42200000#32 = ((40 : ℝ) : EReal) by simp [Ideal.ofBits, Ideal.ieee, -EReal.coe_mul]; norm_num,
    Ideal.div_coe (by norm_num), ← EReal.coe_mul]
  norm_num

theorem cL_nonneg : (0 : EReal) ≤ cL := by rw [cL_eq]; exact_mod_cast (by norm_num : (0 : ℝ) ≤ 2 / 5)
theorem cL_pos : (0 : EReal) < cL := by rw [cL_eq]; exact_mod_cast (by norm_num : (0 : ℝ) < 2 / 5)
theorem cL_ne_top : cL ≠ ⊤ := by rw [cL_eq]; exact EReal.coe_ne_top _

/-! ## The constant on a sum, on a magnitude, on a maximum -/

/-- The reference's sum is the kernel's, times the constant. -/
theorem scale_sum (x y : EReal) : x + cL * y = cL * (c25 * x + y) := by
  rw [EReal.left_distrib_of_nonneg_of_ne_top cL_nonneg cL_ne_top, ← mul_assoc]
  rw [show cL * c25 = 1 by rw [cL_eq, c25_eq, ← EReal.coe_mul]; norm_num, one_mul]

theorem mag_eq (x : EReal) : mag x = max x (-x) := rfl

theorem mag_mul (x : EReal) : mag (cL * x) = mag x * cL := by
  rw [mag_eq, mag_eq, mul_comm (max x (-x)) cL, ← mul_neg]
  have hm : Monotone (fun a : EReal => cL * a) := fun a b h => mul_le_mul_of_nonneg_left h cL_nonneg
  exact hm.map_max.symm

/-- The largest magnitude, times the constant, is the largest of the magnitudes so multiplied. -/
theorem gm_mul_le (e : Env) (g n : Nat) (z : EReal) : gm e g n * cL ≤ z ↔ ∀ r : Fin 128, mag (cL * msumN e (128 * g + r.val) n) ≤ z := by
  rw [← EReal.le_div_iff_mul_le cL_pos cL_ne_top]
  unfold gm
  rw [iSup_le_iff]
  refine forall_congr' fun r => ?_
  rw [EReal.le_div_iff_mul_le cL_pos cL_ne_top, mag_mul]

/-! ## The scale -/

theorem scl_ne (x : EReal) : sclOf x ≠ 0 := by
  unfold sclOf Scalar.select
  generalize x * cL = a
  split
  · rw [ofb_one, EReal.coe_one]; exact one_ne_zero
  · rename_i h
    rw [ofb_seven, Ideal.div_coe (by norm_num)]
    intro h0
    rcases mul_eq_zero.1 h0 with h1 | h1
    · apply h
      rw [Ideal.cmpf_def, ofb0, h1]
      simp [Ideal.cmp]
    · have : (1 / 7 : ℝ) = 0 := by exact_mod_cast h1
      norm_num at this

/-- The kernel multiplies by the constant over the scale where the reference divides the product by the scale. -/
theorem quot (x s : EReal) (hs : s ≠ 0) : x * Ideal.div cL s = Ideal.div (cL * x) s := by
  unfold Ideal.div
  rw [if_neg hs, if_neg hs, ← mul_assoc, mul_comm x cL]

/-! ## Rounding and clipping -/

theorem coe_min' (a b : ℝ) : ((min a b : ℝ) : EReal) = min (a : EReal) (b : EReal) := EReal.coe_strictMono.monotone.map_min
theorem coe_max' (a b : ℝ) : ((max a b : ℝ) : EReal) = max (a : EReal) (b : EReal) := EReal.coe_strictMono.monotone.map_max

theorem rhe_ge (r : ℝ) (n : ℤ) (h : (n : ℝ) ≤ r) : n ≤ Ideal.roundHalfEven r := by
  have := Int.le_floor.2 h
  unfold Ideal.roundHalfEven
  dsimp only
  split_ifs <;> omega

theorem rhe_le (r : ℝ) (n : ℤ) (h : r ≤ (n : ℝ)) : Ideal.roundHalfEven r ≤ n := by
  have h1 := Int.floor_le r
  have h2 : ⌊r⌋ ≤ n := by exact_mod_cast h1.trans h
  by_cases hn : ⌊r⌋ = n
  · have : r - (⌊r⌋ : ℝ) < 1 / 2 := by rw [hn]; linarith
    unfold Ideal.roundHalfEven
    dsimp only
    rw [if_pos this, hn]
  · unfold Ideal.roundHalfEven
    dsimp only
    split_ifs <;> omega

theorem rhe_int (n : ℤ) : Ideal.roundHalfEven (n : ℝ) = n := le_antisymm (rhe_le _ _ le_rfl) (rhe_ge _ _ le_rfl)

theorem sf7 : Scalar.sitofp (F := Ideal) .f32 (7#32 : BitVec 32) = ((7 : ℝ) : EReal) := by
  rw [Ideal.scalar_sitofp_def, show (7#32 : BitVec 32).toInt = 7 by decide]; norm_num
theorem sfm7 : Scalar.sitofp (F := Ideal) .f32 (4294967289#32 : BitVec 32) = ((-7 : ℝ) : EReal) := by
  rw [Ideal.scalar_sitofp_def, show (4294967289#32 : BitVec 32).toInt = -7 by decide]; norm_num

/-- Clipping then rounding, and rounding then clipping, give the same integer of [-7, 7]. -/
theorem clip_round (y : EReal) : ∃ k : ℤ, -7 ≤ k ∧ k ≤ 7 ∧
    Ideal.liftRound Ideal.roundHalfEven (min ((7 : ℝ) : EReal) (max ((-7 : ℝ) : EReal) y)) = ((k : ℝ) : EReal) ∧
    min ((7 : ℝ) : EReal) (max ((-7 : ℝ) : EReal) (Ideal.liftRound Ideal.roundHalfEven y)) = ((k : ℝ) : EReal) := by
  have h7 : (((7 : ℤ) : ℝ)) = 7 := by norm_num
  have hm7 : (((-7 : ℤ) : ℝ)) = -7 := by norm_num
  induction y using EReal.rec with
  | bot =>
    refine ⟨-7, by norm_num, by norm_num, ?_, ?_⟩
    · rw [max_eq_left bot_le, min_eq_right (by exact_mod_cast (by norm_num : (-7 : ℝ) ≤ 7)), Ideal.liftRound_coe, ← hm7, rhe_int]
    · rw [Ideal.liftRound_bot, max_eq_left bot_le, min_eq_right (by exact_mod_cast (by norm_num : (-7 : ℝ) ≤ 7)), hm7]
  | top =>
    refine ⟨7, by norm_num, by norm_num, ?_, ?_⟩
    · rw [max_eq_right le_top, min_eq_left le_top, Ideal.liftRound_coe, ← h7, rhe_int]
    · rw [Ideal.liftRound_top, max_eq_right le_top, min_eq_left le_top, h7]
  | coe r =>
    have e1 : min ((7 : ℝ) : EReal) (max ((-7 : ℝ) : EReal) (r : EReal)) = ((min 7 (max (-7) r) : ℝ) : EReal) := by
      rw [coe_min', coe_max']
    have e2 : min ((7 : ℝ) : EReal) (max ((-7 : ℝ) : EReal) ((Ideal.roundHalfEven r : ℝ) : EReal))
        = ((((min 7 (max (-7) (Ideal.roundHalfEven r)) : ℤ) : ℝ)) : EReal) := by
      rw [Int.cast_min, Int.cast_max, h7, hm7, coe_min', coe_max']
    refine ⟨min 7 (max (-7) (Ideal.roundHalfEven r)), by omega, by omega, ?_, ?_⟩
    · rw [e1, Ideal.liftRound_coe]
      refine congrArg (fun k : ℤ => ((k : ℝ) : EReal)) ?_
      rcases le_total r (-7) with h | h
      · have := rhe_le r (-7) (by rw [hm7]; exact h)
        rw [max_eq_left h, min_eq_right (by norm_num), ← hm7, rhe_int]
        omega
      · rcases le_total 7 r with h' | h'
        · have := rhe_ge r 7 (by rw [h7]; exact h')
          rw [max_eq_right h, min_eq_left h', ← h7, rhe_int]
          omega
        · have a := rhe_ge r (-7) (by rw [hm7]; exact h)
          have b := rhe_le r 7 (by rw [h7]; exact h')
          rw [max_eq_right h, min_eq_right h']
          omega
    · rw [Ideal.liftRound_coe, e2]

theorem fptosi_int (w : Nat) (k : ℤ) (h1 : -7 ≤ k) (h2 : k ≤ 7) (hw : (8 : ℤ) ≤ ((2 ^ (w - 1) : Nat) : ℤ)) :
    Ideal.fptosi w ((k : ℝ) : EReal) = BitVec.ofInt w k := by
  have : Ideal.toIntClamped (-((2 ^ (w - 1) : Nat) : ℤ)) (((2 ^ (w - 1) : Nat) : ℤ) - 1) ((k : ℝ) : EReal) = k := by
    show max _ (min _ (if (0 : ℝ) ≤ (k : ℝ) then ⌊(k : ℝ)⌋ else ⌈(k : ℝ)⌉)) = k
    rw [Int.floor_intCast, Int.ceil_intCast, ite_self]
    omega
  unfold Ideal.fptosi
  rw [this]

/-- The code of the reference: rounded, clipped, as a 32-bit integer. -/
def rcode (y : EReal) : BitVec 32 :=
  Ideal.fptosi 32 (min (Scalar.sitofp (F := Ideal) .f32 (7#32 : BitVec 32)) (max (Scalar.sitofp (F := Ideal) .f32 (4294967289#32 : BitVec 32))
    (Ideal.liftRound Ideal.roundHalfEven y)))

theorem ext4 : ∀ k : Fin 15, (BitVec.ofInt 4 ((k.val : ℤ) - 7)).signExtend 32 = BitVec.ofInt 32 ((k.val : ℤ) - 7) := by decide

/-- The kernel's 4-bit code is the reference's code. -/
theorem code_eq (x i y : EReal) (h : x * i = y) : (qcode x i).signExtend 32 = rcode y := by
  subst h
  unfold qcode rcode
  rw [sf7, sfm7]
  obtain ⟨k, h1, h2, e1, e2⟩ := clip_round (x * i)
  rw [e1, e2, fptosi_int 4 k h1 h2 (by norm_num), fptosi_int 32 k h1 h2 (by norm_num)]
  have := ext4 ⟨(k + 7).toNat, by omega⟩
  have hk : (((k + 7).toNat : ℕ) : ℤ) - 7 = k := by omega
  rw [hk] at this
  exact this

/-- A byte of two codes, as the reference packs it. -/
theorem pk_eq (lo hi : BitVec 4) (a b : BitVec 32) (ha : lo.signExtend 32 = a) (hb : hi.signExtend 32 = b) :
    pk lo hi = (IntOp.ori (IntOp.shli .host (IntOp.andi b 15#32) 4#32) (IntOp.andi a 15#32)).setWidth 8 := by
  subst ha hb
  unfold pk
  congr 1
  show _ ||| _ = _ ||| _
  rw [BitVec.or_comm]
  rfl

/-! ## The nibbles -/

theorem nib_lo : ∀ w : BitVec 8, (nibOf w false).toInt
    = (Scalar.select (IntOp.cmpi .sge (IntOp.andi (w.setWidth 32) 15#32) 8#32) (IntOp.subi (IntOp.andi (w.setWidth 32) 15#32) 16#32)
        (IntOp.andi (w.setWidth 32) 15#32)).toInt := by decide +kernel

theorem nib_hi : ∀ w : BitVec 8, (nibOf w true).toInt
    = (Scalar.select (IntOp.cmpi .sge (IntOp.shrsi .host (w.setWidth 32) 4#32) 8#32) (IntOp.subi (IntOp.shrsi .host (w.setWidth 32) 4#32) 16#32)
        (IntOp.shrsi .host (w.setWidth 32) 4#32)).toInt := by decide +kernel

end Cert.KernelIdeal.Hand

end
-- ==== Proof.Val.Ref.lean ====
/-
  The reference read at one element: its sums, its scales and its codes.
-/
module

public import proofs.«01_k».proof.Proof.Val.Algebra
public import proofs.«01_k».proof.Proof.Gen.ReferenceIdeal.Read
public import Idealize.ShloMosaic.Lib.Pointwise.Reduce

@[expose] public section

set_option maxRecDepth 16384
set_option maxHeartbeats 1000000

noncomputable section

namespace Cert.ReferenceIdeal.Hand

open Cert.ReferenceIdeal Cert.ReferenceIdeal.Gen Cert.ReferenceIdeal.Read
open Cert.KernelIdeal.Hand
open Idealize.ShloMosaic hiding ix1 ix2 ix3 ix4 ix5
open Idealize.ShloMosaic.ValueIdx

variable (x0 : S56x1792x768.Idx → BitVec 8) (x1 : S56x1792x12.Idx → EReal) (x2 : S56x40x1536.Idx → EReal) (x3 : S56x1792x40.Idx → EReal)

/-- Batch `b`'s arrays. -/
def Eof (b : Nat) : Env where
  W x := x0 (ix3 ⟨b % 56, Nat.mod_lt _ (by decide)⟩ (x 1) (x 2))
  S g n := x1 (ix3 ⟨b % 56, Nat.mod_lt _ (by decide)⟩ ⟨n % 1792, Nat.mod_lt _ (by decide)⟩ ⟨g % 12, Nat.mod_lt _ (by decide)⟩)
  Av k d := x2 (ix3 ⟨b % 56, Nat.mod_lt _ (by decide)⟩ k ⟨d % 1536, Nat.mod_lt _ (by decide)⟩)
  Bv k n := x3 (ix3 ⟨b % 56, Nat.mod_lt _ (by decide)⟩ ⟨n % 1792, Nat.mod_lt _ (by decide)⟩ k)

/-! ## Places -/

theorem at8 (b : Fin 56) (n : Fin 1792) (g : Fin 12) (j : Fin 64) : idx_main_v8 (ix4 b n g j) = ix3 b n ⟨64 * g.val + j.val, by omega⟩ := by
  funext a; apply Fin.ext
  have hb := b.isLt; have hn := n.isLt; have hg := g.isLt; have hj := j.isLt
  match a with
  | ⟨0, _⟩ => show (((b.val * 1792 + n.val) * 12 + g.val) * 64 + j.val) / 1376256 = b.val; omega
  | ⟨1, _⟩ => show (((b.val * 1792 + n.val) * 12 + g.val) * 64 + j.val) / 768 % 1792 = n.val; omega
  | ⟨2, _⟩ => show (((b.val * 1792 + n.val) * 12 + g.val) * 64 + j.val) % 768 = 64 * g.val + j.val; omega

theorem at16 (b : Fin 56) (n : Fin 1792) (g : Fin 12) (j : Fin 64) : idx_main_v16 (ix4 b n g j) = ix3 b n ⟨64 * g.val + j.val, by omega⟩ := at8 b n g j

theorem at24 (b : Fin 56) (k : Fin 40) (g : Fin 12) (j : Fin 64) (p : Fin 2) :
    idx_main_v24 (ix5 b k g j p) = ix3 b k ⟨128 * g.val + 2 * j.val + p.val, by omega⟩ := by
  funext a; apply Fin.ext
  have hb := b.isLt; have hn := k.isLt; have hg := g.isLt; have hj := j.isLt; have hp := p.isLt
  match a with
  | ⟨0, _⟩ => show ((((b.val * 40 + k.val) * 12 + g.val) * 64 + j.val) * 2 + p.val) / 61440 = b.val; omega
  | ⟨1, _⟩ => show ((((b.val * 40 + k.val) * 12 + g.val) * 64 + j.val) * 2 + p.val) / 1536 % 40 = k.val; omega
  | ⟨2, _⟩ => show ((((b.val * 40 + k.val) * 12 + g.val) * 64 + j.val) * 2 + p.val) % 1536 = 128 * g.val + 2 * j.val + p.val; omega

theorem at26 (b : Fin 56) (k : Fin 40) (g : Fin 12) (j : Fin 64) : idx_main_v26 (ix4 b k g j) = ix5 b k g j 0 := by
  funext a; apply Fin.ext
  have hb := b.isLt; have hn := k.isLt; have hg := g.isLt; have hj := j.isLt
  match a with
  | ⟨0, _⟩ => show (((b.val * 40 + k.val) * 12 + g.val) * 64 + j.val) / 30720 = b.val; omega
  | ⟨1, _⟩ => show (((b.val * 40 + k.val) * 12 + g.val) * 64 + j.val) / 768 % 40 = k.val; omega
  | ⟨2, _⟩ => show (((b.val * 40 + k.val) * 12 + g.val) * 64 + j.val) / 64 % 12 = g.val; omega
  | ⟨3, _⟩ => show (((b.val * 40 + k.val) * 12 + g.val) * 64 + j.val) / 1 % 64 = j.val; omega
  | ⟨4, _⟩ => rfl

theorem at29 (b : Fin 56) (k : Fin 40) (g : Fin 12) (j : Fin 64) : idx_main_v29 (ix4 b k g j) = ix5 b k g j 0 := at26 b k g j

theorem at25 (b : Fin 56) (k : Fin 40) (g : Fin 12) (j : Fin 64) : idx_main_v25 (ix5 b k g j 0) = ix5 b k g j 0 := by
  funext a; match a with
  | ⟨0, _⟩ => rfl
  | ⟨1, _⟩ => rfl
  | ⟨2, _⟩ => rfl
  | ⟨3, _⟩ => rfl
  | ⟨4, _⟩ => rfl

theorem at28 (b : Fin 56) (k : Fin 40) (g : Fin 12) (j : Fin 64) : idx_main_v28 (ix5 b k g j 0) = ix5 b k g j 1 := by
  funext a; match a with
  | ⟨0, _⟩ => rfl
  | ⟨1, _⟩ => rfl
  | ⟨2, _⟩ => rfl
  | ⟨3, _⟩ => rfl
  | ⟨4, _⟩ => rfl

theorem at27l (b : Fin 56) (n : Fin 1792) (g : Fin 12) (j : Fin 64) (k : Fin 40) : lidx_main_v27 (ix4 b n g j) k = ix3 b n k := by
  funext a; match a with
  | ⟨0, _⟩ => rfl
  | ⟨1, _⟩ => rfl
  | ⟨2, _⟩ => rfl

theorem at27r (b : Fin 56) (n : Fin 1792) (g : Fin 12) (j : Fin 64) (k : Fin 40) : ridx_main_v27 (ix4 b n g j) k = ix4 b k g j := by
  funext a; match a with
  | ⟨0, _⟩ => rfl
  | ⟨1, _⟩ => rfl
  | ⟨2, _⟩ => rfl
  | ⟨3, _⟩ => rfl

theorem at19 (b : Fin 56) (n : Fin 1792) (g : Fin 12) (j : Fin 64) : idx_main_v17 (idx_main_v19 (ix4 b n g j)) = ix3 b n g := by
  funext a; match a with
  | ⟨0, _⟩ => rfl
  | ⟨1, _⟩ => rfl
  | ⟨2, _⟩ => rfl

theorem at53 (b : Fin 56) (n : Fin 1792) (g : Fin 12) (j : Fin 64) : idx_main_v52 (idx_main_v53 (ix4 b n g j)) = ix3 b n g := by
  funext a; match a with
  | ⟨0, _⟩ => rfl
  | ⟨1, _⟩ => rfl
  | ⟨2, _⟩ => rfl

theorem at72 (g : Fin 12) (b : Fin 56) (n : Fin 1792) : idx_main_v72 (ix3 g b n) = ix3 b n g := by
  funext a; match a with
  | ⟨0, _⟩ => rfl
  | ⟨1, _⟩ => rfl
  | ⟨2, _⟩ => rfl

theorem at71 (b : Fin 56) (n : Fin 1792) (k : Fin 768) : idx_main_v71 (ix3 b n k) = ix4 b n ⟨k.val / 64, by omega⟩ ⟨k.val % 64, Nat.mod_lt _ (by decide)⟩ := by
  funext a; apply Fin.ext
  have h0 := b.isLt; have h1 := n.isLt; have h2 := k.isLt
  match a with
  | ⟨0, _⟩ => show ((b.val * 1792 + n.val) * 768 + k.val) / 1376256 = b.val; omega
  | ⟨1, _⟩ => show ((b.val * 1792 + n.val) * 768 + k.val) / 768 % 1792 = n.val; omega
  | ⟨2, _⟩ => show ((b.val * 1792 + n.val) * 768 + k.val) / 64 % 12 = k.val / 64; omega
  | ⟨3, _⟩ => show ((b.val * 1792 + n.val) * 768 + k.val) % 64 = k.val % 64; omega

/-! ## The kernel's sum at the reference's place -/

theorem msum_at (b : Fin 56) (n : Fin 1792) (g : Fin 12) (j : Fin 64) (p : Fin 2) :
    msumN (Eof x0 x1 x2 x3 b.val) (128 * g.val + 2 * j.val + p.val) n.val
      = c25 * ((((nibOf (x0 (ix3 b n ⟨64 * g.val + j.val, by omega⟩)) (p.val == 1)).toInt : ℝ) : EReal) * x1 (ix3 b n g))
        + ∑ k : Fin 40, x2 (ix3 b k ⟨128 * g.val + 2 * j.val + p.val, by omega⟩) * x3 (ix3 b n k) := by
  have hb := b.isLt; have hn := n.isLt; have hg := g.isLt; have hj := j.isLt; have hp := p.isLt
  have eb : (⟨b.val % 56, Nat.mod_lt _ (by decide)⟩ : Fin 56) = b := Fin.ext (Nat.mod_eq_of_lt hb)
  have en : (⟨n.val % 1792, Nat.mod_lt _ (by decide)⟩ : Fin 1792) = n := Fin.ext (Nat.mod_eq_of_lt hn)
  have eg : (⟨(128 * g.val + 2 * j.val + p.val) / 128 % 12, Nat.mod_lt _ (by decide)⟩ : Fin 12) = g := Fin.ext (by show (128 * g.val + 2 * j.val + p.val) / 128 % 12 = g.val; omega)
  have ed : (⟨(128 * g.val + 2 * j.val + p.val) % 1536, Nat.mod_lt _ (by decide)⟩ : Fin 1536) = ⟨128 * g.val + 2 * j.val + p.val, by omega⟩ := Fin.ext (by show (128 * g.val + 2 * j.val + p.val) % 1536 = 128 * g.val + 2 * j.val + p.val; omega)
  have ek : (⟨(128 * g.val + 2 * j.val + p.val) / 2, by omega⟩ : Fin 768) = ⟨64 * g.val + j.val, by omega⟩ := Fin.ext (by show (128 * g.val + 2 * j.val + p.val) / 2 = 64 * g.val + j.val; omega)
  have ep : ((128 * g.val + 2 * j.val + p.val) % 2 == 1) = (p.val == 1) := by rw [show (128 * g.val + 2 * j.val + p.val) % 2 = p.val by omega]
  rw [msumN_mk _ _ _ (by omega) hn]
  unfold msum
  refine congrArg₂ (· + ·) (congrArg (c25 * ·) (congrArg₂ (· * ·) ?_ ?_)) (Finset.sum_congr rfl fun k _ => congrArg₂ (· * ·) ?_ ?_)
  · refine congrArg (fun q : BitVec 4 => ((q.toInt : ℝ) : EReal)) ?_
    show nibOf (x0 (ix3 ⟨b.val % 56, _⟩ n ⟨(128 * g.val + 2 * j.val + p.val) / 2, _⟩)) ((128 * g.val + 2 * j.val + p.val) % 2 == 1) = _
    rw [eb, ek, ep]
  · show x1 (ix3 ⟨b.val % 56, _⟩ ⟨n.val % 1792, _⟩ ⟨(128 * g.val + 2 * j.val + p.val) / 128 % 12, _⟩) = _
    rw [eb, en, eg]
  · show x2 (ix3 ⟨b.val % 56, _⟩ k ⟨(128 * g.val + 2 * j.val + p.val) % 1536, _⟩) = _
    rw [eb, ed]
  · show x3 (ix3 ⟨b.val % 56, _⟩ ⟨n.val % 1792, _⟩ k) = _
    rw [eb, en]

/-! ## The reference's sums -/

theorem cst31 (i : S_.Idx) : val_main_v31 (F := Ideal) i = cL := ratio

theorem sum_lo (b : Fin 56) (n : Fin 1792) (g : Fin 12) (j : Fin 64) :
    val_main_v35 (F := Ideal) x0 x1 x2 x3 (ix4 b n g j) = cL * msumN (Eof x0 x1 x2 x3 b.val) (128 * g.val + 2 * j.val + (0 : Fin 2).val) n.val := by
  rw [msum_at, ← scale_sum, val_main_v35_apply, val_main_v32_apply, val_main_v20_apply, val_main_v18_apply, val_main_v19_apply, val_main_v17_apply, at19,
    val_main_v8_apply, at8, val_main_v34_apply, val_main_v33_apply, cst31, val_main_v27_apply]
  refine congrArg₂ (· + ·) (congrArg₂ (· * ·) ?_ rfl) (congrArg (cL * ·) (Finset.sum_congr rfl fun k _ => ?_))
  · rw [val_main_v7_apply, val_main_v4_apply, val_main_v6_apply, val_main_v2_apply, val_main_v3_apply, val_main_v5_apply, val_main_v1_apply, val_main_v0_apply]
    exact (congrArg (fun q : Int => ((q : ℝ) : EReal)) (nib_lo _)).symm
  · rw [at27l, at27r, val_main_v26_apply, at26, val_main_v25_apply, at25, val_main_v24_apply, at24, mul_comm]

theorem sum_hi (b : Fin 56) (n : Fin 1792) (g : Fin 12) (j : Fin 64) :
    val_main_v39 (F := Ideal) x0 x1 x2 x3 (ix4 b n g j) = cL * msumN (Eof x0 x1 x2 x3 b.val) (128 * g.val + 2 * j.val + (1 : Fin 2).val) n.val := by
  rw [msum_at, ← scale_sum, val_main_v39_apply, val_main_v36_apply, val_main_v23_apply, val_main_v21_apply, val_main_v22_apply, val_main_v17_apply,
    show idx_main_v17 (idx_main_v22 (ix4 b n g j)) = ix3 b n g from at19 b n g j,
    val_main_v16_apply, at16, val_main_v38_apply, val_main_v37_apply, cst31, val_main_v30_apply]
  refine congrArg₂ (· + ·) (congrArg₂ (· * ·) ?_ rfl) (congrArg (cL * ·) (Finset.sum_congr rfl fun k _ => ?_))
  · rw [val_main_v15_apply, val_main_v12_apply, val_main_v14_apply, val_main_v10_apply, val_main_v11_apply, val_main_v13_apply, val_main_v9_apply, val_main_v0_apply]
    exact (congrArg (fun q : Int => ((q : ℝ) : EReal)) (nib_hi _)).symm
  · rw [show lidx_main_v30 (ix4 b n g j) k = ix3 b n k from at27l b n g j k, show ridx_main_v30 (ix4 b n g j) k = ix4 b k g j from at27r b n g j k,
      val_main_v29_apply, at29, val_main_v28_apply, at28, val_main_v24_apply, at24, mul_comm]

/-! ## The reference's largest magnitude -/

theorem red_le (x : S56x1792x12x64.Idx → EReal) (init : S_.Idx → EReal) (hi : ∀ i, init i = ⊥) (b : Fin 56) (n : Fin 1792) (g : Fin 12) (z : EReal) :
    Host.reduce (FloatOps.maximumf (F := Ideal) (φ := .f32)) x init reducesTo_S56x1792x12x64_S56x1792x12_d3 h_S_ (ix3 b n g) ≤ z
      ↔ ∀ j : Fin 64, x (ix4 b n g j) ≤ z := by
  have e : Host.reduce (FloatOps.maximumf (F := Ideal) (φ := .f32)) x init reducesTo_S56x1792x12x64_S56x1792x12_d3 h_S_ (ix3 b n g)
      = (Finset.univ : Finset (Fin 64)).fold (max : EReal → EReal → EReal) ⊥ (fun j => x (ix4 b n g j)) := by
    have h := Host.reduce_eq_fold (max : EReal → EReal → EReal) x init reducesTo_S56x1792x12x64_S56x1792x12_d3 h_S_ (ix3 b n g)
    rw [Shape.ReducesTo.fold_fiber_r4_a3, hi] at h
    exact h
  rw [e, Finset.fold_max_le]
  simp

theorem mx (b : Fin 56) (n : Fin 1792) (g : Fin 12) :
    val_main_v44 (F := Ideal) x0 x1 x2 x3 (ix3 b n g) = gm (Eof x0 x1 x2 x3 b.val) g.val n.val * cL := by
  refine eq_of_forall_ge_iff fun z => ?_
  rw [gm_mul_le, val_main_v44_apply]
  have e : FloatOps.maximumf (F := Ideal) (φ := .f32) (val_main_v41 (F := Ideal) x0 x1 x2 x3 (ix3 b n g)) (val_main_v43 (F := Ideal) x0 x1 x2 x3 (ix3 b n g)) ≤ z
      ↔ val_main_v41 (F := Ideal) x0 x1 x2 x3 (ix3 b n g) ≤ z ∧ val_main_v43 (F := Ideal) x0 x1 x2 x3 (ix3 b n g) ≤ z := max_le_iff
  refine e.trans ?_
  unfold val_main_v41 val_main_v43
  rw [red_le _ (val_main_cst_6 (F := Ideal)) (fun _ => ofb_bot), red_le _ (val_main_cst_7 (F := Ideal)) (fun _ => ofb_bot)]
  have lo : ∀ j : Fin 64, val_main_v40 (F := Ideal) x0 x1 x2 x3 (ix4 b n g j) = mag (cL * msumN (Eof x0 x1 x2 x3 b.val) (128 * g.val + 2 * j.val + (0 : Fin 2).val) n.val) := fun j => by
    rw [val_main_v40_apply, sum_lo]; rfl
  have hi : ∀ j : Fin 64, val_main_v42 (F := Ideal) x0 x1 x2 x3 (ix4 b n g j) = mag (cL * msumN (Eof x0 x1 x2 x3 b.val) (128 * g.val + 2 * j.val + (1 : Fin 2).val) n.val) := fun j => by
    rw [val_main_v42_apply, sum_hi]; rfl
  simp only [lo, hi]
  constructor
  · rintro ⟨h0, h1⟩ r
    rcases Nat.mod_two_eq_zero_or_one r.val with h | h
    · have := h0 ⟨r.val / 2, by omega⟩
      rwa [show 128 * g.val + 2 * (r.val / 2) + (0 : Fin 2).val = 128 * g.val + r.val by show 128 * g.val + 2 * (r.val / 2) + 0 = _; omega] at this
    · have := h1 ⟨r.val / 2, by omega⟩
      rwa [show 128 * g.val + 2 * (r.val / 2) + (1 : Fin 2).val = 128 * g.val + r.val by show 128 * g.val + 2 * (r.val / 2) + 1 = _; omega] at this
  · intro H
    constructor
    · intro j
      have := H ⟨2 * j.val, by omega⟩
      exact this
    · intro j
      have := H ⟨2 * j.val + 1, by omega⟩
      exact this

/-! ## The reference's scale and codes -/

theorem scl (b : Fin 56) (n : Fin 1792) (g : Fin 12) :
    val_main_v50 (F := Ideal) x0 x1 x2 x3 (ix3 b n g) = sclOf (gm (Eof x0 x1 x2 x3 b.val) g.val n.val) := by
  rw [val_main_v50_apply, val_main_v49_apply, val_main_v46_apply, val_main_v48_apply, mx, val_main_v45_apply, val_main_v47_apply, val_main_call2_v1_apply]
  rfl

theorem code_lo (b : Fin 56) (n : Fin 1792) (g : Fin 12) (j : Fin 64) :
    val_main_v57 (F := Ideal) x0 x1 x2 x3 (ix4 b n g j)
      = rcode (Ideal.div (cL * msumN (Eof x0 x1 x2 x3 b.val) (128 * g.val + 2 * j.val + (0 : Fin 2).val) n.val) (sclOf (gm (Eof x0 x1 x2 x3 b.val) g.val n.val))) := by
  rw [val_main_v57_apply, val_main_v56_apply, val_main_call4_v2_apply, val_main_call4_v4_apply, val_main_call4_v1_apply, val_main_v55_apply, val_main_v54_apply,
    sum_lo, val_main_v53_apply, val_main_v52_apply, at53, val_main_v51_apply, scl]
  rfl

theorem code_hi (b : Fin 56) (n : Fin 1792) (g : Fin 12) (j : Fin 64) :
    val_main_v62 (F := Ideal) x0 x1 x2 x3 (ix4 b n g j)
      = rcode (Ideal.div (cL * msumN (Eof x0 x1 x2 x3 b.val) (128 * g.val + 2 * j.val + (1 : Fin 2).val) n.val) (sclOf (gm (Eof x0 x1 x2 x3 b.val) g.val n.val))) := by
  rw [val_main_v62_apply, val_main_v61_apply, val_main_call6_v2_apply, val_main_call6_v4_apply, val_main_call6_v1_apply, val_main_v60_apply, val_main_v59_apply,
    sum_hi, val_main_v58_apply, val_main_v52_apply, show idx_main_v52 (idx_main_v58 (ix4 b n g j)) = ix3 b n g from at53 b n g j, val_main_v51_apply, scl]
  rfl

/-! ## The two results -/

/-- The reference's scales. -/
theorem res72 (g : Fin 12) (b : Fin 56) (n : Fin 1792) :
    val_main_v72 (F := Ideal) x0 x1 x2 x3 (ix3 g b n) = sclOf (gm (Eof x0 x1 x2 x3 b.val) g.val n.val) := by
  rw [val_main_v72_apply, at72, scl]

/-- A byte of the reference's codes. -/
theorem byte_at (b : Fin 56) (n : Fin 1792) (g : Fin 12) (j : Fin 64) :
    val_main_v70 (F := Ideal) x0 x1 x2 x3 (ix4 b n g j)
      = pk (qcode (msumN (Eof x0 x1 x2 x3 b.val) (128 * g.val + 2 * j.val + (0 : Fin 2).val) n.val) (Ideal.div cL (sclOf (gm (Eof x0 x1 x2 x3 b.val) g.val n.val))))
          (qcode (msumN (Eof x0 x1 x2 x3 b.val) (128 * g.val + 2 * j.val + (1 : Fin 2).val) n.val) (Ideal.div cL (sclOf (gm (Eof x0 x1 x2 x3 b.val) g.val n.val)))) := by
  rw [val_main_v70_apply, val_main_v69_apply, val_main_v66_apply, val_main_v68_apply, val_main_v64_apply,
    val_main_v63_apply, val_main_v65_apply, val_main_v67_apply, code_lo, code_hi]
  exact (pk_eq _ _ _ _ (code_eq _ _ _ (quot _ _ (scl_ne _))) (code_eq _ _ _ (quot _ _ (scl_ne _)))).symm

/-- The reference's packed codes. -/
theorem res71 (b : Fin 56) (n : Fin 1792) (k : Fin 768) :
    val_main_v71 (F := Ideal) x0 x1 x2 x3 (ix3 b n k)
      = pk (qcode (msumN (Eof x0 x1 x2 x3 b.val) (2 * k.val) n.val) (Ideal.div cL (sclOf (gm (Eof x0 x1 x2 x3 b.val) (k.val / 64) n.val))))
          (qcode (msumN (Eof x0 x1 x2 x3 b.val) (2 * k.val + 1) n.val) (Ideal.div cL (sclOf (gm (Eof x0 x1 x2 x3 b.val) (k.val / 64) n.val)))) := by
  rw [val_main_v71_apply, at71, byte_at]
  rw [show 128 * (⟨k.val / 64, by omega⟩ : Fin 12).val + 2 * (⟨k.val % 64, Nat.mod_lt _ (by decide)⟩ : Fin 64).val + (0 : Fin 2).val = 2 * k.val by
      show 128 * (k.val / 64) + 2 * (k.val % 64) + 0 = _; omega,
    show 128 * (⟨k.val / 64, by omega⟩ : Fin 12).val + 2 * (⟨k.val % 64, Nat.mod_lt _ (by decide)⟩ : Fin 64).val + (1 : Fin 2).val = 2 * k.val + 1 by
      show 128 * (k.val / 64) + 2 * (k.val % 64) + 1 = _; omega]

end Cert.ReferenceIdeal.Hand

end
-- ==== Proof.Val.Equal.lean ====
/-
  The reference's two results are the kernel's.
-/
module

public import proofs.«01_k».proof.Proof.Val.Ref
public import proofs.«01_k».proof.Proof.Val.Value

@[expose] public section

set_option maxRecDepth 16384

noncomputable section

namespace Cert.Equal

open Idealize.ShloMosaic Cert.ReferenceIdeal.Read

theorem place {a b c : Nat} (x : (⟨3, ![a, b, c]⟩ : Shape).Idx) : x = ix3 (x 0) (x 1) (x 2) := by
  funext d; fin_cases d <;> rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The codes. -/
theorem codes
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v71 m' c = Cert.KernelIdeal.Value.resQ m c := by
  refine (val_main_v71_eq m' c).trans ?_
  rw [h0, h1, h2, h3]
  funext x
  rw [place x]
  exact Cert.ReferenceIdeal.Hand.res71 _ _ _ _ (x 0) (x 1) (x 2)

/-- The scales. -/
theorem scales
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v72 m' c = Cert.KernelIdeal.Value.resS m c := by
  refine (val_main_v72_eq m' c).trans ?_
  rw [h0, h1, h2, h3]
  funext x
  rw [place x]
  exact Cert.ReferenceIdeal.Hand.res72 _ _ _ _ (x 0) (x 1) (x 2)

end Cert.Equal

end

end
-- ==== Proof.lean ====
/- The proof of the certificate's claims, from the frames of the two printed kernels, the generated run of the
   reference, and the statements of the idealization's rules. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Bits.Frame
public import proofs.«01_k».proof.Proof.Val.Frame
public import proofs.«01_k».proof.Proof.Val.Value
public import proofs.«01_k».proof.Proof.Val.Equal
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem IdealRules.bf16_pair

theorem frame_p : Cert.quiescent_Kernel (hKernel := Cert.Kernel.Gen.facts) :=
  fun m g _ => Cert.Kernel.Hand.frame (F := Bits) m g

theorem frame_pi : Cert.quiescent_KernelIdeal (hKernelIdeal := Cert.KernelIdeal.Gen.facts) :=
  fun m g _ => Cert.KernelIdeal.Hand.frame (F := Ideal) m g

theorem frame_ri : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Each rewrite of the idealization, by its rule's own lemma. -/
theorem preserves : Cert.preserves_Kernel_KernelIdeal :=
  ⟨bufferStatement Cert.KernelIdeal.S96x2x1792 Cert.KernelIdeal.S96x1x1792,
    halfStatement Cert.KernelIdeal.S8x1792,
    statement Cert.KernelIdeal.S8x2x1792 Cert.KernelIdeal.S8x1x1792,
    statement Cert.KernelIdeal.S1x2x256 Cert.KernelIdeal.S1x1x256,
    statement Cert.KernelIdeal.S2x256 Cert.KernelIdeal.S1x256,
    IdealRules.named_const.statement Cert.KernelIdeal.κ "lora_scale" .f32 0x3ECCCCCD#32 ((2 / 5 : ℝ) : EReal) rfl⟩

/-- The kernel's two results are the reference's. -/
theorem algebraic : Cert.algebraic_KernelIdeal_ReferenceIdeal (hKernelIdeal := Cert.KernelIdeal.Gen.facts) (hReferenceIdeal := Cert.ReferenceIdeal.Gen.facts) :=
  fun m g m' g' _ hargs =>
    ⟨fun c => Cert.KernelIdeal.Value.resQ m c, fun c => Cert.KernelIdeal.Value.resS m c, Cert.KernelIdeal.Value.run m g,
      (θ_run Cert.ReferenceIdeal.defs _ _).mono (fun r h c =>
          ⟨(h c).1.trans (Cert.Equal.codes m m' c (hargs c).1 (hargs c).2.1 (hargs c).2.2.1 (hargs c).2.2.2),
            (h c).2.1.trans (Cert.Equal.scales m m' c (hargs c).1 (hargs c).2.1 (hargs c).2.2.1 (hargs c).2.2.2),
            (h c).2.2⟩)
        (Cert.ReferenceIdeal.Value.run (F := Ideal) m' g')⟩

theorem claim : Cert.Claim :=
  ⟨Cert.Kernel.Gen.facts, Cert.KernelIdeal.Gen.facts, Cert.ReferenceIdeal.Gen.facts, frame_p, frame_pi, frame_ri, preserves, algebraic⟩

end Cert.Proof

end
